-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x8192 : Shape := ⟨2, ![512, 8192]⟩
abbrev S2x128x4x64 : Shape := ⟨4, ![2, 128, 4, 64]⟩
abbrev S8192x512 : Shape := ⟨2, ![8192, 512]⟩
abbrev S256x512 : Shape := ⟨2, ![256, 512]⟩
abbrev S512x256 : Shape := ⟨2, ![512, 256]⟩
abbrev S2 : Shape := ⟨1, ![2]⟩
abbrev S32 : Shape := ⟨1, ![32]⟩
abbrev S1 : Shape := ⟨1, ![1]⟩
abbrev S_ : Shape := ⟨0, ![]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S64x512 : Shape := ⟨2, ![64, 512]⟩
abbrev S8x512 : Shape := ⟨2, ![8, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x4x64, .f32⟩
  | .hbm, ⟨3, _⟩ => ⟨S2x128x4x64, .f32⟩
  | .hbm, ⟨4, _⟩ => ⟨S8192x512, .f32⟩
  | .hbm, ⟨5, _⟩ => ⟨S256x512, .bf16⟩
  | .local _ .vmem, ⟨0, _⟩ => ⟨S2x128x512, .f32⟩
  | .local _ .vmem, ⟨1, _⟩ => ⟨S2x128x4x64, .f32⟩
  | .local _ .vmem, ⟨2, _⟩ => ⟨S2x128x4x64, .f32⟩
  | .local _ .vmem, ⟨3, _⟩ => ⟨S256x512, .bf16⟩
  | .local _ .vmem, ⟨4, _⟩ => ⟨S256x512, .bf16⟩
  | .local _ .vmem, ⟨5, _⟩ => ⟨S512x256, .f32⟩
  | .local _ .vmem, ⟨6, _⟩ => ⟨S256x512, .f32⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  v3
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v5 : BitVec 32 := Scalar.muli v2 c256_i32
  v5
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_0 : BitVec 32 := 256#32
  let v7 : BitVec 32 := Scalar.muli v2 c256_i32_0
  v7
def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v5 : BitVec 32 := Scalar.muli v2 c256_i32
  let v6 : BitVec 32 := v5
  ![0, v6.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_0 : BitVec 32 := 256#32
  let v7 : BitVec 32 := Scalar.muli v2 c256_i32_0
  let v8 : BitVec 32 := v7
  let c0_i32_3 : BitVec 32 := 0#32
  ![v8.toNat, 0]
def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v16 : BitVec 32 := Scalar.addi v2 c1_i32_4
  let c32_i32_5 : BitVec 32 := 32#32
  let c0_i32_6 : BitVec 32 := 0#32
  let v17 : BitVec 1 := Scalar.cmpi .eq c32_i32_5 c0_i32_6
  let c1_i32_7 : BitVec 32 := 1#32
  let v18 : BitVec 32 := Scalar.select v17 c1_i32_7 c32_i32_5
  let v19 : BitVec 32 := Scalar.remsi v16 v18
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let c0_i32_8 : BitVec 32 := 0#32
  let v20 : BitVec 1 := Scalar.cmpi .ne v19 c0_i32_8
  let v24 : BitVec 1 := Scalar.andi v23 v20
  let v25 : BitVec 32 := Scalar.addi v19 v18
  let v26 : BitVec 32 := Scalar.select v24 v25 v19
  let c1_i32_12 : BitVec 32 := 1#32
  let v27 : BitVec 32 := Scalar.muli v26 c1_i32_12
  let v28 : BitVec 32 := Scalar.addi c0_i32_13 v27
  v28.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v29 : BitVec 32 := Scalar.addi v2 c2_i32
  let c32_i32_14 : BitVec 32 := 32#32
  let c0_i32_15 : BitVec 32 := 0#32
  let v30 : BitVec 1 := Scalar.cmpi .eq c32_i32_14 c0_i32_15
  let c1_i32_16 : BitVec 32 := 1#32
  let v31 : BitVec 32 := Scalar.select v30 c1_i32_16 c32_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_21 : BitVec 32 := 1#32
  let v40 : BitVec 32 := Scalar.muli v39 c1_i32_21
  let v41 : BitVec 32 := Scalar.addi c0_i32_22 v40
  v41.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v42 : BitVec 32 := Scalar.addi v2 c3_i32
  let c32_i32_23 : BitVec 32 := 32#32
  let c0_i32_24 : BitVec 32 := 0#32
  let v43 : BitVec 1 := Scalar.cmpi .eq c32_i32_23 c0_i32_24
  let c1_i32_25 : BitVec 32 := 1#32
  let v44 : BitVec 32 := Scalar.select v43 c1_i32_25 c32_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c1_i32_30 : BitVec 32 := 1#32
  let v53 : BitVec 32 := Scalar.muli v52 c1_i32_30
  let v54 : BitVec 32 := Scalar.addi c0_i32_31 v53
  v54.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v55 : BitVec 32 := Scalar.addi v2 c4_i32
  let c32_i32_32 : BitVec 32 := 32#32
  let c0_i32_33 : BitVec 32 := 0#32
  let v56 : BitVec 1 := Scalar.cmpi .eq c32_i32_32 c0_i32_33
  let c1_i32_34 : BitVec 32 := 1#32
  let v57 : BitVec 32 := Scalar.select v56 c1_i32_34 c32_i32_32
  let v58 : BitVec 32 := Scalar.remsi v55 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  let c1_i32_39 : BitVec 32 := 1#32
  let v66 : BitVec 32 := Scalar.muli v65 c1_i32_39
  let v67 : BitVec 32 := Scalar.addi c0_i32_40 v66
  v67.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v68 : BitVec 32 := Scalar.addi v2 c5_i32
  let c32_i32_41 : BitVec 32 := 32#32
  let c0_i32_42 : BitVec 32 := 0#32
  let v69 : BitVec 1 := Scalar.cmpi .eq c32_i32_41 c0_i32_42
  let c1_i32_43 : BitVec 32 := 1#32
  let v70 : BitVec 32 := Scalar.select v69 c1_i32_43 c32_i32_41
  let v71 : BitVec 32 := Scalar.remsi v68 v70
  let c0_i32_45 : BitVec 32 := 0#32
  let v73 : BitVec 1 := Scalar.cmpi .slt v71 c0_i32_45
  let c0_i32_46 : BitVec 32 := 0#32
  let v74 : BitVec 1 := Scalar.cmpi .slt v70 c0_i32_46
  let v75 : BitVec 1 := Scalar.xori v73 v74
  let c0_i32_44 : BitVec 32 := 0#32
  let v72 : BitVec 1 := Scalar.cmpi .ne v71 c0_i32_44
  let v76 : BitVec 1 := Scalar.andi v75 v72
  let v77 : BitVec 32 := Scalar.addi v71 v70
  let v78 : BitVec 32 := Scalar.select v76 v77 v71
  let c1_i32_48 : BitVec 32 := 1#32
  let v79 : BitVec 32 := Scalar.muli v78 c1_i32_48
  let v80 : BitVec 32 := Scalar.addi c0_i32_49 v79
  v80.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v81 : BitVec 32 := Scalar.addi v2 c6_i32
  let c32_i32_50 : BitVec 32 := 32#32
  let c0_i32_51 : BitVec 32 := 0#32
  let v82 : BitVec 1 := Scalar.cmpi .eq c32_i32_50 c0_i32_51
  let c1_i32_52 : BitVec 32 := 1#32
  let v83 : BitVec 32 := Scalar.select v82 c1_i32_52 c32_i32_50
  let v84 : BitVec 32 := Scalar.remsi v81 v83
  let c0_i32_54 : BitVec 32 := 0#32
  let v86 : BitVec 1 := Scalar.cmpi .slt v84 c0_i32_54
  let c0_i32_55 : BitVec 32 := 0#32
  let v87 : BitVec 1 := Scalar.cmpi .slt v83 c0_i32_55
  let v88 : BitVec 1 := Scalar.xori v86 v87
  let c0_i32_53 : BitVec 32 := 0#32
  let v85 : BitVec 1 := Scalar.cmpi .ne v84 c0_i32_53
  let v89 : BitVec 1 := Scalar.andi v88 v85
  let v90 : BitVec 32 := Scalar.addi v84 v83
  let v91 : BitVec 32 := Scalar.select v89 v90 v84
  let c1_i32_57 : BitVec 32 := 1#32
  let v92 : BitVec 32 := Scalar.muli v91 c1_i32_57
  let v93 : BitVec 32 := Scalar.addi c0_i32_58 v92
  v93.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v94 : BitVec 32 := Scalar.addi v2 c7_i32
  let c32_i32_59 : BitVec 32 := 32#32
  let c0_i32_60 : BitVec 32 := 0#32
  let v95 : BitVec 1 := Scalar.cmpi .eq c32_i32_59 c0_i32_60
  let c1_i32_61 : BitVec 32 := 1#32
  let v96 : BitVec 32 := Scalar.select v95 c1_i32_61 c32_i32_59
  let v97 : BitVec 32 := Scalar.remsi v94 v96
  let c0_i32_63 : BitVec 32 := 0#32
  let v99 : BitVec 1 := Scalar.cmpi .slt v97 c0_i32_63
  let c0_i32_64 : BitVec 32 := 0#32
  let v100 : BitVec 1 := Scalar.cmpi .slt v96 c0_i32_64
  let v101 : BitVec 1 := Scalar.xori v99 v100
  let c0_i32_62 : BitVec 32 := 0#32
  let v98 : BitVec 1 := Scalar.cmpi .ne v97 c0_i32_62
  let v102 : BitVec 1 := Scalar.andi v101 v98
  let v103 : BitVec 32 := Scalar.addi v97 v96
  let v104 : BitVec 32 := Scalar.select v102 v103 v97
  let c1_i32_66 : BitVec 32 := 1#32
  let v105 : BitVec 32 := Scalar.muli v104 c1_i32_66
  let v106 : BitVec 32 := Scalar.addi c0_i32_67 v105
  v106.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_68 : BitVec 32 := 8#32
  let v107 : BitVec 32 := Scalar.addi v2 c8_i32_68
  let c32_i32_69 : BitVec 32 := 32#32
  let c0_i32_70 : BitVec 32 := 0#32
  let v108 : BitVec 1 := Scalar.cmpi .eq c32_i32_69 c0_i32_70
  let c1_i32_71 : BitVec 32 := 1#32
  let v109 : BitVec 32 := Scalar.select v108 c1_i32_71 c32_i32_69
  let v110 : BitVec 32 := Scalar.remsi v107 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  let c1_i32_76 : BitVec 32 := 1#32
  let v118 : BitVec 32 := Scalar.muli v117 c1_i32_76
  let v119 : BitVec 32 := Scalar.addi c0_i32_77 v118
  v119.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v120 : BitVec 32 := Scalar.addi v2 c9_i32
  let c32_i32_78 : BitVec 32 := 32#32
  let c0_i32_79 : BitVec 32 := 0#32
  let v121 : BitVec 1 := Scalar.cmpi .eq c32_i32_78 c0_i32_79
  let c1_i32_80 : BitVec 32 := 1#32
  let v122 : BitVec 32 := Scalar.select v121 c1_i32_80 c32_i32_78
  let v123 : BitVec 32 := Scalar.remsi v120 v122
  let c0_i32_82 : BitVec 32 := 0#32
  let v125 : BitVec 1 := Scalar.cmpi .slt v123 c0_i32_82
  let c0_i32_83 : BitVec 32 := 0#32
  let v126 : BitVec 1 := Scalar.cmpi .slt v122 c0_i32_83
  let v127 : BitVec 1 := Scalar.xori v125 v126
  let c0_i32_81 : BitVec 32 := 0#32
  let v124 : BitVec 1 := Scalar.cmpi .ne v123 c0_i32_81
  let v128 : BitVec 1 := Scalar.andi v127 v124
  let v129 : BitVec 32 := Scalar.addi v123 v122
  let v130 : BitVec 32 := Scalar.select v128 v129 v123
  let c1_i32_85 : BitVec 32 := 1#32
  let v131 : BitVec 32 := Scalar.muli v130 c1_i32_85
  let v132 : BitVec 32 := Scalar.addi c0_i32_86 v131
  v132.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v133 : BitVec 32 := Scalar.addi v2 c10_i32
  let c32_i32_87 : BitVec 32 := 32#32
  let c0_i32_88 : BitVec 32 := 0#32
  let v134 : BitVec 1 := Scalar.cmpi .eq c32_i32_87 c0_i32_88
  let c1_i32_89 : BitVec 32 := 1#32
  let v135 : BitVec 32 := Scalar.select v134 c1_i32_89 c32_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let c1_i32_94 : BitVec 32 := 1#32
  let v144 : BitVec 32 := Scalar.muli v143 c1_i32_94
  let v145 : BitVec 32 := Scalar.addi c0_i32_95 v144
  v145.toNat
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v146 : BitVec 32 := Scalar.addi v2 c11_i32
  let c32_i32_96 : BitVec 32 := 32#32
  let c0_i32_97 : BitVec 32 := 0#32
  let v147 : BitVec 1 := Scalar.cmpi .eq c32_i32_96 c0_i32_97
  let c1_i32_98 : BitVec 32 := 1#32
  let v148 : BitVec 32 := Scalar.select v147 c1_i32_98 c32_i32_96
  let v149 : BitVec 32 := Scalar.remsi v146 v148
  let c0_i32_100 : BitVec 32 := 0#32
  let v151 : BitVec 1 := Scalar.cmpi .slt v149 c0_i32_100
  let c0_i32_101 : BitVec 32 := 0#32
  let v152 : BitVec 1 := Scalar.cmpi .slt v148 c0_i32_101
  let v153 : BitVec 1 := Scalar.xori v151 v152
  let c0_i32_99 : BitVec 32 := 0#32
  let v150 : BitVec 1 := Scalar.cmpi .ne v149 c0_i32_99
  let v154 : BitVec 1 := Scalar.andi v153 v150
  let v155 : BitVec 32 := Scalar.addi v149 v148
  let v156 : BitVec 32 := Scalar.select v154 v155 v149
  let c1_i32_103 : BitVec 32 := 1#32
  let v157 : BitVec 32 := Scalar.muli v156 c1_i32_103
  let v158 : BitVec 32 := Scalar.addi c0_i32_104 v157
  v158.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v159 : BitVec 32 := Scalar.addi v2 c12_i32
  let c32_i32_105 : BitVec 32 := 32#32
  let c0_i32_106 : BitVec 32 := 0#32
  let v160 : BitVec 1 := Scalar.cmpi .eq c32_i32_105 c0_i32_106
  let c1_i32_107 : BitVec 32 := 1#32
  let v161 : BitVec 32 := Scalar.select v160 c1_i32_107 c32_i32_105
  let v162 : BitVec 32 := Scalar.remsi v159 v161
  let c0_i32_109 : BitVec 32 := 0#32
  let v164 : BitVec 1 := Scalar.cmpi .slt v162 c0_i32_109
  let c0_i32_110 : BitVec 32 := 0#32
  let v165 : BitVec 1 := Scalar.cmpi .slt v161 c0_i32_110
  let v166 : BitVec 1 := Scalar.xori v164 v165
  let c0_i32_108 : BitVec 32 := 0#32
  let v163 : BitVec 1 := Scalar.cmpi .ne v162 c0_i32_108
  let v167 : BitVec 1 := Scalar.andi v166 v163
  let v168 : BitVec 32 := Scalar.addi v162 v161
  let v169 : BitVec 32 := Scalar.select v167 v168 v162
  let c1_i32_112 : BitVec 32 := 1#32
  let v170 : BitVec 32 := Scalar.muli v169 c1_i32_112
  let v171 : BitVec 32 := Scalar.addi c0_i32_113 v170
  v171.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v172 : BitVec 32 := Scalar.addi v2 c13_i32
  let c32_i32_114 : BitVec 32 := 32#32
  let c0_i32_115 : BitVec 32 := 0#32
  let v173 : BitVec 1 := Scalar.cmpi .eq c32_i32_114 c0_i32_115
  let c1_i32_116 : BitVec 32 := 1#32
  let v174 : BitVec 32 := Scalar.select v173 c1_i32_116 c32_i32_114
  let v175 : BitVec 32 := Scalar.remsi v172 v174
  let c0_i32_118 : BitVec 32 := 0#32
  let v177 : BitVec 1 := Scalar.cmpi .slt v175 c0_i32_118
  let c0_i32_119 : BitVec 32 := 0#32
  let v178 : BitVec 1 := Scalar.cmpi .slt v174 c0_i32_119
  let v179 : BitVec 1 := Scalar.xori v177 v178
  let c0_i32_117 : BitVec 32 := 0#32
  let v176 : BitVec 1 := Scalar.cmpi .ne v175 c0_i32_117
  let v180 : BitVec 1 := Scalar.andi v179 v176
  let v181 : BitVec 32 := Scalar.addi v175 v174
  let v182 : BitVec 32 := Scalar.select v180 v181 v175
  let c1_i32_121 : BitVec 32 := 1#32
  let v183 : BitVec 32 := Scalar.muli v182 c1_i32_121
  let v184 : BitVec 32 := Scalar.addi c0_i32_122 v183
  v184.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v185 : BitVec 32 := Scalar.addi v2 c14_i32
  let c32_i32_123 : BitVec 32 := 32#32
  let c0_i32_124 : BitVec 32 := 0#32
  let v186 : BitVec 1 := Scalar.cmpi .eq c32_i32_123 c0_i32_124
  let c1_i32_125 : BitVec 32 := 1#32
  let v187 : BitVec 32 := Scalar.select v186 c1_i32_125 c32_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let c1_i32_130 : BitVec 32 := 1#32
  let v196 : BitVec 32 := Scalar.muli v195 c1_i32_130
  let v197 : BitVec 32 := Scalar.addi c0_i32_131 v196
  v197.toNat
def k0_dev15 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v198 : BitVec 32 := Scalar.addi v2 c15_i32
  let c32_i32_132 : BitVec 32 := 32#32
  let c0_i32_133 : BitVec 32 := 0#32
  let v199 : BitVec 1 := Scalar.cmpi .eq c32_i32_132 c0_i32_133
  let c1_i32_134 : BitVec 32 := 1#32
  let v200 : BitVec 32 := Scalar.select v199 c1_i32_134 c32_i32_132
  let v201 : BitVec 32 := Scalar.remsi v198 v200
  let c0_i32_136 : BitVec 32 := 0#32
  let v203 : BitVec 1 := Scalar.cmpi .slt v201 c0_i32_136
  let c0_i32_137 : BitVec 32 := 0#32
  let v204 : BitVec 1 := Scalar.cmpi .slt v200 c0_i32_137
  let v205 : BitVec 1 := Scalar.xori v203 v204
  let c0_i32_135 : BitVec 32 := 0#32
  let v202 : BitVec 1 := Scalar.cmpi .ne v201 c0_i32_135
  let v206 : BitVec 1 := Scalar.andi v205 v202
  let v207 : BitVec 32 := Scalar.addi v201 v200
  let v208 : BitVec 32 := Scalar.select v206 v207 v201
  let c1_i32_139 : BitVec 32 := 1#32
  let v209 : BitVec 32 := Scalar.muli v208 c1_i32_139
  let v210 : BitVec 32 := Scalar.addi c0_i32_140 v209
  v210.toNat
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v211 : BitVec 32 := Scalar.addi v2 c16_i32
  let c32_i32_141 : BitVec 32 := 32#32
  let c0_i32_142 : BitVec 32 := 0#32
  let v212 : BitVec 1 := Scalar.cmpi .eq c32_i32_141 c0_i32_142
  let c1_i32_143 : BitVec 32 := 1#32
  let v213 : BitVec 32 := Scalar.select v212 c1_i32_143 c32_i32_141
  let v214 : BitVec 32 := Scalar.remsi v211 v213
  let c0_i32_145 : BitVec 32 := 0#32
  let v216 : BitVec 1 := Scalar.cmpi .slt v214 c0_i32_145
  let c0_i32_146 : BitVec 32 := 0#32
  let v217 : BitVec 1 := Scalar.cmpi .slt v213 c0_i32_146
  let v218 : BitVec 1 := Scalar.xori v216 v217
  let c0_i32_144 : BitVec 32 := 0#32
  let v215 : BitVec 1 := Scalar.cmpi .ne v214 c0_i32_144
  let v219 : BitVec 1 := Scalar.andi v218 v215
  let v220 : BitVec 32 := Scalar.addi v214 v213
  let v221 : BitVec 32 := Scalar.select v219 v220 v214
  let c1_i32_148 : BitVec 32 := 1#32
  let v222 : BitVec 32 := Scalar.muli v221 c1_i32_148
  let v223 : BitVec 32 := Scalar.addi c0_i32_149 v222
  v223.toNat
def k0_dev17 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v224 : BitVec 32 := Scalar.addi v2 c17_i32
  let c32_i32_150 : BitVec 32 := 32#32
  let c0_i32_151 : BitVec 32 := 0#32
  let v225 : BitVec 1 := Scalar.cmpi .eq c32_i32_150 c0_i32_151
  let c1_i32_152 : BitVec 32 := 1#32
  let v226 : BitVec 32 := Scalar.select v225 c1_i32_152 c32_i32_150
  let v227 : BitVec 32 := Scalar.remsi v224 v226
  let c0_i32_154 : BitVec 32 := 0#32
  let v229 : BitVec 1 := Scalar.cmpi .slt v227 c0_i32_154
  let c0_i32_155 : BitVec 32 := 0#32
  let v230 : BitVec 1 := Scalar.cmpi .slt v226 c0_i32_155
  let v231 : BitVec 1 := Scalar.xori v229 v230
  let c0_i32_153 : BitVec 32 := 0#32
  let v228 : BitVec 1 := Scalar.cmpi .ne v227 c0_i32_153
  let v232 : BitVec 1 := Scalar.andi v231 v228
  let v233 : BitVec 32 := Scalar.addi v227 v226
  let v234 : BitVec 32 := Scalar.select v232 v233 v227
  let c1_i32_157 : BitVec 32 := 1#32
  let v235 : BitVec 32 := Scalar.muli v234 c1_i32_157
  let v236 : BitVec 32 := Scalar.addi c0_i32_158 v235
  v236.toNat
def k0_dev18 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v237 : BitVec 32 := Scalar.addi v2 c18_i32
  let c32_i32_159 : BitVec 32 := 32#32
  let c0_i32_160 : BitVec 32 := 0#32
  let v238 : BitVec 1 := Scalar.cmpi .eq c32_i32_159 c0_i32_160
  let c1_i32_161 : BitVec 32 := 1#32
  let v239 : BitVec 32 := Scalar.select v238 c1_i32_161 c32_i32_159
  let v240 : BitVec 32 := Scalar.remsi v237 v239
  let c0_i32_163 : BitVec 32 := 0#32
  let v242 : BitVec 1 := Scalar.cmpi .slt v240 c0_i32_163
  let c0_i32_164 : BitVec 32 := 0#32
  let v243 : BitVec 1 := Scalar.cmpi .slt v239 c0_i32_164
  let v244 : BitVec 1 := Scalar.xori v242 v243
  let c0_i32_162 : BitVec 32 := 0#32
  let v241 : BitVec 1 := Scalar.cmpi .ne v240 c0_i32_162
  let v245 : BitVec 1 := Scalar.andi v244 v241
  let v246 : BitVec 32 := Scalar.addi v240 v239
  let v247 : BitVec 32 := Scalar.select v245 v246 v240
  let c1_i32_166 : BitVec 32 := 1#32
  let v248 : BitVec 32 := Scalar.muli v247 c1_i32_166
  let v249 : BitVec 32 := Scalar.addi c0_i32_167 v248
  v249.toNat
def k0_dev19 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v250 : BitVec 32 := Scalar.addi v2 c19_i32
  let c32_i32_168 : BitVec 32 := 32#32
  let c0_i32_169 : BitVec 32 := 0#32
  let v251 : BitVec 1 := Scalar.cmpi .eq c32_i32_168 c0_i32_169
  let c1_i32_170 : BitVec 32 := 1#32
  let v252 : BitVec 32 := Scalar.select v251 c1_i32_170 c32_i32_168
  let v253 : BitVec 32 := Scalar.remsi v250 v252
  let c0_i32_172 : BitVec 32 := 0#32
  let v255 : BitVec 1 := Scalar.cmpi .slt v253 c0_i32_172
  let c0_i32_173 : BitVec 32 := 0#32
  let v256 : BitVec 1 := Scalar.cmpi .slt v252 c0_i32_173
  let v257 : BitVec 1 := Scalar.xori v255 v256
  let c0_i32_171 : BitVec 32 := 0#32
  let v254 : BitVec 1 := Scalar.cmpi .ne v253 c0_i32_171
  let v258 : BitVec 1 := Scalar.andi v257 v254
  let v259 : BitVec 32 := Scalar.addi v253 v252
  let v260 : BitVec 32 := Scalar.select v258 v259 v253
  let c1_i32_175 : BitVec 32 := 1#32
  let v261 : BitVec 32 := Scalar.muli v260 c1_i32_175
  let v262 : BitVec 32 := Scalar.addi c0_i32_176 v261
  v262.toNat
def k0_dev20 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v263 : BitVec 32 := Scalar.addi v2 c20_i32
  let c32_i32_177 : BitVec 32 := 32#32
  let c0_i32_178 : BitVec 32 := 0#32
  let v264 : BitVec 1 := Scalar.cmpi .eq c32_i32_177 c0_i32_178
  let c1_i32_179 : BitVec 32 := 1#32
  let v265 : BitVec 32 := Scalar.select v264 c1_i32_179 c32_i32_177
  let v266 : BitVec 32 := Scalar.remsi v263 v265
  let c0_i32_181 : BitVec 32 := 0#32
  let v268 : BitVec 1 := Scalar.cmpi .slt v266 c0_i32_181
  let c0_i32_182 : BitVec 32 := 0#32
  let v269 : BitVec 1 := Scalar.cmpi .slt v265 c0_i32_182
  let v270 : BitVec 1 := Scalar.xori v268 v269
  let c0_i32_180 : BitVec 32 := 0#32
  let v267 : BitVec 1 := Scalar.cmpi .ne v266 c0_i32_180
  let v271 : BitVec 1 := Scalar.andi v270 v267
  let v272 : BitVec 32 := Scalar.addi v266 v265
  let v273 : BitVec 32 := Scalar.select v271 v272 v266
  let c1_i32_184 : BitVec 32 := 1#32
  let v274 : BitVec 32 := Scalar.muli v273 c1_i32_184
  let v275 : BitVec 32 := Scalar.addi c0_i32_185 v274
  v275.toNat
def k0_dev21 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v276 : BitVec 32 := Scalar.addi v2 c21_i32
  let c32_i32_186 : BitVec 32 := 32#32
  let c0_i32_187 : BitVec 32 := 0#32
  let v277 : BitVec 1 := Scalar.cmpi .eq c32_i32_186 c0_i32_187
  let c1_i32_188 : BitVec 32 := 1#32
  let v278 : BitVec 32 := Scalar.select v277 c1_i32_188 c32_i32_186
  let v279 : BitVec 32 := Scalar.remsi v276 v278
  let c0_i32_190 : BitVec 32 := 0#32
  let v281 : BitVec 1 := Scalar.cmpi .slt v279 c0_i32_190
  let c0_i32_191 : BitVec 32 := 0#32
  let v282 : BitVec 1 := Scalar.cmpi .slt v278 c0_i32_191
  let v283 : BitVec 1 := Scalar.xori v281 v282
  let c0_i32_189 : BitVec 32 := 0#32
  let v280 : BitVec 1 := Scalar.cmpi .ne v279 c0_i32_189
  let v284 : BitVec 1 := Scalar.andi v283 v280
  let v285 : BitVec 32 := Scalar.addi v279 v278
  let v286 : BitVec 32 := Scalar.select v284 v285 v279
  let c1_i32_193 : BitVec 32 := 1#32
  let v287 : BitVec 32 := Scalar.muli v286 c1_i32_193
  let v288 : BitVec 32 := Scalar.addi c0_i32_194 v287
  v288.toNat
def k0_dev22 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v289 : BitVec 32 := Scalar.addi v2 c22_i32
  let c32_i32_195 : BitVec 32 := 32#32
  let c0_i32_196 : BitVec 32 := 0#32
  let v290 : BitVec 1 := Scalar.cmpi .eq c32_i32_195 c0_i32_196
  let c1_i32_197 : BitVec 32 := 1#32
  let v291 : BitVec 32 := Scalar.select v290 c1_i32_197 c32_i32_195
  let v292 : BitVec 32 := Scalar.remsi v289 v291
  let c0_i32_199 : BitVec 32 := 0#32
  let v294 : BitVec 1 := Scalar.cmpi .slt v292 c0_i32_199
  let c0_i32_200 : BitVec 32 := 0#32
  let v295 : BitVec 1 := Scalar.cmpi .slt v291 c0_i32_200
  let v296 : BitVec 1 := Scalar.xori v294 v295
  let c0_i32_198 : BitVec 32 := 0#32
  let v293 : BitVec 1 := Scalar.cmpi .ne v292 c0_i32_198
  let v297 : BitVec 1 := Scalar.andi v296 v293
  let v298 : BitVec 32 := Scalar.addi v292 v291
  let v299 : BitVec 32 := Scalar.select v297 v298 v292
  let c1_i32_202 : BitVec 32 := 1#32
  let v300 : BitVec 32 := Scalar.muli v299 c1_i32_202
  let v301 : BitVec 32 := Scalar.addi c0_i32_203 v300
  v301.toNat
def k0_dev23 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v302 : BitVec 32 := Scalar.addi v2 c23_i32
  let c32_i32_204 : BitVec 32 := 32#32
  let c0_i32_205 : BitVec 32 := 0#32
  let v303 : BitVec 1 := Scalar.cmpi .eq c32_i32_204 c0_i32_205
  let c1_i32_206 : BitVec 32 := 1#32
  let v304 : BitVec 32 := Scalar.select v303 c1_i32_206 c32_i32_204
  let v305 : BitVec 32 := Scalar.remsi v302 v304
  let c0_i32_208 : BitVec 32 := 0#32
  let v307 : BitVec 1 := Scalar.cmpi .slt v305 c0_i32_208
  let c0_i32_209 : BitVec 32 := 0#32
  let v308 : BitVec 1 := Scalar.cmpi .slt v304 c0_i32_209
  let v309 : BitVec 1 := Scalar.xori v307 v308
  let c0_i32_207 : BitVec 32 := 0#32
  let v306 : BitVec 1 := Scalar.cmpi .ne v305 c0_i32_207
  let v310 : BitVec 1 := Scalar.andi v309 v306
  let v311 : BitVec 32 := Scalar.addi v305 v304
  let v312 : BitVec 32 := Scalar.select v310 v311 v305
  let c1_i32_211 : BitVec 32 := 1#32
  let v313 : BitVec 32 := Scalar.muli v312 c1_i32_211
  let v314 : BitVec 32 := Scalar.addi c0_i32_212 v313
  v314.toNat
def k0_dev24 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v315 : BitVec 32 := Scalar.addi v2 c24_i32
  let c32_i32_213 : BitVec 32 := 32#32
  let c0_i32_214 : BitVec 32 := 0#32
  let v316 : BitVec 1 := Scalar.cmpi .eq c32_i32_213 c0_i32_214
  let c1_i32_215 : BitVec 32 := 1#32
  let v317 : BitVec 32 := Scalar.select v316 c1_i32_215 c32_i32_213
  let v318 : BitVec 32 := Scalar.remsi v315 v317
  let c0_i32_217 : BitVec 32 := 0#32
  let v320 : BitVec 1 := Scalar.cmpi .slt v318 c0_i32_217
  let c0_i32_218 : BitVec 32 := 0#32
  let v321 : BitVec 1 := Scalar.cmpi .slt v317 c0_i32_218
  let v322 : BitVec 1 := Scalar.xori v320 v321
  let c0_i32_216 : BitVec 32 := 0#32
  let v319 : BitVec 1 := Scalar.cmpi .ne v318 c0_i32_216
  let v323 : BitVec 1 := Scalar.andi v322 v319
  let v324 : BitVec 32 := Scalar.addi v318 v317
  let v325 : BitVec 32 := Scalar.select v323 v324 v318
  let c1_i32_220 : BitVec 32 := 1#32
  let v326 : BitVec 32 := Scalar.muli v325 c1_i32_220
  let v327 : BitVec 32 := Scalar.addi c0_i32_221 v326
  v327.toNat
def k0_dev25 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v328 : BitVec 32 := Scalar.addi v2 c25_i32
  let c32_i32_222 : BitVec 32 := 32#32
  let c0_i32_223 : BitVec 32 := 0#32
  let v329 : BitVec 1 := Scalar.cmpi .eq c32_i32_222 c0_i32_223
  let c1_i32_224 : BitVec 32 := 1#32
  let v330 : BitVec 32 := Scalar.select v329 c1_i32_224 c32_i32_222
  let v331 : BitVec 32 := Scalar.remsi v328 v330
  let c0_i32_226 : BitVec 32 := 0#32
  let v333 : BitVec 1 := Scalar.cmpi .slt v331 c0_i32_226
  let c0_i32_227 : BitVec 32 := 0#32
  let v334 : BitVec 1 := Scalar.cmpi .slt v330 c0_i32_227
  let v335 : BitVec 1 := Scalar.xori v333 v334
  let c0_i32_225 : BitVec 32 := 0#32
  let v332 : BitVec 1 := Scalar.cmpi .ne v331 c0_i32_225
  let v336 : BitVec 1 := Scalar.andi v335 v332
  let v337 : BitVec 32 := Scalar.addi v331 v330
  let v338 : BitVec 32 := Scalar.select v336 v337 v331
  let c1_i32_229 : BitVec 32 := 1#32
  let v339 : BitVec 32 := Scalar.muli v338 c1_i32_229
  let v340 : BitVec 32 := Scalar.addi c0_i32_230 v339
  v340.toNat
def k0_dev26 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v341 : BitVec 32 := Scalar.addi v2 c26_i32
  let c32_i32_231 : BitVec 32 := 32#32
  let c0_i32_232 : BitVec 32 := 0#32
  let v342 : BitVec 1 := Scalar.cmpi .eq c32_i32_231 c0_i32_232
  let c1_i32_233 : BitVec 32 := 1#32
  let v343 : BitVec 32 := Scalar.select v342 c1_i32_233 c32_i32_231
  let v344 : BitVec 32 := Scalar.remsi v341 v343
  let c0_i32_235 : BitVec 32 := 0#32
  let v346 : BitVec 1 := Scalar.cmpi .slt v344 c0_i32_235
  let c0_i32_236 : BitVec 32 := 0#32
  let v347 : BitVec 1 := Scalar.cmpi .slt v343 c0_i32_236
  let v348 : BitVec 1 := Scalar.xori v346 v347
  let c0_i32_234 : BitVec 32 := 0#32
  let v345 : BitVec 1 := Scalar.cmpi .ne v344 c0_i32_234
  let v349 : BitVec 1 := Scalar.andi v348 v345
  let v350 : BitVec 32 := Scalar.addi v344 v343
  let v351 : BitVec 32 := Scalar.select v349 v350 v344
  let c1_i32_238 : BitVec 32 := 1#32
  let v352 : BitVec 32 := Scalar.muli v351 c1_i32_238
  let v353 : BitVec 32 := Scalar.addi c0_i32_239 v352
  v353.toNat
def k0_dev27 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v354 : BitVec 32 := Scalar.addi v2 c27_i32
  let c32_i32_240 : BitVec 32 := 32#32
  let c0_i32_241 : BitVec 32 := 0#32
  let v355 : BitVec 1 := Scalar.cmpi .eq c32_i32_240 c0_i32_241
  let c1_i32_242 : BitVec 32 := 1#32
  let v356 : BitVec 32 := Scalar.select v355 c1_i32_242 c32_i32_240
  let v357 : BitVec 32 := Scalar.remsi v354 v356
  let c0_i32_244 : BitVec 32 := 0#32
  let v359 : BitVec 1 := Scalar.cmpi .slt v357 c0_i32_244
  let c0_i32_245 : BitVec 32 := 0#32
  let v360 : BitVec 1 := Scalar.cmpi .slt v356 c0_i32_245
  let v361 : BitVec 1 := Scalar.xori v359 v360
  let c0_i32_243 : BitVec 32 := 0#32
  let v358 : BitVec 1 := Scalar.cmpi .ne v357 c0_i32_243
  let v362 : BitVec 1 := Scalar.andi v361 v358
  let v363 : BitVec 32 := Scalar.addi v357 v356
  let v364 : BitVec 32 := Scalar.select v362 v363 v357
  let c1_i32_247 : BitVec 32 := 1#32
  let v365 : BitVec 32 := Scalar.muli v364 c1_i32_247
  let v366 : BitVec 32 := Scalar.addi c0_i32_248 v365
  v366.toNat
def k0_dev28 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v367 : BitVec 32 := Scalar.addi v2 c28_i32
  let c32_i32_249 : BitVec 32 := 32#32
  let c0_i32_250 : BitVec 32 := 0#32
  let v368 : BitVec 1 := Scalar.cmpi .eq c32_i32_249 c0_i32_250
  let c1_i32_251 : BitVec 32 := 1#32
  let v369 : BitVec 32 := Scalar.select v368 c1_i32_251 c32_i32_249
  let v370 : BitVec 32 := Scalar.remsi v367 v369
  let c0_i32_253 : BitVec 32 := 0#32
  let v372 : BitVec 1 := Scalar.cmpi .slt v370 c0_i32_253
  let c0_i32_254 : BitVec 32 := 0#32
  let v373 : BitVec 1 := Scalar.cmpi .slt v369 c0_i32_254
  let v374 : BitVec 1 := Scalar.xori v372 v373
  let c0_i32_252 : BitVec 32 := 0#32
  let v371 : BitVec 1 := Scalar.cmpi .ne v370 c0_i32_252
  let v375 : BitVec 1 := Scalar.andi v374 v371
  let v376 : BitVec 32 := Scalar.addi v370 v369
  let v377 : BitVec 32 := Scalar.select v375 v376 v370
  let c1_i32_256 : BitVec 32 := 1#32
  let v378 : BitVec 32 := Scalar.muli v377 c1_i32_256
  let v379 : BitVec 32 := Scalar.addi c0_i32_257 v378
  v379.toNat
def k0_dev29 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v380 : BitVec 32 := Scalar.addi v2 c29_i32
  let c32_i32_258 : BitVec 32 := 32#32
  let c0_i32_259 : BitVec 32 := 0#32
  let v381 : BitVec 1 := Scalar.cmpi .eq c32_i32_258 c0_i32_259
  let c1_i32_260 : BitVec 32 := 1#32
  let v382 : BitVec 32 := Scalar.select v381 c1_i32_260 c32_i32_258
  let v383 : BitVec 32 := Scalar.remsi v380 v382
  let c0_i32_262 : BitVec 32 := 0#32
  let v385 : BitVec 1 := Scalar.cmpi .slt v383 c0_i32_262
  let c0_i32_263 : BitVec 32 := 0#32
  let v386 : BitVec 1 := Scalar.cmpi .slt v382 c0_i32_263
  let v387 : BitVec 1 := Scalar.xori v385 v386
  let c0_i32_261 : BitVec 32 := 0#32
  let v384 : BitVec 1 := Scalar.cmpi .ne v383 c0_i32_261
  let v388 : BitVec 1 := Scalar.andi v387 v384
  let v389 : BitVec 32 := Scalar.addi v383 v382
  let v390 : BitVec 32 := Scalar.select v388 v389 v383
  let c1_i32_265 : BitVec 32 := 1#32
  let v391 : BitVec 32 := Scalar.muli v390 c1_i32_265
  let v392 : BitVec 32 := Scalar.addi c0_i32_266 v391
  v392.toNat
def k0_dev30 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v393 : BitVec 32 := Scalar.addi v2 c30_i32
  let c32_i32_267 : BitVec 32 := 32#32
  let c0_i32_268 : BitVec 32 := 0#32
  let v394 : BitVec 1 := Scalar.cmpi .eq c32_i32_267 c0_i32_268
  let c1_i32_269 : BitVec 32 := 1#32
  let v395 : BitVec 32 := Scalar.select v394 c1_i32_269 c32_i32_267
  let v396 : BitVec 32 := Scalar.remsi v393 v395
  let c0_i32_271 : BitVec 32 := 0#32
  let v398 : BitVec 1 := Scalar.cmpi .slt v396 c0_i32_271
  let c0_i32_272 : BitVec 32 := 0#32
  let v399 : BitVec 1 := Scalar.cmpi .slt v395 c0_i32_272
  let v400 : BitVec 1 := Scalar.xori v398 v399
  let c0_i32_270 : BitVec 32 := 0#32
  let v397 : BitVec 1 := Scalar.cmpi .ne v396 c0_i32_270
  let v401 : BitVec 1 := Scalar.andi v400 v397
  let v402 : BitVec 32 := Scalar.addi v396 v395
  let v403 : BitVec 32 := Scalar.select v401 v402 v396
  let c1_i32_274 : BitVec 32 := 1#32
  let v404 : BitVec 32 := Scalar.muli v403 c1_i32_274
  let v405 : BitVec 32 := Scalar.addi c0_i32_275 v404
  v405.toNat
def k0_dev31 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v406 : BitVec 32 := Scalar.addi v2 c31_i32
  let c32_i32_276 : BitVec 32 := 32#32
  let c0_i32_277 : BitVec 32 := 0#32
  let v407 : BitVec 1 := Scalar.cmpi .eq c32_i32_276 c0_i32_277
  let c1_i32_278 : BitVec 32 := 1#32
  let v408 : BitVec 32 := Scalar.select v407 c1_i32_278 c32_i32_276
  let v409 : BitVec 32 := Scalar.remsi v406 v408
  let c0_i32_280 : BitVec 32 := 0#32
  let v411 : BitVec 1 := Scalar.cmpi .slt v409 c0_i32_280
  let c0_i32_281 : BitVec 32 := 0#32
  let v412 : BitVec 1 := Scalar.cmpi .slt v408 c0_i32_281
  let v413 : BitVec 1 := Scalar.xori v411 v412
  let c0_i32_279 : BitVec 32 := 0#32
  let v410 : BitVec 1 := Scalar.cmpi .ne v409 c0_i32_279
  let v414 : BitVec 1 := Scalar.andi v413 v410
  let v415 : BitVec 32 := Scalar.addi v409 v408
  let v416 : BitVec 32 := Scalar.select v414 v415 v409
  let c1_i32_283 : BitVec 32 := 1#32
  let v417 : BitVec 32 := Scalar.muli v416 c1_i32_283
  let v418 : BitVec 32 := Scalar.addi c0_i32_284 v417
  v418.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_352 : BitVec 32 := 0#32
  let v537 : BitVec 1 := Scalar.cmpi .ne v2 c0_i32_352
  let v538 : BitVec 32 := Scalar.extui v537
  let c0_i32_353 : BitVec 32 := 0#32
  let v539 : BitVec 1 := Scalar.cmpi .ne v538 c0_i32_353
  v539

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev32 : Nat :=
  let c0_i32_775 : BitVec 32 := 0#32
  let c0_i32_773 : BitVec 32 := 0#32
  let c1_i32_774 : BitVec 32 := 1#32
  let v1232 : BitVec 32 := Scalar.muli c0_i32_773 c1_i32_774
  let v1233 : BitVec 32 := Scalar.addi c0_i32_775 v1232
  v1233.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_354 : BitVec 32 := 1#32
  let v540 : BitVec 1 := Scalar.cmpi .ne v2 c1_i32_354
  let v541 : BitVec 32 := Scalar.extui v540
  let c0_i32_355 : BitVec 32 := 0#32
  let v542 : BitVec 1 := Scalar.cmpi .ne v541 c0_i32_355
  v542

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev33 : Nat :=
  let c0_i32_775 : BitVec 32 := 0#32
  let c1_i32_773 : BitVec 32 := 1#32
  let c1_i32_774 : BitVec 32 := 1#32
  let v1232 : BitVec 32 := Scalar.muli c1_i32_773 c1_i32_774
  let v1233 : BitVec 32 := Scalar.addi c0_i32_775 v1232
  v1233.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_356 : BitVec 32 := 2#32
  let v543 : BitVec 1 := Scalar.cmpi .ne v2 c2_i32_356
  let v544 : BitVec 32 := Scalar.extui v543
  let c0_i32_357 : BitVec 32 := 0#32
  let v545 : BitVec 1 := Scalar.cmpi .ne v544 c0_i32_357
  v545

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev34 : Nat :=
  let c0_i32_775 : BitVec 32 := 0#32
  let c2_i32_773 : BitVec 32 := 2#32
  let c1_i32_774 : BitVec 32 := 1#32
  let v1232 : BitVec 32 := Scalar.muli c2_i32_773 c1_i32_774
  let v1233 : BitVec 32 := Scalar.addi c0_i32_775 v1232
  v1233.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_358 : BitVec 32 := 3#32
  let v546 : BitVec 1 := Scalar.cmpi .ne v2 c3_i32_358
  let v547 : BitVec 32 := Scalar.extui v546
  let c0_i32_359 : BitVec 32 := 0#32
  let v548 : BitVec 1 := Scalar.cmpi .ne v547 c0_i32_359
  v548

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev35 : Nat :=
  let c0_i32_775 : BitVec 32 := 0#32
  let c3_i32_773 : BitVec 32 := 3#32
  let c1_i32_774 : BitVec 32 := 1#32
  let v1232 : BitVec 32 := Scalar.muli c3_i32_773 c1_i32_774
  let v1233 : BitVec 32 := Scalar.addi c0_i32_775 v1232
  v1233.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_360 : BitVec 32 := 4#32
  let v549 : BitVec 1 := Scalar.cmpi .ne v2 c4_i32_360
  let v550 : BitVec 32 := Scalar.extui v549
  let c0_i32_361 : BitVec 32 := 0#32
  let v551 : BitVec 1 := Scalar.cmpi .ne v550 c0_i32_361
  v551

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev36 : Nat :=
  let c0_i32_775 : BitVec 32 := 0#32
  let c4_i32_773 : BitVec 32 := 4#32
  let c1_i32_774 : BitVec 32 := 1#32
  let v1232 : BitVec 32 := Scalar.muli c4_i32_773 c1_i32_774
  let v1233 : BitVec 32 := Scalar.addi c0_i32_775 v1232
  v1233.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_362 : BitVec 32 := 5#32
  let v552 : BitVec 1 := Scalar.cmpi .ne v2 c5_i32_362
  let v553 : BitVec 32 := Scalar.extui v552
  let c0_i32_363 : BitVec 32 := 0#32
  let v554 : BitVec 1 := Scalar.cmpi .ne v553 c0_i32_363
  v554

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev37 : Nat :=
  let c0_i32_775 : BitVec 32 := 0#32
  let c5_i32_773 : BitVec 32 := 5#32
  let c1_i32_774 : BitVec 32 := 1#32
  let v1232 : BitVec 32 := Scalar.muli c5_i32_773 c1_i32_774
  let v1233 : BitVec 32 := Scalar.addi c0_i32_775 v1232
  v1233.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_364 : BitVec 32 := 6#32
  let v555 : BitVec 1 := Scalar.cmpi .ne v2 c6_i32_364
  let v556 : BitVec 32 := Scalar.extui v555
  let c0_i32_365 : BitVec 32 := 0#32
  let v557 : BitVec 1 := Scalar.cmpi .ne v556 c0_i32_365
  v557

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev38 : Nat :=
  let c0_i32_775 : BitVec 32 := 0#32
  let c6_i32_773 : BitVec 32 := 6#32
  let c1_i32_774 : BitVec 32 := 1#32
  let v1232 : BitVec 32 := Scalar.muli c6_i32_773 c1_i32_774
  let v1233 : BitVec 32 := Scalar.addi c0_i32_775 v1232
  v1233.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_366 : BitVec 32 := 7#32
  let v558 : BitVec 1 := Scalar.cmpi .ne v2 c7_i32_366
  let v559 : BitVec 32 := Scalar.extui v558
  let c0_i32_367 : BitVec 32 := 0#32
  let v560 : BitVec 1 := Scalar.cmpi .ne v559 c0_i32_367
  v560

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev39 : Nat :=
  let c0_i32_775 : BitVec 32 := 0#32
  let c7_i32_773 : BitVec 32 := 7#32
  let c1_i32_774 : BitVec 32 := 1#32
  let v1232 : BitVec 32 := Scalar.muli c7_i32_773 c1_i32_774
  let v1233 : BitVec 32 := Scalar.addi c0_i32_775 v1232
  v1233.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_368 : BitVec 32 := 8#32
  let v561 : BitVec 1 := Scalar.cmpi .ne v2 c8_i32_368
  let v562 : BitVec 32 := Scalar.extui v561
  let c0_i32_369 : BitVec 32 := 0#32
  let v563 : BitVec 1 := Scalar.cmpi .ne v562 c0_i32_369
  v563

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev40 : Nat :=
  let c0_i32_775 : BitVec 32 := 0#32
  let c8_i32_773 : BitVec 32 := 8#32
  let c1_i32_774 : BitVec 32 := 1#32
  let v1232 : BitVec 32 := Scalar.muli c8_i32_773 c1_i32_774
  let v1233 : BitVec 32 := Scalar.addi c0_i32_775 v1232
  v1233.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_370 : BitVec 32 := 9#32
  let v564 : BitVec 1 := Scalar.cmpi .ne v2 c9_i32_370
  let v565 : BitVec 32 := Scalar.extui v564
  let c0_i32_371 : BitVec 32 := 0#32
  let v566 : BitVec 1 := Scalar.cmpi .ne v565 c0_i32_371
  v566

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev41 : Nat :=
  let c0_i32_775 : BitVec 32 := 0#32
  let c9_i32_773 : BitVec 32 := 9#32
  let c1_i32_774 : BitVec 32 := 1#32
  let v1232 : BitVec 32 := Scalar.muli c9_i32_773 c1_i32_774
  let v1233 : BitVec 32 := Scalar.addi c0_i32_775 v1232
  v1233.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_372 : BitVec 32 := 10#32
  let v567 : BitVec 1 := Scalar.cmpi .ne v2 c10_i32_372
  let v568 : BitVec 32 := Scalar.extui v567
  let c0_i32_373 : BitVec 32 := 0#32
  let v569 : BitVec 1 := Scalar.cmpi .ne v568 c0_i32_373
  v569

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev42 : Nat :=
  let c0_i32_775 : BitVec 32 := 0#32
  let c10_i32_773 : BitVec 32 := 10#32
  let c1_i32_774 : BitVec 32 := 1#32
  let v1232 : BitVec 32 := Scalar.muli c10_i32_773 c1_i32_774
  let v1233 : BitVec 32 := Scalar.addi c0_i32_775 v1232
  v1233.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_374 : BitVec 32 := 11#32
  let v570 : BitVec 1 := Scalar.cmpi .ne v2 c11_i32_374
  let v571 : BitVec 32 := Scalar.extui v570
  let c0_i32_375 : BitVec 32 := 0#32
  let v572 : BitVec 1 := Scalar.cmpi .ne v571 c0_i32_375
  v572

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev43 : Nat :=
  let c0_i32_775 : BitVec 32 := 0#32
  let c11_i32_773 : BitVec 32 := 11#32
  let c1_i32_774 : BitVec 32 := 1#32
  let v1232 : BitVec 32 := Scalar.muli c11_i32_773 c1_i32_774
  let v1233 : BitVec 32 := Scalar.addi c0_i32_775 v1232
  v1233.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_376 : BitVec 32 := 12#32
  let v573 : BitVec 1 := Scalar.cmpi .ne v2 c12_i32_376
  let v574 : BitVec 32 := Scalar.extui v573
  let c0_i32_377 : BitVec 32 := 0#32
  let v575 : BitVec 1 := Scalar.cmpi .ne v574 c0_i32_377
  v575

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev44 : Nat :=
  let c0_i32_775 : BitVec 32 := 0#32
  let c12_i32_773 : BitVec 32 := 12#32
  let c1_i32_774 : BitVec 32 := 1#32
  let v1232 : BitVec 32 := Scalar.muli c12_i32_773 c1_i32_774
  let v1233 : BitVec 32 := Scalar.addi c0_i32_775 v1232
  v1233.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_378 : BitVec 32 := 13#32
  let v576 : BitVec 1 := Scalar.cmpi .ne v2 c13_i32_378
  let v577 : BitVec 32 := Scalar.extui v576
  let c0_i32_379 : BitVec 32 := 0#32
  let v578 : BitVec 1 := Scalar.cmpi .ne v577 c0_i32_379
  v578

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev45 : Nat :=
  let c0_i32_775 : BitVec 32 := 0#32
  let c13_i32_773 : BitVec 32 := 13#32
  let c1_i32_774 : BitVec 32 := 1#32
  let v1232 : BitVec 32 := Scalar.muli c13_i32_773 c1_i32_774
  let v1233 : BitVec 32 := Scalar.addi c0_i32_775 v1232
  v1233.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v579 : BitVec 1 := Scalar.cmpi .ne v2 c14_i32_380
  let v580 : BitVec 32 := Scalar.extui v579
  let c0_i32_381 : BitVec 32 := 0#32
  let v581 : BitVec 1 := Scalar.cmpi .ne v580 c0_i32_381
  v581

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev46 : Nat :=
  let c0_i32_775 : BitVec 32 := 0#32
  let c14_i32_773 : BitVec 32 := 14#32
  let c1_i32_774 : BitVec 32 := 1#32
  let v1232 : BitVec 32 := Scalar.muli c14_i32_773 c1_i32_774
  let v1233 : BitVec 32 := Scalar.addi c0_i32_775 v1232
  v1233.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_382 : BitVec 32 := 15#32
  let v582 : BitVec 1 := Scalar.cmpi .ne v2 c15_i32_382
  let v583 : BitVec 32 := Scalar.extui v582
  let c0_i32_383 : BitVec 32 := 0#32
  let v584 : BitVec 1 := Scalar.cmpi .ne v583 c0_i32_383
  v584

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev47 : Nat :=
  let c0_i32_775 : BitVec 32 := 0#32
  let c15_i32_773 : BitVec 32 := 15#32
  let c1_i32_774 : BitVec 32 := 1#32
  let v1232 : BitVec 32 := Scalar.muli c15_i32_773 c1_i32_774
  let v1233 : BitVec 32 := Scalar.addi c0_i32_775 v1232
  v1233.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_446 : BitVec 32 := 16#32
  let v693 : BitVec 1 := Scalar.cmpi .ne v2 c16_i32_446
  let v694 : BitVec 32 := Scalar.extui v693
  let c0_i32_447 : BitVec 32 := 0#32
  let v695 : BitVec 1 := Scalar.cmpi .ne v694 c0_i32_447
  v695

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev48 : Nat :=
  let c0_i32_775 : BitVec 32 := 0#32
  let c16_i32_773 : BitVec 32 := 16#32
  let c1_i32_774 : BitVec 32 := 1#32
  let v1232 : BitVec 32 := Scalar.muli c16_i32_773 c1_i32_774
  let v1233 : BitVec 32 := Scalar.addi c0_i32_775 v1232
  v1233.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_448 : BitVec 32 := 17#32
  let v696 : BitVec 1 := Scalar.cmpi .ne v2 c17_i32_448
  let v697 : BitVec 32 := Scalar.extui v696
  let c0_i32_449 : BitVec 32 := 0#32
  let v698 : BitVec 1 := Scalar.cmpi .ne v697 c0_i32_449
  v698

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev49 : Nat :=
  let c0_i32_775 : BitVec 32 := 0#32
  let c17_i32_773 : BitVec 32 := 17#32
  let c1_i32_774 : BitVec 32 := 1#32
  let v1232 : BitVec 32 := Scalar.muli c17_i32_773 c1_i32_774
  let v1233 : BitVec 32 := Scalar.addi c0_i32_775 v1232
  v1233.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_450 : BitVec 32 := 18#32
  let v699 : BitVec 1 := Scalar.cmpi .ne v2 c18_i32_450
  let v700 : BitVec 32 := Scalar.extui v699
  let c0_i32_451 : BitVec 32 := 0#32
  let v701 : BitVec 1 := Scalar.cmpi .ne v700 c0_i32_451
  v701

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev50 : Nat :=
  let c0_i32_775 : BitVec 32 := 0#32
  let c18_i32_773 : BitVec 32 := 18#32
  let c1_i32_774 : BitVec 32 := 1#32
  let v1232 : BitVec 32 := Scalar.muli c18_i32_773 c1_i32_774
  let v1233 : BitVec 32 := Scalar.addi c0_i32_775 v1232
  v1233.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_452 : BitVec 32 := 19#32
  let v702 : BitVec 1 := Scalar.cmpi .ne v2 c19_i32_452
  let v703 : BitVec 32 := Scalar.extui v702
  let c0_i32_453 : BitVec 32 := 0#32
  let v704 : BitVec 1 := Scalar.cmpi .ne v703 c0_i32_453
  v704

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev51 : Nat :=
  let c0_i32_775 : BitVec 32 := 0#32
  let c19_i32_773 : BitVec 32 := 19#32
  let c1_i32_774 : BitVec 32 := 1#32
  let v1232 : BitVec 32 := Scalar.muli c19_i32_773 c1_i32_774
  let v1233 : BitVec 32 := Scalar.addi c0_i32_775 v1232
  v1233.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_454 : BitVec 32 := 20#32
  let v705 : BitVec 1 := Scalar.cmpi .ne v2 c20_i32_454
  let v706 : BitVec 32 := Scalar.extui v705
  let c0_i32_455 : BitVec 32 := 0#32
  let v707 : BitVec 1 := Scalar.cmpi .ne v706 c0_i32_455
  v707

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev52 : Nat :=
  let c0_i32_775 : BitVec 32 := 0#32
  let c20_i32_773 : BitVec 32 := 20#32
  let c1_i32_774 : BitVec 32 := 1#32
  let v1232 : BitVec 32 := Scalar.muli c20_i32_773 c1_i32_774
  let v1233 : BitVec 32 := Scalar.addi c0_i32_775 v1232
  v1233.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_456 : BitVec 32 := 21#32
  let v708 : BitVec 1 := Scalar.cmpi .ne v2 c21_i32_456
  let v709 : BitVec 32 := Scalar.extui v708
  let c0_i32_457 : BitVec 32 := 0#32
  let v710 : BitVec 1 := Scalar.cmpi .ne v709 c0_i32_457
  v710

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev53 : Nat :=
  let c0_i32_775 : BitVec 32 := 0#32
  let c21_i32_773 : BitVec 32 := 21#32
  let c1_i32_774 : BitVec 32 := 1#32
  let v1232 : BitVec 32 := Scalar.muli c21_i32_773 c1_i32_774
  let v1233 : BitVec 32 := Scalar.addi c0_i32_775 v1232
  v1233.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_458 : BitVec 32 := 22#32
  let v711 : BitVec 1 := Scalar.cmpi .ne v2 c22_i32_458
  let v712 : BitVec 32 := Scalar.extui v711
  let c0_i32_459 : BitVec 32 := 0#32
  let v713 : BitVec 1 := Scalar.cmpi .ne v712 c0_i32_459
  v713

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev54 : Nat :=
  let c0_i32_775 : BitVec 32 := 0#32
  let c22_i32_773 : BitVec 32 := 22#32
  let c1_i32_774 : BitVec 32 := 1#32
  let v1232 : BitVec 32 := Scalar.muli c22_i32_773 c1_i32_774
  let v1233 : BitVec 32 := Scalar.addi c0_i32_775 v1232
  v1233.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_460 : BitVec 32 := 23#32
  let v714 : BitVec 1 := Scalar.cmpi .ne v2 c23_i32_460
  let v715 : BitVec 32 := Scalar.extui v714
  let c0_i32_461 : BitVec 32 := 0#32
  let v716 : BitVec 1 := Scalar.cmpi .ne v715 c0_i32_461
  v716

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev55 : Nat :=
  let c0_i32_775 : BitVec 32 := 0#32
  let c23_i32_773 : BitVec 32 := 23#32
  let c1_i32_774 : BitVec 32 := 1#32
  let v1232 : BitVec 32 := Scalar.muli c23_i32_773 c1_i32_774
  let v1233 : BitVec 32 := Scalar.addi c0_i32_775 v1232
  v1233.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_462 : BitVec 32 := 24#32
  let v717 : BitVec 1 := Scalar.cmpi .ne v2 c24_i32_462
  let v718 : BitVec 32 := Scalar.extui v717
  let c0_i32_463 : BitVec 32 := 0#32
  let v719 : BitVec 1 := Scalar.cmpi .ne v718 c0_i32_463
  v719

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev56 : Nat :=
  let c0_i32_775 : BitVec 32 := 0#32
  let c24_i32_773 : BitVec 32 := 24#32
  let c1_i32_774 : BitVec 32 := 1#32
  let v1232 : BitVec 32 := Scalar.muli c24_i32_773 c1_i32_774
  let v1233 : BitVec 32 := Scalar.addi c0_i32_775 v1232
  v1233.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_464 : BitVec 32 := 25#32
  let v720 : BitVec 1 := Scalar.cmpi .ne v2 c25_i32_464
  let v721 : BitVec 32 := Scalar.extui v720
  let c0_i32_465 : BitVec 32 := 0#32
  let v722 : BitVec 1 := Scalar.cmpi .ne v721 c0_i32_465
  v722

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev57 : Nat :=
  let c0_i32_775 : BitVec 32 := 0#32
  let c25_i32_773 : BitVec 32 := 25#32
  let c1_i32_774 : BitVec 32 := 1#32
  let v1232 : BitVec 32 := Scalar.muli c25_i32_773 c1_i32_774
  let v1233 : BitVec 32 := Scalar.addi c0_i32_775 v1232
  v1233.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_466 : BitVec 32 := 26#32
  let v723 : BitVec 1 := Scalar.cmpi .ne v2 c26_i32_466
  let v724 : BitVec 32 := Scalar.extui v723
  let c0_i32_467 : BitVec 32 := 0#32
  let v725 : BitVec 1 := Scalar.cmpi .ne v724 c0_i32_467
  v725

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev58 : Nat :=
  let c0_i32_775 : BitVec 32 := 0#32
  let c26_i32_773 : BitVec 32 := 26#32
  let c1_i32_774 : BitVec 32 := 1#32
  let v1232 : BitVec 32 := Scalar.muli c26_i32_773 c1_i32_774
  let v1233 : BitVec 32 := Scalar.addi c0_i32_775 v1232
  v1233.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_468 : BitVec 32 := 27#32
  let v726 : BitVec 1 := Scalar.cmpi .ne v2 c27_i32_468
  let v727 : BitVec 32 := Scalar.extui v726
  let c0_i32_469 : BitVec 32 := 0#32
  let v728 : BitVec 1 := Scalar.cmpi .ne v727 c0_i32_469
  v728

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev59 : Nat :=
  let c0_i32_775 : BitVec 32 := 0#32
  let c27_i32_773 : BitVec 32 := 27#32
  let c1_i32_774 : BitVec 32 := 1#32
  let v1232 : BitVec 32 := Scalar.muli c27_i32_773 c1_i32_774
  let v1233 : BitVec 32 := Scalar.addi c0_i32_775 v1232
  v1233.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_470 : BitVec 32 := 28#32
  let v729 : BitVec 1 := Scalar.cmpi .ne v2 c28_i32_470
  let v730 : BitVec 32 := Scalar.extui v729
  let c0_i32_471 : BitVec 32 := 0#32
  let v731 : BitVec 1 := Scalar.cmpi .ne v730 c0_i32_471
  v731

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev60 : Nat :=
  let c0_i32_775 : BitVec 32 := 0#32
  let c28_i32_773 : BitVec 32 := 28#32
  let c1_i32_774 : BitVec 32 := 1#32
  let v1232 : BitVec 32 := Scalar.muli c28_i32_773 c1_i32_774
  let v1233 : BitVec 32 := Scalar.addi c0_i32_775 v1232
  v1233.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_472 : BitVec 32 := 29#32
  let v732 : BitVec 1 := Scalar.cmpi .ne v2 c29_i32_472
  let v733 : BitVec 32 := Scalar.extui v732
  let c0_i32_473 : BitVec 32 := 0#32
  let v734 : BitVec 1 := Scalar.cmpi .ne v733 c0_i32_473
  v734

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev61 : Nat :=
  let c0_i32_775 : BitVec 32 := 0#32
  let c29_i32_773 : BitVec 32 := 29#32
  let c1_i32_774 : BitVec 32 := 1#32
  let v1232 : BitVec 32 := Scalar.muli c29_i32_773 c1_i32_774
  let v1233 : BitVec 32 := Scalar.addi c0_i32_775 v1232
  v1233.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_474 : BitVec 32 := 30#32
  let v735 : BitVec 1 := Scalar.cmpi .ne v2 c30_i32_474
  let v736 : BitVec 32 := Scalar.extui v735
  let c0_i32_475 : BitVec 32 := 0#32
  let v737 : BitVec 1 := Scalar.cmpi .ne v736 c0_i32_475
  v737

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev62 : Nat :=
  let c0_i32_775 : BitVec 32 := 0#32
  let c30_i32_773 : BitVec 32 := 30#32
  let c1_i32_774 : BitVec 32 := 1#32
  let v1232 : BitVec 32 := Scalar.muli c30_i32_773 c1_i32_774
  let v1233 : BitVec 32 := Scalar.addi c0_i32_775 v1232
  v1233.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_476 : BitVec 32 := 31#32
  let v738 : BitVec 1 := Scalar.cmpi .ne v2 c31_i32_476
  let v739 : BitVec 32 := Scalar.extui v738
  let c0_i32_477 : BitVec 32 := 0#32
  let v740 : BitVec 1 := Scalar.cmpi .ne v739 c0_i32_477
  v740

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev63 : Nat :=
  let c0_i32_775 : BitVec 32 := 0#32
  let c31_i32_773 : BitVec 32 := 31#32
  let c1_i32_774 : BitVec 32 := 1#32
  let v1232 : BitVec 32 := Scalar.muli c31_i32_773 c1_i32_774
  let v1233 : BitVec 32 := Scalar.addi c0_i32_775 v1232
  v1233.toNat
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let v741 : Index := Scalar.indexCast v4
  let c0_478 : Index := 0#32
  ![v741.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_580 : BitVec 32 := 0#32
  let v944 : BitVec 1 := Scalar.cmpi .ne v2 c0_i32_580
  let v945 : BitVec 32 := Scalar.extui v944
  let c0_i32_581 : BitVec 32 := 0#32
  let v946 : BitVec 1 := Scalar.cmpi .ne v945 c0_i32_581
  v946

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev64 : Nat :=
  let c0_i32_775 : BitVec 32 := 0#32
  let c0_i32_773 : BitVec 32 := 0#32
  let c1_i32_774 : BitVec 32 := 1#32
  let v1232 : BitVec 32 := Scalar.muli c0_i32_773 c1_i32_774
  let v1233 : BitVec 32 := Scalar.addi c0_i32_775 v1232
  v1233.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_582 : BitVec 32 := 1#32
  let v947 : BitVec 1 := Scalar.cmpi .ne v2 c1_i32_582
  let v948 : BitVec 32 := Scalar.extui v947
  let c0_i32_583 : BitVec 32 := 0#32
  let v949 : BitVec 1 := Scalar.cmpi .ne v948 c0_i32_583
  v949

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev65 : Nat :=
  let c0_i32_775 : BitVec 32 := 0#32
  let c1_i32_773 : BitVec 32 := 1#32
  let c1_i32_774 : BitVec 32 := 1#32
  let v1232 : BitVec 32 := Scalar.muli c1_i32_773 c1_i32_774
  let v1233 : BitVec 32 := Scalar.addi c0_i32_775 v1232
  v1233.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_584 : BitVec 32 := 2#32
  let v950 : BitVec 1 := Scalar.cmpi .ne v2 c2_i32_584
  let v951 : BitVec 32 := Scalar.extui v950
  let c0_i32_585 : BitVec 32 := 0#32
  let v952 : BitVec 1 := Scalar.cmpi .ne v951 c0_i32_585
  v952

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev66 : Nat :=
  let c0_i32_775 : BitVec 32 := 0#32
  let c2_i32_773 : BitVec 32 := 2#32
  let c1_i32_774 : BitVec 32 := 1#32
  let v1232 : BitVec 32 := Scalar.muli c2_i32_773 c1_i32_774
  let v1233 : BitVec 32 := Scalar.addi c0_i32_775 v1232
  v1233.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_586 : BitVec 32 := 3#32
  let v953 : BitVec 1 := Scalar.cmpi .ne v2 c3_i32_586
  let v954 : BitVec 32 := Scalar.extui v953
  let c0_i32_587 : BitVec 32 := 0#32
  let v955 : BitVec 1 := Scalar.cmpi .ne v954 c0_i32_587
  v955

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev67 : Nat :=
  let c0_i32_775 : BitVec 32 := 0#32
  let c3_i32_773 : BitVec 32 := 3#32
  let c1_i32_774 : BitVec 32 := 1#32
  let v1232 : BitVec 32 := Scalar.muli c3_i32_773 c1_i32_774
  let v1233 : BitVec 32 := Scalar.addi c0_i32_775 v1232
  v1233.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_588 : BitVec 32 := 4#32
  let v956 : BitVec 1 := Scalar.cmpi .ne v2 c4_i32_588
  let v957 : BitVec 32 := Scalar.extui v956
  let c0_i32_589 : BitVec 32 := 0#32
  let v958 : BitVec 1 := Scalar.cmpi .ne v957 c0_i32_589
  v958

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev68 : Nat :=
  let c0_i32_775 : BitVec 32 := 0#32
  let c4_i32_773 : BitVec 32 := 4#32
  let c1_i32_774 : BitVec 32 := 1#32
  let v1232 : BitVec 32 := Scalar.muli c4_i32_773 c1_i32_774
  let v1233 : BitVec 32 := Scalar.addi c0_i32_775 v1232
  v1233.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_590 : BitVec 32 := 5#32
  let v959 : BitVec 1 := Scalar.cmpi .ne v2 c5_i32_590
  let v960 : BitVec 32 := Scalar.extui v959
  let c0_i32_591 : BitVec 32 := 0#32
  let v961 : BitVec 1 := Scalar.cmpi .ne v960 c0_i32_591
  v961

def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev69 : Nat :=
  let c0_i32_775 : BitVec 32 := 0#32
  let c5_i32_773 : BitVec 32 := 5#32
  let c1_i32_774 : BitVec 32 := 1#32
  let v1232 : BitVec 32 := Scalar.muli c5_i32_773 c1_i32_774
  let v1233 : BitVec 32 := Scalar.addi c0_i32_775 v1232
  v1233.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_592 : BitVec 32 := 6#32
  let v962 : BitVec 1 := Scalar.cmpi .ne v2 c6_i32_592
  let v963 : BitVec 32 := Scalar.extui v962
  let c0_i32_593 : BitVec 32 := 0#32
  let v964 : BitVec 1 := Scalar.cmpi .ne v963 c0_i32_593
  v964

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev70 : Nat :=
  let c0_i32_775 : BitVec 32 := 0#32
  let c6_i32_773 : BitVec 32 := 6#32
  let c1_i32_774 : BitVec 32 := 1#32
  let v1232 : BitVec 32 := Scalar.muli c6_i32_773 c1_i32_774
  let v1233 : BitVec 32 := Scalar.addi c0_i32_775 v1232
  v1233.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_594 : BitVec 32 := 7#32
  let v965 : BitVec 1 := Scalar.cmpi .ne v2 c7_i32_594
  let v966 : BitVec 32 := Scalar.extui v965
  let c0_i32_595 : BitVec 32 := 0#32
  let v967 : BitVec 1 := Scalar.cmpi .ne v966 c0_i32_595
  v967

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev71 : Nat :=
  let c0_i32_775 : BitVec 32 := 0#32
  let c7_i32_773 : BitVec 32 := 7#32
  let c1_i32_774 : BitVec 32 := 1#32
  let v1232 : BitVec 32 := Scalar.muli c7_i32_773 c1_i32_774
  let v1233 : BitVec 32 := Scalar.addi c0_i32_775 v1232
  v1233.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_596 : BitVec 32 := 8#32
  let v968 : BitVec 1 := Scalar.cmpi .ne v2 c8_i32_596
  let v969 : BitVec 32 := Scalar.extui v968
  let c0_i32_597 : BitVec 32 := 0#32
  let v970 : BitVec 1 := Scalar.cmpi .ne v969 c0_i32_597
  v970

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev72 : Nat :=
  let c0_i32_775 : BitVec 32 := 0#32
  let c8_i32_773 : BitVec 32 := 8#32
  let c1_i32_774 : BitVec 32 := 1#32
  let v1232 : BitVec 32 := Scalar.muli c8_i32_773 c1_i32_774
  let v1233 : BitVec 32 := Scalar.addi c0_i32_775 v1232
  v1233.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_598 : BitVec 32 := 9#32
  let v971 : BitVec 1 := Scalar.cmpi .ne v2 c9_i32_598
  let v972 : BitVec 32 := Scalar.extui v971
  let c0_i32_599 : BitVec 32 := 0#32
  let v973 : BitVec 1 := Scalar.cmpi .ne v972 c0_i32_599
  v973

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev73 : Nat :=
  let c0_i32_775 : BitVec 32 := 0#32
  let c9_i32_773 : BitVec 32 := 9#32
  let c1_i32_774 : BitVec 32 := 1#32
  let v1232 : BitVec 32 := Scalar.muli c9_i32_773 c1_i32_774
  let v1233 : BitVec 32 := Scalar.addi c0_i32_775 v1232
  v1233.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_600 : BitVec 32 := 10#32
  let v974 : BitVec 1 := Scalar.cmpi .ne v2 c10_i32_600
  let v975 : BitVec 32 := Scalar.extui v974
  let c0_i32_601 : BitVec 32 := 0#32
  let v976 : BitVec 1 := Scalar.cmpi .ne v975 c0_i32_601
  v976

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev74 : Nat :=
  let c0_i32_775 : BitVec 32 := 0#32
  let c10_i32_773 : BitVec 32 := 10#32
  let c1_i32_774 : BitVec 32 := 1#32
  let v1232 : BitVec 32 := Scalar.muli c10_i32_773 c1_i32_774
  let v1233 : BitVec 32 := Scalar.addi c0_i32_775 v1232
  v1233.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_602 : BitVec 32 := 11#32
  let v977 : BitVec 1 := Scalar.cmpi .ne v2 c11_i32_602
  let v978 : BitVec 32 := Scalar.extui v977
  let c0_i32_603 : BitVec 32 := 0#32
  let v979 : BitVec 1 := Scalar.cmpi .ne v978 c0_i32_603
  v979

def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev75 : Nat :=
  let c0_i32_775 : BitVec 32 := 0#32
  let c11_i32_773 : BitVec 32 := 11#32
  let c1_i32_774 : BitVec 32 := 1#32
  let v1232 : BitVec 32 := Scalar.muli c11_i32_773 c1_i32_774
  let v1233 : BitVec 32 := Scalar.addi c0_i32_775 v1232
  v1233.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_604 : BitVec 32 := 12#32
  let v980 : BitVec 1 := Scalar.cmpi .ne v2 c12_i32_604
  let v981 : BitVec 32 := Scalar.extui v980
  let c0_i32_605 : BitVec 32 := 0#32
  let v982 : BitVec 1 := Scalar.cmpi .ne v981 c0_i32_605
  v982

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev76 : Nat :=
  let c0_i32_775 : BitVec 32 := 0#32
  let c12_i32_773 : BitVec 32 := 12#32
  let c1_i32_774 : BitVec 32 := 1#32
  let v1232 : BitVec 32 := Scalar.muli c12_i32_773 c1_i32_774
  let v1233 : BitVec 32 := Scalar.addi c0_i32_775 v1232
  v1233.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_606 : BitVec 32 := 13#32
  let v983 : BitVec 1 := Scalar.cmpi .ne v2 c13_i32_606
  let v984 : BitVec 32 := Scalar.extui v983
  let c0_i32_607 : BitVec 32 := 0#32
  let v985 : BitVec 1 := Scalar.cmpi .ne v984 c0_i32_607
  v985

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev77 : Nat :=
  let c0_i32_775 : BitVec 32 := 0#32
  let c13_i32_773 : BitVec 32 := 13#32
  let c1_i32_774 : BitVec 32 := 1#32
  let v1232 : BitVec 32 := Scalar.muli c13_i32_773 c1_i32_774
  let v1233 : BitVec 32 := Scalar.addi c0_i32_775 v1232
  v1233.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_608 : BitVec 32 := 14#32
  let v986 : BitVec 1 := Scalar.cmpi .ne v2 c14_i32_608
  let v987 : BitVec 32 := Scalar.extui v986
  let c0_i32_609 : BitVec 32 := 0#32
  let v988 : BitVec 1 := Scalar.cmpi .ne v987 c0_i32_609
  v988

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev78 : Nat :=
  let c0_i32_775 : BitVec 32 := 0#32
  let c14_i32_773 : BitVec 32 := 14#32
  let c1_i32_774 : BitVec 32 := 1#32
  let v1232 : BitVec 32 := Scalar.muli c14_i32_773 c1_i32_774
  let v1233 : BitVec 32 := Scalar.addi c0_i32_775 v1232
  v1233.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_610 : BitVec 32 := 15#32
  let v989 : BitVec 1 := Scalar.cmpi .ne v2 c15_i32_610
  let v990 : BitVec 32 := Scalar.extui v989
  let c0_i32_611 : BitVec 32 := 0#32
  let v991 : BitVec 1 := Scalar.cmpi .ne v990 c0_i32_611
  v991

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev79 : Nat :=
  let c0_i32_775 : BitVec 32 := 0#32
  let c15_i32_773 : BitVec 32 := 15#32
  let c1_i32_774 : BitVec 32 := 1#32
  let v1232 : BitVec 32 := Scalar.muli c15_i32_773 c1_i32_774
  let v1233 : BitVec 32 := Scalar.addi c0_i32_775 v1232
  v1233.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_612 : BitVec 32 := 16#32
  let v992 : BitVec 1 := Scalar.cmpi .ne v2 c16_i32_612
  let v993 : BitVec 32 := Scalar.extui v992
  let c0_i32_613 : BitVec 32 := 0#32
  let v994 : BitVec 1 := Scalar.cmpi .ne v993 c0_i32_613
  v994

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev80 : Nat :=
  let c0_i32_775 : BitVec 32 := 0#32
  let c16_i32_773 : BitVec 32 := 16#32
  let c1_i32_774 : BitVec 32 := 1#32
  let v1232 : BitVec 32 := Scalar.muli c16_i32_773 c1_i32_774
  let v1233 : BitVec 32 := Scalar.addi c0_i32_775 v1232
  v1233.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_614 : BitVec 32 := 17#32
  let v995 : BitVec 1 := Scalar.cmpi .ne v2 c17_i32_614
  let v996 : BitVec 32 := Scalar.extui v995
  let c0_i32_615 : BitVec 32 := 0#32
  let v997 : BitVec 1 := Scalar.cmpi .ne v996 c0_i32_615
  v997

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev81 : Nat :=
  let c0_i32_775 : BitVec 32 := 0#32
  let c17_i32_773 : BitVec 32 := 17#32
  let c1_i32_774 : BitVec 32 := 1#32
  let v1232 : BitVec 32 := Scalar.muli c17_i32_773 c1_i32_774
  let v1233 : BitVec 32 := Scalar.addi c0_i32_775 v1232
  v1233.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_616 : BitVec 32 := 18#32
  let v998 : BitVec 1 := Scalar.cmpi .ne v2 c18_i32_616
  let v999 : BitVec 32 := Scalar.extui v998
  let c0_i32_617 : BitVec 32 := 0#32
  let v1000 : BitVec 1 := Scalar.cmpi .ne v999 c0_i32_617
  v1000

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev82 : Nat :=
  let c0_i32_775 : BitVec 32 := 0#32
  let c18_i32_773 : BitVec 32 := 18#32
  let c1_i32_774 : BitVec 32 := 1#32
  let v1232 : BitVec 32 := Scalar.muli c18_i32_773 c1_i32_774
  let v1233 : BitVec 32 := Scalar.addi c0_i32_775 v1232
  v1233.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_618 : BitVec 32 := 19#32
  let v1001 : BitVec 1 := Scalar.cmpi .ne v2 c19_i32_618
  let v1002 : BitVec 32 := Scalar.extui v1001
  let c0_i32_619 : BitVec 32 := 0#32
  let v1003 : BitVec 1 := Scalar.cmpi .ne v1002 c0_i32_619
  v1003

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev83 : Nat :=
  let c0_i32_775 : BitVec 32 := 0#32
  let c19_i32_773 : BitVec 32 := 19#32
  let c1_i32_774 : BitVec 32 := 1#32
  let v1232 : BitVec 32 := Scalar.muli c19_i32_773 c1_i32_774
  let v1233 : BitVec 32 := Scalar.addi c0_i32_775 v1232
  v1233.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_620 : BitVec 32 := 20#32
  let v1004 : BitVec 1 := Scalar.cmpi .ne v2 c20_i32_620
  let v1005 : BitVec 32 := Scalar.extui v1004
  let c0_i32_621 : BitVec 32 := 0#32
  let v1006 : BitVec 1 := Scalar.cmpi .ne v1005 c0_i32_621
  v1006

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev84 : Nat :=
  let c0_i32_775 : BitVec 32 := 0#32
  let c20_i32_773 : BitVec 32 := 20#32
  let c1_i32_774 : BitVec 32 := 1#32
  let v1232 : BitVec 32 := Scalar.muli c20_i32_773 c1_i32_774
  let v1233 : BitVec 32 := Scalar.addi c0_i32_775 v1232
  v1233.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_622 : BitVec 32 := 21#32
  let v1007 : BitVec 1 := Scalar.cmpi .ne v2 c21_i32_622
  let v1008 : BitVec 32 := Scalar.extui v1007
  let c0_i32_623 : BitVec 32 := 0#32
  let v1009 : BitVec 1 := Scalar.cmpi .ne v1008 c0_i32_623
  v1009

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev85 : Nat :=
  let c0_i32_775 : BitVec 32 := 0#32
  let c21_i32_773 : BitVec 32 := 21#32
  let c1_i32_774 : BitVec 32 := 1#32
  let v1232 : BitVec 32 := Scalar.muli c21_i32_773 c1_i32_774
  let v1233 : BitVec 32 := Scalar.addi c0_i32_775 v1232
  v1233.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_624 : BitVec 32 := 22#32
  let v1010 : BitVec 1 := Scalar.cmpi .ne v2 c22_i32_624
  let v1011 : BitVec 32 := Scalar.extui v1010
  let c0_i32_625 : BitVec 32 := 0#32
  let v1012 : BitVec 1 := Scalar.cmpi .ne v1011 c0_i32_625
  v1012

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev86 : Nat :=
  let c0_i32_775 : BitVec 32 := 0#32
  let c22_i32_773 : BitVec 32 := 22#32
  let c1_i32_774 : BitVec 32 := 1#32
  let v1232 : BitVec 32 := Scalar.muli c22_i32_773 c1_i32_774
  let v1233 : BitVec 32 := Scalar.addi c0_i32_775 v1232
  v1233.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_626 : BitVec 32 := 23#32
  let v1013 : BitVec 1 := Scalar.cmpi .ne v2 c23_i32_626
  let v1014 : BitVec 32 := Scalar.extui v1013
  let c0_i32_627 : BitVec 32 := 0#32
  let v1015 : BitVec 1 := Scalar.cmpi .ne v1014 c0_i32_627
  v1015

def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev87 : Nat :=
  let c0_i32_775 : BitVec 32 := 0#32
  let c23_i32_773 : BitVec 32 := 23#32
  let c1_i32_774 : BitVec 32 := 1#32
  let v1232 : BitVec 32 := Scalar.muli c23_i32_773 c1_i32_774
  let v1233 : BitVec 32 := Scalar.addi c0_i32_775 v1232
  v1233.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_628 : BitVec 32 := 24#32
  let v1016 : BitVec 1 := Scalar.cmpi .ne v2 c24_i32_628
  let v1017 : BitVec 32 := Scalar.extui v1016
  let c0_i32_629 : BitVec 32 := 0#32
  let v1018 : BitVec 1 := Scalar.cmpi .ne v1017 c0_i32_629
  v1018

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev88 : Nat :=
  let c0_i32_775 : BitVec 32 := 0#32
  let c24_i32_773 : BitVec 32 := 24#32
  let c1_i32_774 : BitVec 32 := 1#32
  let v1232 : BitVec 32 := Scalar.muli c24_i32_773 c1_i32_774
  let v1233 : BitVec 32 := Scalar.addi c0_i32_775 v1232
  v1233.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_630 : BitVec 32 := 25#32
  let v1019 : BitVec 1 := Scalar.cmpi .ne v2 c25_i32_630
  let v1020 : BitVec 32 := Scalar.extui v1019
  let c0_i32_631 : BitVec 32 := 0#32
  let v1021 : BitVec 1 := Scalar.cmpi .ne v1020 c0_i32_631
  v1021

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev89 : Nat :=
  let c0_i32_775 : BitVec 32 := 0#32
  let c25_i32_773 : BitVec 32 := 25#32
  let c1_i32_774 : BitVec 32 := 1#32
  let v1232 : BitVec 32 := Scalar.muli c25_i32_773 c1_i32_774
  let v1233 : BitVec 32 := Scalar.addi c0_i32_775 v1232
  v1233.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_632 : BitVec 32 := 26#32
  let v1022 : BitVec 1 := Scalar.cmpi .ne v2 c26_i32_632
  let v1023 : BitVec 32 := Scalar.extui v1022
  let c0_i32_633 : BitVec 32 := 0#32
  let v1024 : BitVec 1 := Scalar.cmpi .ne v1023 c0_i32_633
  v1024

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev90 : Nat :=
  let c0_i32_775 : BitVec 32 := 0#32
  let c26_i32_773 : BitVec 32 := 26#32
  let c1_i32_774 : BitVec 32 := 1#32
  let v1232 : BitVec 32 := Scalar.muli c26_i32_773 c1_i32_774
  let v1233 : BitVec 32 := Scalar.addi c0_i32_775 v1232
  v1233.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_634 : BitVec 32 := 27#32
  let v1025 : BitVec 1 := Scalar.cmpi .ne v2 c27_i32_634
  let v1026 : BitVec 32 := Scalar.extui v1025
  let c0_i32_635 : BitVec 32 := 0#32
  let v1027 : BitVec 1 := Scalar.cmpi .ne v1026 c0_i32_635
  v1027

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev91 : Nat :=
  let c0_i32_775 : BitVec 32 := 0#32
  let c27_i32_773 : BitVec 32 := 27#32
  let c1_i32_774 : BitVec 32 := 1#32
  let v1232 : BitVec 32 := Scalar.muli c27_i32_773 c1_i32_774
  let v1233 : BitVec 32 := Scalar.addi c0_i32_775 v1232
  v1233.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_636 : BitVec 32 := 28#32
  let v1028 : BitVec 1 := Scalar.cmpi .ne v2 c28_i32_636
  let v1029 : BitVec 32 := Scalar.extui v1028
  let c0_i32_637 : BitVec 32 := 0#32
  let v1030 : BitVec 1 := Scalar.cmpi .ne v1029 c0_i32_637
  v1030

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev92 : Nat :=
  let c0_i32_775 : BitVec 32 := 0#32
  let c28_i32_773 : BitVec 32 := 28#32
  let c1_i32_774 : BitVec 32 := 1#32
  let v1232 : BitVec 32 := Scalar.muli c28_i32_773 c1_i32_774
  let v1233 : BitVec 32 := Scalar.addi c0_i32_775 v1232
  v1233.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_638 : BitVec 32 := 29#32
  let v1031 : BitVec 1 := Scalar.cmpi .ne v2 c29_i32_638
  let v1032 : BitVec 32 := Scalar.extui v1031
  let c0_i32_639 : BitVec 32 := 0#32
  let v1033 : BitVec 1 := Scalar.cmpi .ne v1032 c0_i32_639
  v1033

def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev93 : Nat :=
  let c0_i32_775 : BitVec 32 := 0#32
  let c29_i32_773 : BitVec 32 := 29#32
  let c1_i32_774 : BitVec 32 := 1#32
  let v1232 : BitVec 32 := Scalar.muli c29_i32_773 c1_i32_774
  let v1233 : BitVec 32 := Scalar.addi c0_i32_775 v1232
  v1233.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_640 : BitVec 32 := 30#32
  let v1034 : BitVec 1 := Scalar.cmpi .ne v2 c30_i32_640
  let v1035 : BitVec 32 := Scalar.extui v1034
  let c0_i32_641 : BitVec 32 := 0#32
  let v1036 : BitVec 1 := Scalar.cmpi .ne v1035 c0_i32_641
  v1036

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev94 : Nat :=
  let c0_i32_775 : BitVec 32 := 0#32
  let c30_i32_773 : BitVec 32 := 30#32
  let c1_i32_774 : BitVec 32 := 1#32
  let v1232 : BitVec 32 := Scalar.muli c30_i32_773 c1_i32_774
  let v1233 : BitVec 32 := Scalar.addi c0_i32_775 v1232
  v1233.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_642 : BitVec 32 := 31#32
  let v1037 : BitVec 1 := Scalar.cmpi .ne v2 c31_i32_642
  let v1038 : BitVec 32 := Scalar.extui v1037
  let c0_i32_643 : BitVec 32 := 0#32
  let v1039 : BitVec 1 := Scalar.cmpi .ne v1038 c0_i32_643
  v1039

def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_776 : BitVec 32 := 0#32
  ![v4.toNat, 0]
def k0_dev95 : Nat :=
  let c0_i32_775 : BitVec 32 := 0#32
  let c31_i32_773 : BitVec 32 := 31#32
  let c1_i32_774 : BitVec 32 := 1#32
  let v1232 : BitVec 32 := Scalar.muli c31_i32_773 c1_i32_774
  let v1233 : BitVec 32 := Scalar.addi c0_i32_775 v1232
  v1233.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_708 : BitVec 32 := 0#32
  let v1136 : BitVec 1 := Scalar.cmpi .ne v2 c0_i32_708
  let v1137 : BitVec 32 := Scalar.extui v1136
  let c0_i32_709 : BitVec 32 := 0#32
  let v1138 : BitVec 1 := Scalar.cmpi .ne v1137 c0_i32_709
  v1138

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_784 : BitVec 32 := 0#32
  ![v4.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_710 : BitVec 32 := 1#32
  let v1139 : BitVec 1 := Scalar.cmpi .ne v2 c1_i32_710
  let v1140 : BitVec 32 := Scalar.extui v1139
  let c0_i32_711 : BitVec 32 := 0#32
  let v1141 : BitVec 1 := Scalar.cmpi .ne v1140 c0_i32_711
  v1141

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_784 : BitVec 32 := 0#32
  ![v4.toNat, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_712 : BitVec 32 := 2#32
  let v1142 : BitVec 1 := Scalar.cmpi .ne v2 c2_i32_712
  let v1143 : BitVec 32 := Scalar.extui v1142
  let c0_i32_713 : BitVec 32 := 0#32
  let v1144 : BitVec 1 := Scalar.cmpi .ne v1143 c0_i32_713
  v1144

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_784 : BitVec 32 := 0#32
  ![v4.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_714 : BitVec 32 := 3#32
  let v1145 : BitVec 1 := Scalar.cmpi .ne v2 c3_i32_714
  let v1146 : BitVec 32 := Scalar.extui v1145
  let c0_i32_715 : BitVec 32 := 0#32
  let v1147 : BitVec 1 := Scalar.cmpi .ne v1146 c0_i32_715
  v1147

def k0_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_784 : BitVec 32 := 0#32
  ![v4.toNat, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_716 : BitVec 32 := 4#32
  let v1148 : BitVec 1 := Scalar.cmpi .ne v2 c4_i32_716
  let v1149 : BitVec 32 := Scalar.extui v1148
  let c0_i32_717 : BitVec 32 := 0#32
  let v1150 : BitVec 1 := Scalar.cmpi .ne v1149 c0_i32_717
  v1150

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_784 : BitVec 32 := 0#32
  ![v4.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_718 : BitVec 32 := 5#32
  let v1151 : BitVec 1 := Scalar.cmpi .ne v2 c5_i32_718
  let v1152 : BitVec 32 := Scalar.extui v1151
  let c0_i32_719 : BitVec 32 := 0#32
  let v1153 : BitVec 1 := Scalar.cmpi .ne v1152 c0_i32_719
  v1153

def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_720 : BitVec 32 := 6#32
  let v1154 : BitVec 1 := Scalar.cmpi .ne v2 c6_i32_720
  let v1155 : BitVec 32 := Scalar.extui v1154
  let c0_i32_721 : BitVec 32 := 0#32
  let v1156 : BitVec 1 := Scalar.cmpi .ne v1155 c0_i32_721
  v1156

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_722 : BitVec 32 := 7#32
  let v1157 : BitVec 1 := Scalar.cmpi .ne v2 c7_i32_722
  let v1158 : BitVec 32 := Scalar.extui v1157
  let c0_i32_723 : BitVec 32 := 0#32
  let v1159 : BitVec 1 := Scalar.cmpi .ne v1158 c0_i32_723
  v1159

def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_724 : BitVec 32 := 8#32
  let v1160 : BitVec 1 := Scalar.cmpi .ne v2 c8_i32_724
  let v1161 : BitVec 32 := Scalar.extui v1160
  let c0_i32_725 : BitVec 32 := 0#32
  let v1162 : BitVec 1 := Scalar.cmpi .ne v1161 c0_i32_725
  v1162

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_726 : BitVec 32 := 9#32
  let v1163 : BitVec 1 := Scalar.cmpi .ne v2 c9_i32_726
  let v1164 : BitVec 32 := Scalar.extui v1163
  let c0_i32_727 : BitVec 32 := 0#32
  let v1165 : BitVec 1 := Scalar.cmpi .ne v1164 c0_i32_727
  v1165

def k0_off141 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_728 : BitVec 32 := 10#32
  let v1166 : BitVec 1 := Scalar.cmpi .ne v2 c10_i32_728
  let v1167 : BitVec 32 := Scalar.extui v1166
  let c0_i32_729 : BitVec 32 := 0#32
  let v1168 : BitVec 1 := Scalar.cmpi .ne v1167 c0_i32_729
  v1168

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_730 : BitVec 32 := 11#32
  let v1169 : BitVec 1 := Scalar.cmpi .ne v2 c11_i32_730
  let v1170 : BitVec 32 := Scalar.extui v1169
  let c0_i32_731 : BitVec 32 := 0#32
  let v1171 : BitVec 1 := Scalar.cmpi .ne v1170 c0_i32_731
  v1171

def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_732 : BitVec 32 := 12#32
  let v1172 : BitVec 1 := Scalar.cmpi .ne v2 c12_i32_732
  let v1173 : BitVec 32 := Scalar.extui v1172
  let c0_i32_733 : BitVec 32 := 0#32
  let v1174 : BitVec 1 := Scalar.cmpi .ne v1173 c0_i32_733
  v1174

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_734 : BitVec 32 := 13#32
  let v1175 : BitVec 1 := Scalar.cmpi .ne v2 c13_i32_734
  let v1176 : BitVec 32 := Scalar.extui v1175
  let c0_i32_735 : BitVec 32 := 0#32
  let v1177 : BitVec 1 := Scalar.cmpi .ne v1176 c0_i32_735
  v1177

def k0_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_736 : BitVec 32 := 14#32
  let v1178 : BitVec 1 := Scalar.cmpi .ne v2 c14_i32_736
  let v1179 : BitVec 32 := Scalar.extui v1178
  let c0_i32_737 : BitVec 32 := 0#32
  let v1180 : BitVec 1 := Scalar.cmpi .ne v1179 c0_i32_737
  v1180

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_738 : BitVec 32 := 15#32
  let v1181 : BitVec 1 := Scalar.cmpi .ne v2 c15_i32_738
  let v1182 : BitVec 32 := Scalar.extui v1181
  let c0_i32_739 : BitVec 32 := 0#32
  let v1183 : BitVec 1 := Scalar.cmpi .ne v1182 c0_i32_739
  v1183

def k0_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_740 : BitVec 32 := 16#32
  let v1184 : BitVec 1 := Scalar.cmpi .ne v2 c16_i32_740
  let v1185 : BitVec 32 := Scalar.extui v1184
  let c0_i32_741 : BitVec 32 := 0#32
  let v1186 : BitVec 1 := Scalar.cmpi .ne v1185 c0_i32_741
  v1186

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_742 : BitVec 32 := 17#32
  let v1187 : BitVec 1 := Scalar.cmpi .ne v2 c17_i32_742
  let v1188 : BitVec 32 := Scalar.extui v1187
  let c0_i32_743 : BitVec 32 := 0#32
  let v1189 : BitVec 1 := Scalar.cmpi .ne v1188 c0_i32_743
  v1189

def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_744 : BitVec 32 := 18#32
  let v1190 : BitVec 1 := Scalar.cmpi .ne v2 c18_i32_744
  let v1191 : BitVec 32 := Scalar.extui v1190
  let c0_i32_745 : BitVec 32 := 0#32
  let v1192 : BitVec 1 := Scalar.cmpi .ne v1191 c0_i32_745
  v1192

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_746 : BitVec 32 := 19#32
  let v1193 : BitVec 1 := Scalar.cmpi .ne v2 c19_i32_746
  let v1194 : BitVec 32 := Scalar.extui v1193
  let c0_i32_747 : BitVec 32 := 0#32
  let v1195 : BitVec 1 := Scalar.cmpi .ne v1194 c0_i32_747
  v1195

def k0_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_748 : BitVec 32 := 20#32
  let v1196 : BitVec 1 := Scalar.cmpi .ne v2 c20_i32_748
  let v1197 : BitVec 32 := Scalar.extui v1196
  let c0_i32_749 : BitVec 32 := 0#32
  let v1198 : BitVec 1 := Scalar.cmpi .ne v1197 c0_i32_749
  v1198

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_750 : BitVec 32 := 21#32
  let v1199 : BitVec 1 := Scalar.cmpi .ne v2 c21_i32_750
  let v1200 : BitVec 32 := Scalar.extui v1199
  let c0_i32_751 : BitVec 32 := 0#32
  let v1201 : BitVec 1 := Scalar.cmpi .ne v1200 c0_i32_751
  v1201

def k0_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_752 : BitVec 32 := 22#32
  let v1202 : BitVec 1 := Scalar.cmpi .ne v2 c22_i32_752
  let v1203 : BitVec 32 := Scalar.extui v1202
  let c0_i32_753 : BitVec 32 := 0#32
  let v1204 : BitVec 1 := Scalar.cmpi .ne v1203 c0_i32_753
  v1204

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_754 : BitVec 32 := 23#32
  let v1205 : BitVec 1 := Scalar.cmpi .ne v2 c23_i32_754
  let v1206 : BitVec 32 := Scalar.extui v1205
  let c0_i32_755 : BitVec 32 := 0#32
  let v1207 : BitVec 1 := Scalar.cmpi .ne v1206 c0_i32_755
  v1207

def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_756 : BitVec 32 := 24#32
  let v1208 : BitVec 1 := Scalar.cmpi .ne v2 c24_i32_756
  let v1209 : BitVec 32 := Scalar.extui v1208
  let c0_i32_757 : BitVec 32 := 0#32
  let v1210 : BitVec 1 := Scalar.cmpi .ne v1209 c0_i32_757
  v1210

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_758 : BitVec 32 := 25#32
  let v1211 : BitVec 1 := Scalar.cmpi .ne v2 c25_i32_758
  let v1212 : BitVec 32 := Scalar.extui v1211
  let c0_i32_759 : BitVec 32 := 0#32
  let v1213 : BitVec 1 := Scalar.cmpi .ne v1212 c0_i32_759
  v1213

def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_760 : BitVec 32 := 26#32
  let v1214 : BitVec 1 := Scalar.cmpi .ne v2 c26_i32_760
  let v1215 : BitVec 32 := Scalar.extui v1214
  let c0_i32_761 : BitVec 32 := 0#32
  let v1216 : BitVec 1 := Scalar.cmpi .ne v1215 c0_i32_761
  v1216

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_762 : BitVec 32 := 27#32
  let v1217 : BitVec 1 := Scalar.cmpi .ne v2 c27_i32_762
  let v1218 : BitVec 32 := Scalar.extui v1217
  let c0_i32_763 : BitVec 32 := 0#32
  let v1219 : BitVec 1 := Scalar.cmpi .ne v1218 c0_i32_763
  v1219

def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_764 : BitVec 32 := 28#32
  let v1220 : BitVec 1 := Scalar.cmpi .ne v2 c28_i32_764
  let v1221 : BitVec 32 := Scalar.extui v1220
  let c0_i32_765 : BitVec 32 := 0#32
  let v1222 : BitVec 1 := Scalar.cmpi .ne v1221 c0_i32_765
  v1222

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_766 : BitVec 32 := 29#32
  let v1223 : BitVec 1 := Scalar.cmpi .ne v2 c29_i32_766
  let v1224 : BitVec 32 := Scalar.extui v1223
  let c0_i32_767 : BitVec 32 := 0#32
  let v1225 : BitVec 1 := Scalar.cmpi .ne v1224 c0_i32_767
  v1225

def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_768 : BitVec 32 := 30#32
  let v1226 : BitVec 1 := Scalar.cmpi .ne v2 c30_i32_768
  let v1227 : BitVec 32 := Scalar.extui v1226
  let c0_i32_769 : BitVec 32 := 0#32
  let v1228 : BitVec 1 := Scalar.cmpi .ne v1227 c0_i32_769
  v1228

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_770 : BitVec 32 := 31#32
  let v1229 : BitVec 1 := Scalar.cmpi .ne v2 c31_i32_770
  let v1230 : BitVec 32 := Scalar.extui v1229
  let c0_i32_771 : BitVec 32 := 0#32
  let v1231 : BitVec 1 := Scalar.cmpi .ne v1230 c0_i32_771
  v1231

def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let v4 : BitVec 32 := v3
  let c0_i32_783 : BitVec 32 := 0#32
  ![v4.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩
abbrev S256x512 : Shape := ⟨2, ![256, 512]⟩

abbrev nBuf : Space → Nat
  | .hbm => 69
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S2x128x128x128, .f32⟩
  | .hbm, ⟨29, _⟩ => ⟨S_, .f32⟩
  | .hbm, ⟨30, _⟩ => ⟨S2x128x128x128, .f32⟩
  | .hbm, ⟨31, _⟩ => ⟨S2x128x128x128, .f32⟩
  | .hbm, ⟨32, _⟩ => ⟨S1x1x128x128, .i1⟩
  | .hbm, ⟨33, _⟩ => ⟨S_, .f32⟩
  | .hbm, ⟨34, _⟩ => ⟨S_, .f32⟩
  | .hbm, ⟨35, _⟩ => ⟨S2x128x128x128, .i1⟩
  | .hbm, ⟨36, _⟩ => ⟨S2x128x128x128, .f32⟩
  | .hbm, ⟨37, _⟩ => ⟨S2x128x128x128, .f32⟩
  | .hbm, ⟨38, _⟩ => ⟨S_, .f32⟩
  | .hbm, ⟨39, _⟩ => ⟨S2x128x128, .f32⟩
  | .hbm, ⟨40, _⟩ => ⟨S2x128x128x1, .f32⟩
  | .hbm, ⟨41, _⟩ => ⟨S2x128x128x128, .f32⟩
  | .hbm, ⟨42, _⟩ => ⟨S2x128x128x128, .f32⟩
  | .hbm, ⟨43, _⟩ => ⟨S2x128x128x128, .f32⟩
  | .hbm, ⟨44, _⟩ => ⟨S_, .i1⟩
  | .hbm, ⟨45, _⟩ => ⟨S128, .i1⟩
  | .hbm, ⟨46, _⟩ => ⟨S1x1x128x1, .i1⟩
  | .hbm, ⟨47, _⟩ => ⟨S_, .f32⟩
  | .hbm, ⟨48, _⟩ => ⟨S2x128x128, .f32⟩
  | .hbm, ⟨49, _⟩ => ⟨S2x128x128x1, .f32⟩
  | .hbm, ⟨50, _⟩ => ⟨S_, .f32⟩
  | .hbm, ⟨51, _⟩ => ⟨S_, .f32⟩
  | .hbm, ⟨52, _⟩ => ⟨S2x128x128x1, .i1⟩
  | .hbm, ⟨53, _⟩ => ⟨S2x128x128x1, .f32⟩
  | .hbm, ⟨54, _⟩ => ⟨S2x128x128x1, .f32⟩
  | .hbm, ⟨55, _⟩ => ⟨S2x128x128x128, .f32⟩
  | .hbm, ⟨56, _⟩ => ⟨S2x128x128x128, .f32⟩
  | .hbm, ⟨57, _⟩ => ⟨S1x1x128x1, .i1⟩
  | .hbm, ⟨58, _⟩ => ⟨S_, .f32⟩
  | .hbm, ⟨59, _⟩ => ⟨S_, .f32⟩
  | .hbm, ⟨60, _⟩ => ⟨S2x128x128x128, .i1⟩
  | .hbm, ⟨61, _⟩ => ⟨S2x128x128x128, .f32⟩
  | .hbm, ⟨62, _⟩ => ⟨S2x128x128x128, .f32⟩
  | .hbm, ⟨63, _⟩ => ⟨S2x128x64x128, .f32⟩
  | .hbm, ⟨64, _⟩ => ⟨S2x128x128x64, .f32⟩
  | .hbm, ⟨65, _⟩ => ⟨S2x128x8192, .f32⟩
  | .hbm, ⟨66, _⟩ => ⟨S2x128x512, .f32⟩
  | .hbm, ⟨67, _⟩ => ⟨S256x512, .f32⟩
  | .hbm, ⟨68, _⟩ => ⟨S256x512, .bf16⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Vals.lean ====
/-
What the kernel computes on each device, named: the blocks it stages, the two 128-row products it stores, the
segments that arrive from the other devices, and the sum it sends round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KProof

open Cert.KernelIdeal Cert.KernelIdeal.Gen
open Idealize.ShloMosaic
open Idealize.ShloMosaic.TcCoe
open Idealize.ShloMosaic.ValueIdx (ix2)

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers of one device -/

abbrev xM : Memref sig .tc .vmem S2x128x512 .f32 := Memref.whole cc0_stg0_0
abbrev kM : Memref sig .tc .vmem S2x128x4x64 .f32 := Memref.whole cc0_stg1_0
abbrev vM : Memref sig .tc .vmem S2x128x4x64 .f32 := Memref.whole cc0_stg2_0
abbrev oM : Memref sig .tc .vmem S256x512 .bf16 := Memref.whole cc0_stg3_0
abbrev cM : Memref sig .tc .vmem S256x512 .bf16 := Memref.whole cc0_scratch0
abbrev wqM : Memref sig .tc .vmem S512x256 .f32 := Memref.whole cc0_scratch1
abbrev woM : Memref sig .tc .vmem S256x512 .f32 := Memref.whole cc0_scratch2
abbrev wqHbm : Memref sig .tc .hbm S512x8192 .f32 := Memref.whole main_arg1
abbrev woHbm : Memref sig .tc .hbm S8192x512 .f32 := Memref.whole main_arg4

/-- The 256 columns of the query weights device `c` uses. -/
abbrev wqSrc (c : Dev nD) : Memref sig .tc .hbm S512x256 .f32 :=
  wqHbm.slice (Rect.unit (s := S512x8192) (k0_off1 c) S512x256.size (k0_off1_inb c)) (fun _ => rfl)
/-- The 256 rows of the output weights device `c` uses. -/
abbrev woSrc (c : Dev nD) : Memref sig .tc .hbm S256x512 .f32 :=
  woHbm.slice (Rect.unit (s := S8192x512) (k0_off2 c) S256x512.size (k0_off2_inb c)) (fun _ => rfl)

/-- The eight rows of a device lie within the 256. -/
theorem seg_inb (j : Dev nD) : ∀ a, (![8 * j.val, 0] : Fin 2 → ℕ) a + S8x512.size a ≤ S256x512.size a := by
  revert j; decide

/-- The eight rows of a 256-row buffer that belong to device `j`. -/
abbrev segR (j : Dev nD) : Rect S256x512 := Rect.unit (s := S256x512) ![8 * j.val, 0] S8x512.size (seg_inb j)

/-! ## Contents -/

def xC (c : Dev nD) : (cc0_stg0_0).ty.Contents (Elt F) := (win0_0.blk (0 : Fin 1)).view.read (Elt F) (m ((c : Thread nD τ).loc main_arg0))
def kC (c : Dev nD) : (cc0_stg1_0).ty.Contents (Elt F) := (win0_1.blk (0 : Fin 1)).view.read (Elt F) (m ((c : Thread nD τ).loc main_arg2))
def vC (c : Dev nD) : (cc0_stg2_0).ty.Contents (Elt F) := (win0_2.blk (0 : Fin 1)).view.read (Elt F) (m ((c : Thread nD τ).loc main_arg3))
def wqC (c : Dev nD) : Vec F S512x256 .f32 := (wqSrc c).view.read (Elt F) (m ((c : Thread nD τ).loc main_arg1))
def woC (c : Dev nD) : Vec F S256x512 .f32 := (woSrc c).view.read (Elt F) (m ((c : Thread nD τ).loc main_arg4))

/-- The rows of one batch lie within the input. -/
theorem xl_inb (b : Fin 2) : ∀ a, (![b.val, 0, 0] : Fin 3 → ℕ) a + S1x128x512.size a ≤ S2x128x512.size a := by
  revert b; decide
/-- The rows of one batch and head lie within the keys. -/
theorem kl_inb (b : Fin 2) (h : Fin 4) : ∀ a, (![b.val, 0, h.val, 0] : Fin 4 → ℕ) a + S1x128x1x64.size a ≤ S2x128x4x64.size a := by
  revert b h; decide

/-- Batch `b` of the activations, as loaded. -/
def xl (c : Dev nD) (b : Fin 2) : Vec F S1x128x512 .f32 :=
  xM.view.readAt (Elt F) (Rect.unit (s := S2x128x512) ![b.val, 0, 0] S1x128x512.size (xl_inb b)).toLoadRect (xC m c)
/-- Keys of batch `b` and head `h`, as loaded. -/
def kl (c : Dev nD) (b : Fin 2) (h : Fin 4) : Vec F S1x128x1x64 .f32 :=
  kM.view.readAt (Elt F) (Rect.unit (s := S2x128x4x64) ![b.val, 0, h.val, 0] S1x128x1x64.size (kl_inb b h)).toLoadRect (kC m c)
/-- Values of batch `b` and head `h`, as loaded. -/
def vl (c : Dev nD) (b : Fin 2) (h : Fin 4) : Vec F S1x128x1x64 .f32 :=
  vM.view.readAt (Elt F) (Rect.unit (s := S2x128x4x64) ![b.val, 0, h.val, 0] S1x128x1x64.size (kl_inb b h)).toLoadRect (vC m c)

def w426 (c : Dev nD) : FVec F S512x256 .bf16 := k0_pay1 (wqC m c)
def w428 (c : Dev nD) : FVec F S256x512 .bf16 := k0_pay2 (woC m c)

/-! The partial products of batch 0, as the code keeps them. -/
def w433 (c : Dev nD) : FVec F S128x256 .bf16 := k0_pay3 (wqC m c) (xl m c 0)
def w455 (c : Dev nD) : FVec F S128x64 .f32 := k0_pay5 (wqC m c) (xl m c 0) (kl m c 0 0) (vl m c 0 0)
def w484 (c : Dev nD) : FVec F S128x512 .f32 := k0_pay6 (w428 m c) (w433 m c) (k0_pay4 (F := F)) (w455 m c) (kl m c 0 1) (vl m c 0 1)
def w491 (c : Dev nD) : FVec F S128x128 .f32 := k0_pay7 (w433 m c) (kl m c 0 2)
def w493 (c : Dev nD) : FVec F S128x1 .f32 := k0_pay8 (w433 m c) (kl m c 0 2)
def w509 (c : Dev nD) : FVec F S128x512 .f32 := k0_pay9 (w428 m c) (w484 m c) (w491 m c) (w493 m c) (vl m c 0 2)
def w531 (c : Dev nD) : FVec F S128x64 .bf16 := k0_pay10 (w433 m c) (kl m c 0 3) (vl m c 0 3)
def w532 (c : Dev nD) : FVec F S64x512 .bf16 := k0_pay11 (w428 m c)
/-- Rows 0 to 127 of device `c`'s partial result. -/
def part0 (c : Dev nD) : FVec F S128x512 .bf16 :=
  k0_pay12 (w509 m c) (w531 m c) (w532 m c) (constant S128x512 .f32 0x00000000#32)

/-! The partial products of batch 1. -/
def w589 (c : Dev nD) : FVec F S128x256 .bf16 := k0_pay13 (w426 m c) (xl m c 1)
def w591 (c : Dev nD) : FVec F S128x64 .bf16 := k0_pay15 (w426 m c) (xl m c 1)
def w615 (c : Dev nD) : FVec F S128x512 .f32 := k0_pay16 (w428 m c) (k0_pay14 (F := F)) (w591 m c) (kl m c 1 0) (vl m c 1 0)
def w632 (c : Dev nD) : FVec F S128x128 .bf16 := k0_pay17 (w589 m c) (kl m c 1 1)
def w665 (c : Dev nD) : FVec F S128x512 .f32 :=
  k0_pay18 (w428 m c) (w589 m c) (w615 m c) (w632 m c) (vl m c 1 1) (kl m c 1 2) (vl m c 1 2)
def w666 (c : Dev nD) : FVec F S128x64 .bf16 := k0_pay19 (w589 m c)
def w669 (c : Dev nD) : FVec F S128x64 .bf16 := k0_pay20 (kl m c 1 3)
/-- Rows 128 to 255 of device `c`'s partial result. -/
def part1 (c : Dev nD) : FVec F S128x512 .bf16 :=
  k0_pay21 (w428 m c) (w665 m c) (w666 m c) (w669 m c) (constant S128x128 .f32 0x00000000#32) (vl m c 1 3)

/-- Device `c`'s whole partial result. -/
def pC (c : Dev nD) : FVec F S256x512 .bf16 := fun i =>
  if h : (i 0).val < 128 then part0 m c (ix2 ⟨(i 0).val, h⟩ (i 1))
  else part1 m c (ix2 ⟨(i 0).val - 128, by have : (i 0).val < 256 := (i 0).isLt; omega⟩ (i 1))

/-- The row of the whole result that row `r` of device `d`'s segment is. -/
abbrev rowOf (d : Dev nD) (r : Fin 8) : Fin 256 := ⟨8 * d.val + r.val, by have : d.val < 32 := d.isLt; omega⟩

/-- The device a row belongs to, and the row's place in that device's segment. -/
abbrev devOf (r : Fin 256) : Dev nD := ⟨r.val / 8, by have := r.isLt; show r.val / 8 < 32; omega⟩
abbrev inSeg (r : Fin 256) : Fin 8 := ⟨r.val % 8, Nat.mod_lt _ (by decide)⟩

/-- What device `d`'s receive buffer holds after the exchange: segment `s` is device `s`'s partial of `d`'s rows. -/
def cC (d : Dev nD) : FVec F S256x512 .bf16 := fun i => pC m (devOf (i 0)) (ix2 (rowOf d (inSeg (i 0))) (i 1))

def seg (d : Dev nD) (j : Dev nD) : Vec F S8x512 .bf16 :=
  cM.view.readAt (Elt F) (segR j).toLoadRect (cC m d)

def w859 (c : Dev nD) : FVec F S8x512 .f32 := k0_pay23 (seg m c 0) (seg m c 1) (seg m c 2) (seg m c 3) (seg m c 4)
def w895 (c : Dev nD) : FVec F S8x512 .f32 := k0_pay24 (w859 m c) (seg m c 5) (seg m c 6) (seg m c 7) (seg m c 8) (seg m c 9) (seg m c 10) (seg m c 11) (seg m c 12) (seg m c 13) (seg m c 14) (seg m c 15) (seg m c 16)
def w931 (c : Dev nD) : FVec F S8x512 .f32 := k0_pay25 (w895 m c) (seg m c 17) (seg m c 18) (seg m c 19) (seg m c 20) (seg m c 21) (seg m c 22) (seg m c 23) (seg m c 24) (seg m c 25) (seg m c 26) (seg m c 27) (seg m c 28)
/-- The reduced segment of device `c`. -/
def redV (c : Dev nD) : FVec F S8x512 .bf16 := k0_pay26 (w931 m c) (seg m c 29) (seg m c 30) (seg m c 31)

/-- The whole result. -/
def rC : FVec F S256x512 .bf16 := fun i => redV m (devOf (i 0)) (ix2 (inSeg (i 0)) (i 1))

/-! ## How the contents fit together -/

/-- The row of an index in the segment of j is 8j more than its row there. -/
theorem emb_seg0 (j : Dev nD) (x : (segR j).shape.Idx) : ((segR j).emb x 0).val = 8 * j.val + (x 0).val := by
  rw [Rect.emb_apply]; simp [Rect.unit]
/-- The column of an index in a segment is unchanged. -/
theorem emb_seg1 (j : Dev nD) (x : (segR j).shape.Idx) : ((segR j).emb x 1) = x 1 := by
  apply Fin.ext; rw [Rect.emb_apply]; simp [Rect.unit]

/-- The device of a row in the segment of j is j. -/
theorem devOf_emb (j : Dev nD) (x : (segR j).shape.Idx) : devOf ((segR j).emb x 0) = j := by
  apply Fin.ext; show ((segR j).emb x 0).val / 8 = j.val
  rw [emb_seg0]; have : (x 0).val < 8 := (x 0).isLt; omega
/-- The place of a row within its segment. -/
theorem inSeg_emb (j : Dev nD) (x : (segR j).shape.Idx) : inSeg ((segR j).emb x 0) = x 0 := by
  apply Fin.ext; show ((segR j).emb x 0).val % 8 = (x 0).val
  rw [emb_seg0]; have : (x 0).val < 8 := (x 0).isLt; omega

/-- On device `j`'s rows the whole result is what device `j` reduced. -/
theorem rC_emb (j : Dev nD) (x : (segR j).shape.Idx) : rC m ((segR j).emb x) = redV m j x := by
  unfold rC
  rw [devOf_emb, inSeg_emb, emb_seg1]
  exact congrArg (redV m j) (ValueIdx.eq_ix2 x).symm

/-- The rows of device `c` in the receive buffer of device `d` are the rows of device `d` in the partial result of `c`. -/
theorem cC_emb (d c : Dev nD) (x : S8x512.Idx) : cC m d ((segR c).emb x) = pC m c ((segR d).emb x) := by
  unfold cC
  rw [devOf_emb, inSeg_emb, emb_seg1]
  refine congrArg (pC m c) (funext fun a => Fin.ext ?_)
  fin_cases a
  · exact (emb_seg0 d x).symm
  · exact congrArg Fin.val (emb_seg1 d x).symm

end Cert.KProof

end
-- ==== Proof.Sched.lean ====
/-
The protocol. Device `c` talks to each of the other 31 devices over
* the barrier cell (`c` hands device `d` the rows of its own receive buffer that `d` will write),
* its send cell 0 and the receive cell 1 of the exchange of partial rows,
* its send cell 2 and the receive cell 3 of the round in which the reduced rows go to everyone,
and over two cells of its own for the two copies of its weights.
-/
module

public import proofs.«01_k».proof.Proof.Vals

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The barrier semaphore. -/
abbrev barS : Sem sig := (SemArray.scalar (sig.barrier 0 rfl) : Sems sig S_).sem
/-- The two semaphores of the weight copies. -/
def sw (k : Fin 2) : DmaSem sig := (⟨4 + k.val, by have := k.isLt; omega⟩ : Fin 134)
/-- Entry `d` of the `k`-th array of 32 transfer semaphores. -/
def sx (k : Fin 4) (d : Dev nD) : DmaSem sig :=
  (⟨6 + 32 * k.val + d.val, by have := k.isLt; have : d.val < 32 := d.isLt; omega⟩ : Fin 134)

abbrev barCell (c : Dev nD) : GSem nD τ sig := ((c : Thread nD τ), .reg barS)
abbrev wCell (c : Dev nD) (k : Fin 2) : GSem nD τ sig := ((c : Thread nD τ), .dma (sw k))
abbrev xCell (c : Dev nD) (k : Fin 4) (d : Dev nD) : GSem nD τ sig := ((c : Thread nD τ), .dma (sx k d))

/-- The semaphores of the kernel itself, in order. -/
abbrev osem (i : Fin 130) : SemLoc sig := .dma ((⟨4 + i.val, by have := i.isLt; omega⟩ : Fin 134))
/-- All cells of the protocol: the barrier, then the kernel's own. -/
abbrev csem : Option (Fin 130) → SemLoc sig
  | none => .reg barS
  | some i => osem i
abbrev kcell (ck : Dev nD × Option (Fin 130)) : GSem nD τ sig := ((ck.1 : Thread nD τ), csem ck.2)

/-- Where the weight cells and the transfer cells stand among the kernel's own. -/
def wi (k : Fin 2) : Fin 130 := ⟨k.val, by have := k.isLt; omega⟩
def xi (k : Fin 4) (d : Dev nD) : Fin 130 := ⟨2 + 32 * k.val + d.val, by have := k.isLt; have : d.val < 32 := d.isLt; omega⟩

/-- The scoped semaphore of a weight cell. -/
theorem osem_wi (k : Fin 2) : osem (wi k) = .dma (sw k) := rfl
/-- The scoped semaphore of a transfer cell. -/
theorem osem_xi (k : Fin 4) (d : Dev nD) : osem (xi k d) = .dma (sx k d) := by
  unfold osem xi sx; congr 1; apply Fin.ext; show 4 + (2 + 32 * k.val + d.val) = 6 + 32 * k.val + d.val; omega

/-! ## Amounts -/

abbrev segM {sp : Space} (b : Memref sig .tc sp S256x512 .bf16) (j : Dev nD) : Memref sig .tc sp S8x512 .bf16 :=
  b.slice (segR j) (fun _ => rfl)

/-- What one transfer of eight rows credits. -/
def NB : ℕ := (segM cM 0).view.dmaCredit
/-- A transfer of eight rows has a positive amount. -/
theorem NB_pos : 0 < NB := View.dmaCredit_pos _ (by decide)
/-- What the copies of the weights credit. -/
def NW (k : Fin 2) : ℕ := if k = 0 then wqM.view.dmaCredit else woM.view.dmaCredit
/-- A weight copy has a positive amount. -/
theorem NW_pos (k : Fin 2) : 0 < NW k := by
  unfold NW; split
  · exact View.dmaCredit_pos _ (by decide)
  · exact View.dmaCredit_pos _ (by decide)

/-- A segment of the receive buffer has the amount of eight rows. -/
theorem credit_c (j : Dev nD) : (segM cM j).view.dmaCredit = NB := rfl
/-- A segment of the result buffer has the amount of eight rows. -/
theorem credit_o (j : Dev nD) : (segM oM j).view.dmaCredit = NB := rfl

/-! ## What the cells hand over -/

/-- Device `d`'s receive-buffer rows for device `p`. -/
def cSeg (d p : Dev nD) (f : Buf (Elt F) ((segM cM p).view.loc (d : Thread nD τ))) : sProp 𝕄 :=
  (segM cM p).view.loc (d : Thread nD τ) ↦[(segM cM p).view.set]{fullShare} f
/-- Device `d`'s result-buffer rows for device `p`, at a share. -/
def oSeg (d p : Dev nD) (q : PosShare TreeShare) (f : Buf (Elt F) ((segM oM p).view.loc (d : Thread nD τ))) : sProp 𝕄 :=
  (segM oM p).view.loc (d : Thread nD τ) ↦[(segM oM p).view.set]{q} f

omit [FloatOps F] in
instance cSeg_storable (d p : Dev nD) (f) : BI.Storable (upEmb : UEmb _ 𝕄) (cSeg (F := F) d p f) := by unfold cSeg; infer_instance
omit [FloatOps F] in
instance oSeg_storable (d p : Dev nD) (q) (f) : BI.Storable (upEmb : UEmb _ 𝕄) (oSeg (F := F) d p q f) := by unfold oSeg; infer_instance

/-- The other devices. -/
abbrev peers (c : Dev nD) : Finset (Dev nD) := Finset.univ.erase c

def wqPts (c : Dev nD) (f : Buf (Elt F) (wqM.view.loc (c : Thread nD τ))) : sProp 𝕄 :=
  wqM.view.loc (c : Thread nD τ) ↦[wqM.view.set]{fullShare} f
def woPts (c : Dev nD) (f : Buf (Elt F) (woM.view.loc (c : Thread nD τ))) : sProp 𝕄 :=
  woM.view.loc (c : Thread nD τ) ↦[woM.view.set]{fullShare} f
def wqSrcPts (c : Dev nD) : sProp 𝕄 :=
  (wqSrc c).view.loc (c : Thread nD τ) ↦[(wqSrc c).view.set]{fullShare} (m ((c : Thread nD τ).loc main_arg1))
def woSrcPts (c : Dev nD) : sProp 𝕄 :=
  (woSrc c).view.loc (c : Thread nD τ) ↦[(woSrc c).view.set]{fullShare} (m ((c : Thread nD τ).loc main_arg4))

/-- A weight copy hands back the filled scratch and the columns or rows it read. -/
def wPay (k : Fin 2) (c : Dev nD) : sProp 𝕄 :=
  if k = 0 then iprop(wqPts c (wqC m c) ∗ wqSrcPts m c) else iprop(woPts c (woC m c) ∗ woSrcPts m c)
/-- Device `p` hands device `c` the rows of its receive buffer that `c` will write. -/
def barPay (c p : Dev nD) : sProp 𝕄 := iprop(∃ f, cSeg p c f)
/-- What a transfer of kind `k` between `c` (the cell's owner) and `d` hands `c`: nothing at the send cell of the
    exchange; at its receive cell the arrived rows and the rows of `d` they came from; at the send cell of the second
    round the share of its reduced rows lent to the transfer; at its receive cell `d`'s reduced rows. -/
def xPay (k : Fin 4) (c d : Dev nD) : sProp 𝕄 :=
  match k with
  | 0 => iprop(emp)
  | 1 => iprop(cSeg c d (cC m c) ∗ oSeg d c fullShare (pC m d))
  | 2 => oSeg c c (dealOf fullShare (peers c) d) (rC m)
  | 3 => oSeg c d fullShare (rC m)

instance wPay_storable (k : Fin 2) (c : Dev nD) : BI.Storable (upEmb : UEmb _ 𝕄) (wPay m k c) := by
  unfold wPay wqPts woPts wqSrcPts woSrcPts; split <;> infer_instance
omit [FloatOps F] in
instance barPay_storable (c p : Dev nD) : BI.Storable (upEmb : UEmb _ 𝕄) (barPay (F := F) c p) := by unfold barPay; infer_instance
instance xPay_storable (k : Fin 4) (c d : Dev nD) : BI.Storable (upEmb : UEmb _ 𝕄) (xPay m k c d) := by
  unfold xPay; fin_cases k <;> dsimp only <;> infer_instance

/-! ## The schedule -/

/-- The kind and the device of a transfer semaphore. -/
def kdOf (n : Fin 134) : Fin 4 := ⟨(n.val - 6) / 32 % 4, Nat.mod_lt _ (by decide)⟩
def dvOf (n : Fin 134) : Dev nD := (⟨(n.val - 6) % 32, Nat.mod_lt _ (by decide)⟩ : Fin 32)

/-- The kind of a transfer semaphore. -/
theorem kdOf_sx (k : Fin 4) (d : Dev nD) : kdOf (sx k d) = k := by
  apply Fin.ext; show (6 + 32 * k.val + d.val - 6) / 32 % 4 = k.val
  have := k.isLt; have : d.val < 32 := d.isLt; omega
/-- The device of a transfer semaphore. -/
theorem dvOf_sx (k : Fin 4) (d : Dev nD) : dvOf (sx k d) = d := by
  apply Fin.ext; show (6 + 32 * k.val + d.val - 6) % 32 = d.val
  have := k.isLt; have : d.val < 32 := d.isLt; omega

def dutiesAt (c : Dev nD) : SemLoc sig → Finset (Dev nD)
  | .reg _ => peers c
  | .dma n => if (n : Fin 134).val < 4 then ∅ else if (n : Fin 134).val < 6 then {c} else if dvOf n = c then ∅ else {c}
def amountAt : SemLoc sig → ℕ
  | .reg _ => 1
  | .dma n => if (n : Fin 134).val = 4 then NW 0 else if (n : Fin 134).val = 5 then NW 1 else NB
def payAt (c d : Dev nD) : SemLoc sig → sProp 𝕄
  | .reg _ => barPay c d
  | .dma n => if (n : Fin 134).val < 4 then iprop(emp) else if (n : Fin 134).val = 4 then wPay m 0 c else if (n : Fin 134).val = 5 then wPay m 1 c
      else xPay m (kdOf n) c (dvOf n)

/-- One round: a barrier cell has a duty for every other device, a weight cell one, a transfer cell one unless it would
    be a transfer of a device to itself. The one duty of a cell of transfers is named by the cell's owner. -/
def Rd : Rounds.Schedule (GSem nD τ sig) (Dev nD) 𝕄 where
  duties g r := if r = 0 ∧ g.1.2 = .tc then dutiesAt g.1.1 g.2 else ∅
  unitless _ := False
  amount g _ _ := amountAt g.2
  payload g _ d := payAt m g.1.1 d g.2
  amount_pos g _ _ _ := by
    unfold amountAt; split
    · exact Nat.one_pos
    · split
      · exact NW_pos 0
      · split
        · exact NW_pos 1
        · exact NB_pos

instance Rd_payload_storable (g : GSem nD τ sig) (r : ℕ) (d : Dev nD) :
    BI.Storable (upEmb : UEmb _ 𝕄) ((Rd (F := F) m).payload g r d) := by
  show BI.Storable upEmb (payAt m g.1.1 d g.2)
  unfold payAt
  (repeat' split) <;> infer_instance

section Sched
variable (c d : Dev nD)

/-- No cell has duties after the first round. -/
theorem duties_later (g : GSem nD τ sig) : ∀ r, 1 ≤ r → (Rd (F := F) m).duties g r = ∅ :=
  fun r hr => by dsimp only [Rd]; rw [if_neg fun h => by omega]
/-- At a barrier every other device has a duty. -/
theorem duties_bar : (Rd (F := F) m).duties (barCell c) 0 = peers c := rfl
/-- At a weight cell the device itself has the duty. -/
theorem duties_w (k : Fin 2) : (Rd (F := F) m).duties (wCell c k) 0 = {c} := by
  fin_cases k <;> rfl
/-- At a transfer cell for another device there is one duty. -/
theorem duties_x (k : Fin 4) (h : d ≠ c) : (Rd (F := F) m).duties (xCell c k d) 0 = {c} := by
  show dutiesAt c (.dma (sx k d)) = {c}
  have hk : ¬ (sx k d : Fin 134).val < 4 := by show ¬ 6 + 32 * k.val + d.val < 4; omega
  have hk' : ¬ (sx k d : Fin 134).val < 6 := by show ¬ 6 + 32 * k.val + d.val < 6; omega
  unfold dutiesAt; dsimp only; rw [if_neg hk, if_neg hk', dvOf_sx, if_neg h]
/-- At a transfer cell for the device itself there is none. -/
theorem duties_x_self (k : Fin 4) (r : ℕ) : (Rd (F := F) m).duties (xCell c k c) r = ∅ := by
  show (if r = 0 ∧ _ then dutiesAt c (.dma (sx k c)) else ∅) = ∅
  have hk : ¬ (sx k c : Fin 134).val < 4 := by show ¬ 6 + 32 * k.val + c.val < 4; omega
  have hk' : ¬ (sx k c : Fin 134).val < 6 := by show ¬ 6 + 32 * k.val + c.val < 6; omega
  unfold dutiesAt; dsimp only; rw [if_neg hk, if_neg hk', dvOf_sx, if_pos rfl, ite_self]

/-- A barrier duty is one unit. -/
theorem amount_bar (p : Dev nD) : (Rd (F := F) m).amount (barCell c) 0 p = 1 := rfl
/-- A weight duty is the amount of the copy. -/
theorem amount_w (k : Fin 2) (p : Dev nD) : (Rd (F := F) m).amount (wCell c k) 0 p = NW k := by fin_cases k <;> rfl
/-- The amount at a transfer semaphore is that of eight rows. -/
theorem amountAt_x (k : Fin 4) : amountAt (.dma (sx k d)) = NB := by
  have hk : ¬ (sx k d : Fin 134).val = 4 := by show ¬ 6 + 32 * k.val + d.val = 4; omega
  have hk' : ¬ (sx k d : Fin 134).val = 5 := by show ¬ 6 + 32 * k.val + d.val = 5; omega
  unfold amountAt; dsimp only; rw [if_neg hk, if_neg hk']
/-- A transfer duty is the amount of eight rows. -/
theorem amount_x (k : Fin 4) (p : Dev nD) : (Rd (F := F) m).amount (xCell c k d) 0 p = NB := amountAt_x d k

/-- What a barrier duty hands over. -/
theorem payload_bar (p : Dev nD) : (Rd (F := F) m).payload (barCell c) 0 p = barPay c p := rfl
/-- What a weight duty hands over. -/
theorem payload_w (k : Fin 2) (p : Dev nD) : (Rd (F := F) m).payload (wCell c k) 0 p = wPay m k c := by fin_cases k <;> rfl
/-- What a transfer duty hands over. -/
theorem payload_x (k : Fin 4) (p : Dev nD) : (Rd (F := F) m).payload (xCell c k d) 0 p = xPay m k c d := by
  show payAt m c p (.dma (sx k d)) = _
  have hk : ¬ (sx k d : Fin 134).val < 4 := by show ¬ 6 + 32 * k.val + d.val < 4; omega
  have hk' : ¬ (sx k d : Fin 134).val = 4 := by show ¬ 6 + 32 * k.val + d.val = 4; omega
  have hk'' : ¬ (sx k d : Fin 134).val = 5 := by show ¬ 6 + 32 * k.val + d.val = 5; omega
  unfold payAt; dsimp only; rw [if_neg hk, if_neg hk', if_neg hk'', kdOf_sx, dvOf_sx]

/-- A barrier expects 31 units. -/
theorem expect_bar : (Rd (F := F) m).expect (barCell c) 0 = 31 := by
  unfold Schedule.expect Schedule.amountOf
  rw [duties_bar, Finset.sum_congr rfl fun p _ => amount_bar m c p, Finset.sum_const, Finset.card_erase_of_mem (Finset.mem_univ _),
    Finset.card_univ, smul_eq_mul]
  rfl
/-- A weight cell expects the amount of its copy. -/
theorem expect_w (k : Fin 2) : (Rd (F := F) m).expect (wCell c k) 0 = NW k := by
  unfold Schedule.expect Schedule.amountOf; rw [duties_w, Finset.sum_singleton, amount_w]
/-- A transfer cell expects the amount of eight rows. -/
theorem expect_x (k : Fin 4) (h : d ≠ c) : (Rd (F := F) m).expect (xCell c k d) 0 = NB := by
  unfold Schedule.expect Schedule.amountOf; rw [duties_x m c d k h, Finset.sum_singleton, amount_x]

/-- All that a barrier hands over: something from every other device. -/
theorem rest_bar : bigSep ((Rd (F := F) m).duties (barCell c) 0 \ ∅) (fun p => (Rd (F := F) m).payload (barCell c) 0 p)
    = bigSep (peers c) (fun p => barPay c p) := by rw [Finset.sdiff_empty, duties_bar]; rfl
/-- All that a weight cell hands over. -/
theorem rest_w (k : Fin 2) : bigSep ((Rd (F := F) m).duties (wCell c k) 0 \ ∅) (fun p => (Rd (F := F) m).payload (wCell c k) 0 p)
    = wPay m k c := by rw [Finset.sdiff_empty, duties_w, bigSep_singleton, payload_w]
/-- All that a transfer cell hands over. -/
theorem rest_x (k : Fin 4) (h : d ≠ c) : bigSep ((Rd (F := F) m).duties (xCell c k d) 0 \ ∅) (fun p => (Rd (F := F) m).payload (xCell c k d) 0 p)
    = xPay m k c d := by rw [Finset.sdiff_empty, duties_x m c d k h, bigSep_singleton, payload_x]

end Sched

/-! ## Ranges of devices -/

/-- The other devices from `a` up to before `b`. -/
def rng (c : Dev nD) (a b : ℕ) : Finset (Dev nD) := Finset.univ.filter (fun d => (a ≤ d.val ∧ d.val < b) ∧ d ≠ c)
/-- The device `i` places after `c`. -/
def shift (c : Dev nD) (i : ℕ) : Dev nD := (⟨(c.val + i) % 32, Nat.mod_lt _ (by decide)⟩ : Fin 32)
/-- The other devices at least `i` places after `c`. -/
def brng (c : Dev nD) (i : ℕ) : Finset (Dev nD) := Finset.univ.filter (fun d => i ≤ (d.val + 32 - c.val) % 32 ∧ d ≠ c)

/-- Membership in a range of other devices. -/
theorem mem_rng {c d : Dev nD} {a b : ℕ} : d ∈ rng c a b ↔ (a ≤ d.val ∧ d.val < b) ∧ d ≠ c := by
  unfold rng; rw [Finset.mem_filter]; exact ⟨fun h => h.2, fun h => ⟨Finset.mem_univ _, h⟩⟩
/-- Membership in the other devices at least i places after c. -/
theorem mem_brng {c d : Dev nD} {i : ℕ} : d ∈ brng c i ↔ i ≤ (d.val + 32 - c.val) % 32 ∧ d ≠ c := by
  unfold brng; rw [Finset.mem_filter]; exact ⟨fun h => h.2, fun h => ⟨Finset.mem_univ _, h⟩⟩

/-- The range over all numbers is all the others. -/
theorem rng_all (c : Dev nD) : rng c 0 32 = peers c := by
  ext d; rw [mem_rng, Finset.mem_erase]; have : d.val < 32 := d.isLt
  exact ⟨fun h => ⟨h.2, Finset.mem_univ _⟩, fun h => ⟨⟨Nat.zero_le _, this⟩, h.1⟩⟩
/-- An empty range of numbers has no devices. -/
theorem rng_empty (c : Dev nD) (a b : ℕ) (h : b ≤ a) : rng c a b = ∅ := by
  ext d; rw [mem_rng]; simp; omega
/-- A range from c on is that from the next number on. -/
theorem rng_skip (c : Dev nD) (b : ℕ) : rng c c.val b = rng c (c.val + 1) b := by
  ext d; rw [mem_rng, mem_rng]
  constructor
  · rintro ⟨⟨h1, h2⟩, h3⟩; exact ⟨⟨by have : d.val ≠ c.val := fun h => h3 (Fin.ext h)
                                      omega, h2⟩, h3⟩
  · rintro ⟨⟨h1, h2⟩, h3⟩; exact ⟨⟨by omega, h2⟩, h3⟩
/-- A range ending after c is that ending before it. -/
theorem rng_skip' (c : Dev nD) (a : ℕ) : rng c a (c.val + 1) = rng c a c.val := by
  ext d; rw [mem_rng, mem_rng]
  constructor
  · rintro ⟨⟨h1, h2⟩, h3⟩; exact ⟨⟨h1, by have : d.val ≠ c.val := fun h => h3 (Fin.ext h)
                                          omega⟩, h3⟩
  · rintro ⟨⟨h1, h2⟩, h3⟩; exact ⟨⟨h1, by omega⟩, h3⟩
/-- The first device of a range, taken off. -/
theorem rng_pop (c d : Dev nD) (b : ℕ) (hd : d ≠ c) (hb : d.val < b) : rng c d.val b = insert d (rng c (d.val + 1) b) := by
  ext e; rw [Finset.mem_insert, mem_rng, mem_rng]
  constructor
  · rintro ⟨⟨h1, h2⟩, h3⟩
    by_cases h : e = d
    · exact .inl h
    · exact .inr ⟨⟨by have : e.val ≠ d.val := fun h' => h (Fin.ext h')
                      omega, h2⟩, h3⟩
  · rintro (rfl | ⟨⟨h1, h2⟩, h3⟩)
    · exact ⟨⟨le_refl _, hb⟩, hd⟩
    · exact ⟨⟨by omega, h2⟩, h3⟩
/-- The device taken off is not in the rest. -/
theorem rng_pop_not (c d : Dev nD) (b : ℕ) : d ∉ rng c (d.val + 1) b := by rw [mem_rng]; omega
/-- A range extended by one device at its end. -/
theorem rng_push (c d : Dev nD) (a : ℕ) (hd : d ≠ c) (ha : a ≤ d.val) : rng c a (d.val + 1) = insert d (rng c a d.val) := by
  ext e; rw [Finset.mem_insert, mem_rng, mem_rng]
  constructor
  · rintro ⟨⟨h1, h2⟩, h3⟩
    by_cases h : e = d
    · exact .inl h
    · exact .inr ⟨⟨h1, by have : e.val ≠ d.val := fun h' => h (Fin.ext h')
                          omega⟩, h3⟩
  · rintro (rfl | ⟨⟨h1, h2⟩, h3⟩)
    · exact ⟨⟨ha, by omega⟩, hd⟩
    · exact ⟨⟨h1, by omega⟩, h3⟩
/-- The device added was not in the range. -/
theorem rng_push_not (c d : Dev nD) (a : ℕ) : d ∉ rng c a d.val := by rw [mem_rng]; omega

/-- All the others are at least one place after c. -/
theorem brng_one (c : Dev nD) : brng c 1 = peers c := by
  ext d; rw [mem_brng, Finset.mem_erase]
  have h1 : d.val < 32 := d.isLt
  have h2 : c.val < 32 := c.isLt
  constructor
  · rintro ⟨_, h⟩; exact ⟨h, Finset.mem_univ _⟩
  · rintro ⟨h, _⟩; exact ⟨by have : d.val ≠ c.val := fun h' => h (Fin.ext h')
                             omega, h⟩
/-- None is 32 places after c. -/
theorem brng_end (c : Dev nD) : brng c 32 = ∅ := by
  ext d; rw [mem_brng]; simp; omega
/-- The device fewer than 32 places after c is another one. -/
theorem shift_ne (c : Dev nD) (i : ℕ) (h1 : 1 ≤ i) (h2 : i < 32) : shift c i ≠ c := by
  intro h
  have h : (c.val + i) % 32 = c.val := congrArg Fin.val h
  have hc : c.val < 32 := c.isLt
  omega
/-- The nearest device of those at least i places after c, taken off. -/
theorem brng_pop (c : Dev nD) (i : ℕ) (h1 : 1 ≤ i) (h2 : i < 32) : brng c i = insert (shift c i) (brng c (i + 1)) := by
  have hc : c.val < 32 := c.isLt
  have hs : (shift c i).val = (c.val + i) % 32 := rfl
  ext e; rw [Finset.mem_insert, mem_brng, mem_brng]
  have he : e.val < 32 := e.isLt
  constructor
  · rintro ⟨h, h3⟩
    by_cases h' : e = shift c i
    · exact .inl h'
    · exact .inr ⟨by have : e.val ≠ (shift c i).val := fun h'' => h' (Fin.ext h'')
                     omega, h3⟩
  · rintro (rfl | ⟨h, h3⟩)
    · exact ⟨by omega, shift_ne c i h1 h2⟩
    · exact ⟨by omega, h3⟩
/-- The device taken off is not in the rest. -/
theorem brng_pop_not (c : Dev nD) (i : ℕ) (h2 : i < 32) : shift c i ∉ brng c (i + 1) := by
  have hc : c.val < 32 := c.isLt
  have hs : (shift c i).val = (c.val + i) % 32 := rfl
  rw [mem_brng]; omega

/-! ## What a device owes, and the levels -/

def OB (c : Dev nD) (i : ℕ) : CellTallies nD τ sig Unit := ∑ d ∈ brng c i, tallyAt (barCell d) () 1
/-- The receive credits of kind `k` the device still owes the others from `j` on. -/
def OX (k : Fin 4) (c : Dev nD) (j : ℕ) : CellTallies nD τ sig Unit := ∑ d ∈ rng c j 32, tallyAt (xCell d k c) () NB
def O₀ (c : Dev nD) : CellTallies nD τ sig Unit := OB c 1 + (OX 1 c 0 + OX 3 c 0)

def L (g : GSem nD τ sig) : Finset Unit := if g.1.2 = .tc then {()} else ∅
/-- Barrier cells at 1, the receive cells of the exchange at 2, those of the second round at 3, everything else at 0. -/
def lv (g : GSem nD τ sig) (_ : Unit) : ℕ :=
  match g.2 with
  | .reg _ => 1
  | .dma n => if (n : Fin 134).val < 6 then 0 else if kdOf n = 1 then 2 else if kdOf n = 3 then 3 else 0

/-- Only the cells of the main thread have a level. -/
theorem L_of_ne (g : GSem nD τ sig) (h : g.1.2 ≠ .tc) : L g = ∅ := if_neg h
/-- The cells of the main thread have one level each. -/
theorem L_tc (c : Dev nD) (sm : SemLoc sig) : L ((c : Thread nD τ), sm) = {()} := if_pos rfl

/-- The level of a transfer cell: 2 for arrivals of the first round, 3 for those of the second, 0 for sends. -/
theorem lv_x (c : Dev nD) (k : Fin 4) (d : Dev nD) : lv (xCell c k d) () = if k = 1 then 2 else if k = 3 then 3 else 0 := by
  have hk' : ¬ (sx k d : Fin 134).val < 6 := by show ¬ 6 + 32 * k.val + d.val < 6; omega
  unfold lv; dsimp only; rw [if_neg hk', kdOf_sx]

/-- Where a sum of tallies at single cells is positive, the cell is one of them. -/
theorem pos_sum {s : Finset (Dev nD)} {f : Dev nD → GSem nD τ sig} {n : ℕ} {g : GSem nD τ sig} {u : Unit}
    (h : 0 < (∑ d ∈ s, tallyAt (f d) () n : CellTallies nD τ sig Unit) g u) : ∃ d ∈ s, g = f d := by
  by_contra hn
  push Not at hn
  rw [Finset.sum_apply, Finsupp.finset_sum_apply] at h
  rw [Finset.sum_eq_zero (fun d hd => by rw [tallyAt_apply, if_neg (fun h' => hn d hd h'.1)])] at h
  exact Nat.lt_irrefl 0 h

/-- Where a sum of two tallies is positive, one of them is. -/
theorem pos_add {A B : CellTallies nD τ sig Unit} {g : GSem nD τ sig} {u : Unit} (h : 0 < (A + B) g u) : 0 < A g u ∨ 0 < B g u := by
  rw [Pi.add_apply, Finsupp.add_apply] at h; omega

/-- Transfers are owed at transfer cells only. -/
theorem pos_OX {k : Fin 4} {c : Dev nD} {j : ℕ} {g : GSem nD τ sig} {u : Unit} (h : 0 < OX k c j g u) : ∃ d, g = xCell d k c := by
  obtain ⟨d, _, hd⟩ := pos_sum h; exact ⟨d, hd⟩
/-- Barrier units are owed at barrier cells only. -/
theorem pos_OB {c : Dev nD} {j : ℕ} {g : GSem nD τ sig} {u : Unit} (h : 0 < OB c j g u) : ∃ d, g = barCell d := by
  obtain ⟨d, _, hd⟩ := pos_sum h; exact ⟨d, hd⟩

/-- A device may wait on a cell at level `l` or below while everything it owes stands strictly above `l`. -/
theorem mayWait_of (c : Dev nD) (sm : SemLoc sig) (l : ℕ) (O : CellTallies nD τ sig Unit)
    (hsm : lv ((c : Thread nD τ), sm) () ≤ l)
    (hO : ∀ g u, 0 < O g u → g.1.2 = .tc ∧ l < lv g ()) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

/-- The arrivals owed are at levels above 1. -/
theorem pos_OX13 {c : Dev nD} {j j' : ℕ} {g : GSem nD τ sig} {u : Unit} (h : 0 < (OX 1 c j + OX 3 c j') g u) :
    g.1.2 = .tc ∧ 1 < lv g () := by
  rcases pos_add h with h | h <;> obtain ⟨d, rfl⟩ := pos_OX h
  · exact ⟨rfl, by rw [lv_x]; decide⟩
  · exact ⟨rfl, by rw [lv_x]; decide⟩

/-- Waiting for a copy is allowed at the start and when nothing is owed. -/
theorem mayWait_stage (c : Dev nD) (q : DmaSem sig) (hq : (q : Fin 134).val < 6) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by unfold lv; dsimp only; rw [if_pos hq]) fun g u h => ?_
    rcases pos_add h with h | h
    · obtain ⟨d, rfl⟩ := pos_OB h; exact ⟨rfl, Nat.one_pos⟩
    · exact ⟨(pos_OX13 h).1, by have := (pos_OX13 h).2; omega⟩
  · rw [MayWait_zero]; iintro -; iempintro

/-- Waiting at the barrier is allowed while only arrivals are owed. -/
theorem mayWait_bar (c : Dev nD) (j j' : ℕ) :
    (levAts L lv : sProp 𝕄) ⊢ MayWait (c : Thread nD τ) (.reg barS) () (OX 1 c j + OX 3 c j') :=
  mayWait_of c _ 1 _ (le_refl _) fun g u h => pos_OX13 h
/-- Waiting for a weight copy is allowed while only arrivals are owed. -/
theorem mayWait_w (c : Dev nD) (k : Fin 2) (j j' : ℕ) :
    (levAts L lv : sProp 𝕄) ⊢ MayWait (c : Thread nD τ) (.dma (sw k)) () (OX 1 c j + OX 3 c j') :=
  mayWait_of c _ 0 _ (by fin_cases k <;> exact le_refl _) fun g u h => ⟨(pos_OX13 h).1, by have := (pos_OX13 h).2; omega⟩
/-- Waiting for an arrival of the first round is allowed while only those of the second are owed. -/
theorem mayWait_x1 (c d : Dev nD) (j' : ℕ) :
    (levAts L lv : sProp 𝕄) ⊢ MayWait (c : Thread nD τ) (.dma (sx 1 d)) () (OX 3 c j') :=
  mayWait_of c _ 2 _ (by rw [lv_x]; decide) fun g u h => by
    obtain ⟨e, rfl⟩ := pos_OX h; exact ⟨rfl, by rw [lv_x]; decide⟩
/-- Waiting is allowed when nothing is owed. -/
theorem mayWait_zero (c : Dev nD) (sm : SemLoc sig) :
    (levAts L lv : sProp 𝕄) ⊢ MayWait (c : Thread nD τ) sm () 0 := by
  rw [MayWait_zero]; iintro -; iempintro

/-- When all transfers have begun, none is owed. -/
theorem OX_end (k : Fin 4) (c : Dev nD) : OX k c 32 = 0 := by unfold OX; rw [rng_empty c 32 32 (le_refl _), Finset.sum_empty]
/-- Beginning the transfer to d pays one of those owed. -/
theorem OX_pop (k : Fin 4) (c d : Dev nD) (h : d ≠ c) : OX k c d.val = OX k c (d.val + 1) + tallyAt (xCell d k c) () NB := by
  unfold OX; rw [rng_pop c d 32 h d.isLt, Finset.sum_insert (rng_pop_not c d 32), add_comm]
/-- No transfer is owed to the device itself. -/
theorem OX_skip (k : Fin 4) (c : Dev nD) : OX k c c.val = OX k c (c.val + 1) := by unfold OX; rw [rng_skip]
/-- When all barrier signals are sent, none is owed. -/
theorem OB_end (c : Dev nD) : OB c 32 = 0 := by unfold OB; rw [brng_end, Finset.sum_empty]
/-- Signalling the device i places on pays one of those owed. -/
theorem OB_pop (c : Dev nD) (i : ℕ) (h1 : 1 ≤ i) (h2 : i < 32) : OB c i = OB c (i + 1) + tallyAt (barCell (shift c i)) () 1 := by
  unfold OB; rw [brng_pop c i h1 h2, Finset.sum_insert (brng_pop_not c i h2), add_comm]

/-! ## The shared records -/

/-- The invariants of all cells, under the names `K`, and that each has reached its round 0. -/
def records (K : Dev nD × Option (Fin 130) → ℕ) : sProp 𝕄 :=
  iprop(bigSep Finset.univ (fun ck => cellInv ER (Rd m) (K ck) (kcell ck)) ∗ bigSep Finset.univ (fun ck => reached ER (kcell ck) 0))

instance records_persistent (K) : BI.Persistent (records (F := F) m K) := by unfold records; infer_instance

/-- The records give the invariant of every cell. -/
theorem rec_inv (K) (ck : Dev nD × Option (Fin 130)) : records m K ⊢ cellInv ER (Rd m) (K ck) (kcell ck) := by
  have h : (bigSep Finset.univ (fun ck => cellInv ER (Rd m) (K ck) (kcell ck)) : sProp 𝕄) ⊢ cellInv ER (Rd m) (K ck) (kcell ck) :=
    bigSep_elim (Finset.mem_univ ck)
  unfold records; iintro ⟨H, -⟩; iapply h; iexact H
/-- The records say every cell has reached its first round. -/
theorem rec_reached (K) (ck : Dev nD × Option (Fin 130)) : records m K ⊢ reached ER (kcell ck) 0 := by
  have h : (bigSep Finset.univ (fun ck => reached ER (kcell ck) 0) : sProp 𝕄) ⊢ reached ER (kcell ck) 0 :=
    bigSep_elim (Finset.mem_univ ck)
  unfold records; iintro ⟨-, H⟩; iapply h; iexact H

/-- The invariant of a transfer cell. -/
theorem inv_x (K) (c : Dev nD) (k : Fin 4) (d : Dev nD) : records m K ⊢ cellInv ER (Rd m) (K (c, some (xi k d))) (xCell c k d) := by
  have h := rec_inv m K (c, some (xi k d))
  rwa [show kcell (c, some (xi k d)) = xCell c k d from congrArg (Prod.mk _) (osem_xi k d)] at h
/-- A transfer cell has reached its first round. -/
theorem reached_x (K) (c : Dev nD) (k : Fin 4) (d : Dev nD) : records m K ⊢ reached ER (xCell c k d) 0 := by
  have h := rec_reached m K (c, some (xi k d))
  rwa [show kcell (c, some (xi k d)) = xCell c k d from congrArg (Prod.mk _) (osem_xi k d)] at h
/-- The invariant of a weight cell. -/
theorem inv_w (K) (c : Dev nD) (k : Fin 2) : records m K ⊢ cellInv ER (Rd m) (K (c, some (wi k))) (wCell c k) :=
  rec_inv m K (c, some (wi k))
/-- A weight cell has reached its first round. -/
theorem reached_w (K) (c : Dev nD) (k : Fin 2) : records m K ⊢ reached ER (wCell c k) 0 := rec_reached m K (c, some (wi k))
/-- The invariant of a barrier cell. -/
theorem inv_bar (K) (c : Dev nD) : records m K ⊢ cellInv ER (Rd m) (K (c, none)) (barCell c) := rec_inv m K (c, none)
/-- A barrier cell has reached its first round. -/
theorem reached_bar (K) (c : Dev nD) : records m K ⊢ reached ER (barCell c) 0 := rec_reached m K (c, none)

end Cert.KProof

end
-- ==== Proof.Steps.lean ====
/-
One step of each phase, at a symbolic device `c` and a symbolic partner `j`: a step is taken unless `j` is `c` itself.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 130) → ℕ)

/-- No loop of the program needs a variant. -/
abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every step reads: the cells' records and the levels. -/
def Ctx : sProp 𝕄 := iprop(records m K ∗ levAts L lv)
instance Ctx_persistent : BI.Persistent (Ctx (F := F) m K) := by unfold Ctx; infer_instance

/-- Device `c` owes `O`, whatever it has waited for. -/
def OW (c : Dev nD) (O : CellTallies nD τ sig Unit) : sProp 𝕄 := iprop(∃ W, owes (c : Thread nD τ) O W)

/-- Take one member out of a product over devices. -/
theorem bigSep_take {s t : Finset (Dev nD)} {d : Dev nD} {Φ : Dev nD → sProp 𝕄} (h : s = insert d t) (hd : d ∉ t) :
    bigSep s Φ ⊢ iprop(Φ d ∗ bigSep t Φ) := by rw [h, bigSep_insert hd]; exact BI.Entails.refl _
/-- Put one member into a product over devices. -/
theorem bigSep_give {s t : Finset (Dev nD)} {d : Dev nD} {Φ : Dev nD → sProp 𝕄} (h : s = insert d t) (hd : d ∉ t) :
    iprop(Φ d ∗ bigSep t Φ) ⊢ bigSep s Φ := by rw [h, bigSep_insert hd]; exact BI.Entails.refl _

/-! ## The semaphores and credits as the code names them -/

/-- The number of the d-th semaphore of a row of 32. -/
theorem sem_val (base : ℕ) (hb : base + S32.numel ≤ 134) (d : ℕ) {off : Fin 1 → ℕ} (h : off = ![d])
    {inb : ∀ a, off a + S1.size a ≤ S32.size a} {hq : S1.Squeezes S_} :
    ((((SemArray.consecutive base S32 hb).slice (Rect.unit (s := S32) off S1.size inb)).squeeze S_ hq).sem).val = base + d := by
  subst h
  have e : ∀ j : (Rect.unit (s := S32) ![d] S1.size inb).shape.Idx,
      (S32.rowMajor ((Rect.unit (s := S32) ![d] S1.size inb).emb j)).val = d := fun j => by
    rw [Shape.rowMajor_val_one, Rect.emb_apply]
    have hj : (j 0).val < 1 := (j 0).isLt
    show d + 1 * (j 0).val = d
    omega
  exact congrArg (base + ·) (e _)
/-- The send semaphore of the first round for d, by its name. -/
theorem sem_0 (d : Dev nD) {off : Fin 1 → ℕ} (h : off = ![d.val]) {inb : ∀ a, off a + S1.size a ≤ S32.size a} {hq : S1.Squeezes S_} :
    (((cc0_scratch4 : DmaSems sig S32).slice (Rect.unit (s := S32) off S1.size inb)).squeeze S_ hq).sem = sx 0 d :=
  Fin.ext (sem_val 6 _ d.val h)
/-- The arrival semaphore of the first round for d, by its name. -/
theorem sem_1 (d : Dev nD) {off : Fin 1 → ℕ} (h : off = ![d.val]) {inb : ∀ a, off a + S1.size a ≤ S32.size a} {hq : S1.Squeezes S_} :
    (((cc0_scratch5 : DmaSems sig S32).slice (Rect.unit (s := S32) off S1.size inb)).squeeze S_ hq).sem = sx 1 d :=
  Fin.ext (sem_val 38 _ d.val h)
/-- The send semaphore of the second round for d, by its name. -/
theorem sem_2 (d : Dev nD) {off : Fin 1 → ℕ} (h : off = ![d.val]) {inb : ∀ a, off a + S1.size a ≤ S32.size a} {hq : S1.Squeezes S_} :
    (((cc0_scratch6 : DmaSems sig S32).slice (Rect.unit (s := S32) off S1.size inb)).squeeze S_ hq).sem = sx 2 d :=
  Fin.ext (sem_val 70 _ d.val h)
/-- The arrival semaphore of the second round for d, by its name. -/
theorem sem_3 (d : Dev nD) {off : Fin 1 → ℕ} (h : off = ![d.val]) {inb : ∀ a, off a + S1.size a ≤ S32.size a} {hq : S1.Squeezes S_} :
    (((cc0_scratch7 : DmaSems sig S32).slice (Rect.unit (s := S32) off S1.size inb)).squeeze S_ hq).sem = sx 3 d :=
  Fin.ext (sem_val 102 _ d.val h)

/-- Eight rows of the receive buffer have the amount of eight rows. -/
theorem credit_cs {off : Fin 2 → ℕ} {inb : ∀ a, off a + S8x512.size a ≤ S256x512.size a} {h} :
    (cM.slice (Rect.unit (s := S256x512) off S8x512.size inb) h).view.dmaCredit = NB := rfl
/-- Eight rows of the result buffer have the amount of eight rows. -/
theorem credit_os {off : Fin 2 → ℕ} {inb : ∀ a, off a + S8x512.size a ≤ S256x512.size a} {h} :
    (oM.slice (Rect.unit (s := S256x512) off S8x512.size inb) h).view.dmaCredit = NB := rfl

/-! ## Waits -/

/-- Before the wait for `j` at the cells of kind `k`: the credits and positions from `j` on, and what the earlier waits
    brought. -/
def Wt (k : Fin 4) (c : Dev nD) (j : ℕ) : sProp 𝕄 :=
  iprop(bigSep (rng c j 32) (fun d => iprop(cred (tallyAt (xCell c k d) () NB) ∗ atPos ER (xCell c k d) 0 ∅ 0))
    ∗ bigSep (rng c 0 j) (fun d => iprop(atPos ER (xCell c k d) 1 ∅ 0 ∗ xPay m k c d)))

/-- There is no wait for the device itself. -/
theorem Wt_skip (k : Fin 4) (c : Dev nD) : Wt m k c c.val = Wt m k c (c.val + 1) := by
  unfold Wt; rw [rng_skip, rng_skip']

/-- One wait at a transfer cell brings what the transfer hands over. -/
theorem wait_core (k : Fin 4) (c j : Dev nD) (hj : j ≠ c) {O : CellTallies nD τ sig Unit} {X : sProp 𝕄}
    {α : Type} {Q : α → sProp 𝕄} {rest : Prog (TpuEff nD τ sig (Elt F) Λ₀ .tc) α}
    {sp sp' : Space} {s s' : Shape} {e e' : EltTy}
    {src : Memref sig .tc sp s e} {dst : Memref sig .tc sp' s' e'} {hs : src.view.WordExact} {hd : dst.view.WordExact}
    {sem : DmaSem sig}
    (hsem : sem = sx k j) (hcr : dst.view.dmaCredit = NB)
    (hmw : (levAts L lv : sProp 𝕄) ⊢ MayWait (c : Thread nD τ) (.dma (sx k j)) () O)
    (hk : iprop(Ctx m K ∗ OW c O ∗ Wt m k c (j.val + 1) ∗ X) ⊢ WP c rest Q) :
    iprop(Ctx m K ∗ OW c O ∗ Wt m k c j.val ∗ X)
      ⊢ WP c (Prog.op (.waitDma2 sem src dst hs hd) (fun _ => rest)) Q := by
  subst hsem
  rw [show Wt m k c j.val = iprop(bigSep (rng c j.val 32) (fun d => iprop(cred (tallyAt (xCell c k d) () NB) ∗ atPos ER (xCell c k d) 0 ∅ 0))
    ∗ bigSep (rng c 0 j.val) (fun d => iprop(atPos ER (xCell c k d) 1 ∅ 0 ∗ xPay m k c d))) from rfl]
  unfold Ctx OW
  iintro ⟨⟨#Hrec, #Hlev⟩, ⟨%W, HO⟩, ⟨Hw, Hd⟩, HX⟩
  ihave Hw := (bigSep_take (Φ := fun d => iprop(cred (tallyAt (xCell c k d) () NB) ∗ atPos ER (xCell c k d) 0 ∅ 0))
    (rng_pop c j 32 hj j.isLt) (rng_pop_not c j 32)) $$ Hw
  icases Hw with ⟨⟨Hc, Hat⟩, Hw⟩
  ihave #HI := (inv_x m K c k j) $$ Hrec
  iapply (Rounds.wp_wait_rest_token 𝒱₀ ER (Rd m) (c : Thread nD τ) none (κ := K (c, some (xi k j)))
      (wpE_waitDma2_eq 𝒱₀ (c : Thread nD τ) none Set.univ) (Set.mem_univ _) () (O := O) (W := W) (R := 0) (m := 0) (T := ∅)
      (by rw [Nat.zero_add, expect_x m c j k hj, hcr])) $$ [Hc HO Hat]
  · isplitr; · iexact HI
    isplitl [Hc]; · rw [hcr]; iexact Hc
    isplitl [HO]; · iexact HO
    isplitr; · iapply hmw; iexact Hlev
    iexact Hat
  iintro ⟨HO, Hat, -, Hpay⟩
  ihave Hp := (Entails.of_eq (rest_x m c j k hj)) $$ Hpay
  ihave Hd := (bigSep_give (Φ := fun d => iprop(atPos ER (xCell c k d) 1 ∅ 0 ∗ xPay m k c d))
    (rng_push c j 0 hj (Nat.zero_le _)) (rng_push_not c j 0)) $$ [Hat Hp Hd]
  · isplitl [Hat Hp]
    · isplitl [Hat]
      · iexact Hat
      · iexact Hp
    · iexact Hd
  iapply hk
  unfold Ctx OW Wt
  isplitr
  · isplitr
    · iexact Hrec
    · iexact Hlev
  isplitl [HO]
  · iexists _; iexact HO
  isplitl [Hw Hd]
  · isplitl [Hw]
    · iexact Hw
    · iexact Hd
  iexact HX

/-- One conditional wait. -/
theorem step_wait (k : Fin 4) (c j : Dev nD) {cnd : Prop} [Decidable cnd] {O : CellTallies nD τ sig Unit} {X : sProp 𝕄}
    {α : Type} {Q : α → sProp 𝕄} {rest : Prog (TpuEff nD τ sig (Elt F) Λ₀ .tc) α}
    {sp sp' : Space} {s s' : Shape} {e e' : EltTy}
    {src : cnd → Memref sig .tc sp s e} {dst : cnd → Memref sig .tc sp' s' e'} {hs : ∀ h, (src h).view.WordExact} {hd : ∀ h, (dst h).view.WordExact}
    {sem : DmaSem sig}
    (hc : cnd ↔ j ≠ c) (hsem : sem = sx k j) (hcr : ∀ h, (dst h).view.dmaCredit = NB)
    (hmw : (levAts L lv : sProp 𝕄) ⊢ MayWait (c : Thread nD τ) (.dma (sx k j)) () O)
    (hk : iprop(Ctx m K ∗ OW c O ∗ Wt m k c (j.val + 1) ∗ X) ⊢ WP c rest Q) :
    iprop(Ctx m K ∗ OW c O ∗ Wt m k c j.val ∗ X)
      ⊢ WP c (if h : cnd then (Prog.lift (.waitDma2 sem (src h) (dst h) (hs h) (hd h)) >>= fun _ => rest) else rest) Q := by
  by_cases h : cnd
  · rw [dif_pos h]
    exact wait_core m K k c j (hc.mp h) hsem (hcr h) hmw hk
  · rw [dif_neg h]
    have hj : j = c := by by_contra h'; exact h (hc.mpr h')
    subst hj
    rw [Wt_skip]; exact hk

end Cert.KProof

end
-- ==== Proof.Land.lean ====
/-
What the transfers and stores leave in the buffers, row by row.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- Rows of device `c` in the receive buffer of `j`, after the transfer from `c`. -/
theorem land_rs (c j : Dev nD) (f : Buf (Elt F) ((segM cM c).view.loc (j : Thread nD τ))) :
    ∀ i ∈ (segM cM c).view.set, (segM cM c).view.write (Elt F) f ((segM oM j).view.read (Elt F) (pC m c)) Finset.univ i = cC m j i := by
  intro i hi
  obtain ⟨x, -, rfl⟩ := Finset.mem_map.mp hi
  rw [View.write_emb_of_mem _ _ (Finset.mem_univ x)]
  exact (cC_emb m j c x).symm

/-- Rows of device `c` in any result buffer, after the transfer of the reduced rows. -/
theorem land_ag (c : Dev nD) (f : FVec F S256x512 .bf16) :
    ∀ i ∈ (segM oM c).view.set, (segM oM c).view.write (Elt F) f ((segM oM c).view.read (Elt F) (rC m)) Finset.univ i = rC m i := by
  intro i hi
  obtain ⟨x, -, rfl⟩ := Finset.mem_map.mp hi
  rw [View.write_emb_of_mem _ _ (Finset.mem_univ x)]
  rfl

/-- The payload of an arrival of the exchange. -/
theorem pay_rs (c j : Dev nD) (f : Buf (Elt F) ((segM cM c).view.loc (j : Thread nD τ))) :
    iprop(((segM cM c).view.loc (j : Thread nD τ) ↦[(segM cM c).view.set]{fullShare}
        ((segM cM c).view.write (Elt F) f ((segM oM j).view.read (Elt F) (pC m c)) Finset.univ)) ∗ oSeg c j fullShare (pC m c))
      ⊢ xPay m 1 j c := by
  rw [pointsTo_congr (land_rs m c j f)]
  exact BI.Entails.refl _

/-- The payload of an arrival of the second round. -/
theorem pay_ag (c e : Dev nD) (f : Buf (Elt F) ((segM oM c).view.loc (e : Thread nD τ))) :
    iprop(((segM oM c).view.loc (e : Thread nD τ) ↦[(segM oM c).view.set]{fullShare}
        ((segM oM c).view.write (Elt F) f ((segM oM c).view.read (Elt F) (rC m)) Finset.univ)) : sProp 𝕄)
      ⊢ xPay m 3 e c := by
  rw [pointsTo_congr (land_ag m c f)]
  exact BI.Entails.refl _

end Cert.KProof

end
-- ==== Proof.Steps2.lean ====
/-
One step of each phase that hands something to another device, at a symbolic device `c`.
-/
module

public import proofs.«01_k».proof.Proof.Steps
public import proofs.«01_k».proof.Proof.Land

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 130) → ℕ)

/-! ## The barrier -/

/-- Before the `i`-th signal: what is handed to the devices from the `i`-th on. -/
def Bs (c : Dev nD) (i : ℕ) : sProp 𝕄 :=
  bigSep (brng c i) (fun d => iprop(dutyTok ER (barCell d) 0 c ∗ barPay d c))

/-- One signal of the barrier. -/
theorem step_signal (i : ℕ) (c : Dev nD) {n : Dev nD} {sm : Sem sig} {X : sProp 𝕄}
    {α : Type} {Q : α → sProp 𝕄} {rest : Prog (TpuEff nD τ sig (Elt F) Λ₀ .tc) α}
    (h1 : 1 ≤ i ∧ i < 32) (hn : n = shift c i) (hsm : sm = barS)
    (hk : iprop(Ctx m K ∗ OW c (OB c (i + 1) + (OX 1 c 0 + OX 3 c 0)) ∗ Bs c (i + 1) ∗ X) ⊢ WP c rest Q) :
    iprop(Ctx m K ∗ OW c (OB c i + (OX 1 c 0 + OX 3 c 0)) ∗ Bs c i ∗ X)
      ⊢ WP c (semSignalWord n sm 1#32 >>= fun _ => rest) Q := by
  subst hn hsm
  show _ ⊢ WP c (Prog.op (.semSignal ((shift c i : Dev nD) : Thread nD τ) barS (1#32 : BitVec 32).toInt) (fun _ => rest)) Q
  rw [show Bs (F := F) c i = bigSep (brng c i) (fun d => iprop(dutyTok ER (barCell d) 0 c ∗ barPay d c)) from rfl]
  have hO : OB c i + (OX 1 c 0 + OX 3 c 0) = OB c (i + 1) + (OX 1 c 0 + OX 3 c 0) + tallyAt (barCell (shift c i)) () 1 := by
    rw [OB_pop c i h1.1 h1.2, add_right_comm]
  unfold Ctx OW
  iintro ⟨⟨#Hrec, #Hlev⟩, ⟨%W, HO⟩, Hb, HX⟩
  ihave Hb := (bigSep_take (Φ := fun d => iprop(dutyTok ER (barCell d) 0 c ∗ barPay (F := F) d c))
    (brng_pop c i h1.1 h1.2) (brng_pop_not c i h1.2)) $$ Hb
  icases Hb with ⟨⟨Ht, Hp⟩, Hb⟩
  ihave #HI := (inv_bar m K (shift c i)) $$ Hrec
  ihave #Hr := (reached_bar m K (shift c i)) $$ Hrec
  iapply (Rounds.wp_signal 𝒱₀ ER (Rd m) (c : Thread nD τ) none (dst := ((shift c i : Dev nD) : Thread nD τ)) (κ := K (shift c i, none))
      (d := c) (by rw [duties_bar]; exact Finset.mem_erase.mpr ⟨(shift_ne c i h1.1 h1.2).symm, Finset.mem_univ _⟩)
      ((amount_bar m (shift c i) c).trans (by decide)) () (OB c (i + 1) + (OX 1 c 0 + OX 3 c 0))
      hO) $$ [HO Ht Hp]
  · isplitr; · iexact HI
    isplitl [HO]; · iexact HO
    isplitl [Ht]; · iexact Ht
    isplitl [Hp]; · rw [payload_bar]; iexact Hp
    iexact Hr
  iintro HO
  iapply hk
  unfold Ctx OW Bs
  isplitr
  · isplitr
    · iexact Hrec
    · iexact Hlev
  isplitl [HO]
  · iexists _; iexact HO
  isplitl [Hb]; · iexact Hb
  iexact HX

/-- The wait of the barrier. -/
theorem step_bar (c : Dev nD) {sm : Sem sig} {X : sProp 𝕄} {j j' : ℕ}
    {α : Type} {Q : α → sProp 𝕄} {rest : Prog (TpuEff nD τ sig (Elt F) Λ₀ .tc) α} (hsm : sm = barS)
    (hk : iprop(Ctx m K ∗ OW c (OX 1 c j + OX 3 c j') ∗ (atPos ER (barCell c) 1 ∅ 0 ∗ bigSep (peers c) (fun p => barPay c p)) ∗ X) ⊢ WP c rest Q) :
    iprop(Ctx m K ∗ OW c (OX 1 c j + OX 3 c j') ∗ (atPos ER (barCell c) 0 ∅ 0 ∗ cred (tallyAt (barCell c) () 31)) ∗ X)
      ⊢ WP c (semWaitWord sm 31#32 >>= fun _ => rest) Q := by
  subst hsm
  show _ ⊢ WP c (Prog.op (.semWait barS (31#32 : BitVec 32).toInt) (fun _ => rest)) Q
  unfold Ctx OW
  iintro ⟨⟨#Hrec, #Hlev⟩, ⟨%W, HO⟩, ⟨Hat, Hc⟩, HX⟩
  ihave #HI := (inv_bar m K c) $$ Hrec
  iapply (Rounds.wp_wait_rest_token 𝒱₀ ER (Rd m) (c : Thread nD τ) none (κ := K (c, none))
      (wpE_semWait_eq 𝒱₀ (c : Thread nD τ) none Set.univ) (Set.mem_univ _) () (O := OX 1 c j + OX 3 c j') (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c j j'); iexact Hlev
    iexact Hat
  iintro ⟨HO, Hat, -, Hpay⟩
  ihave Hp := (Entails.of_eq (rest_bar m c)) $$ Hpay
  iapply hk
  unfold Ctx OW
  isplitr
  · isplitr
    · iexact Hrec
    · iexact Hlev
  isplitl [HO]
  · iexists _; iexact HO
  isplitl [Hat Hp]
  · isplitl [Hat]
    · iexact Hat
    · iexact Hp
  iexact HX

/-! ## The exchange of partial rows -/

/-- Before the transfer to `j`: the own rows for the devices from `j` up to before `b`. -/
def Src (b : ℕ) (c : Dev nD) (j : ℕ) : sProp 𝕄 := bigSep (rng c j b) (fun d => oSeg c d fullShare (pC m c))
/-- ... the rows of the receive buffers of the devices from `j` on, and the right to send to them. -/
def Dst (c : Dev nD) (j : ℕ) : sProp 𝕄 :=
  bigSep (rng c j 32) (fun d => iprop(barPay c d ∗ dutyTok ER (xCell c 0 d) 0 c ∗ dutyTok ER (xCell d 1 c) 0 d))
/-- ... and the credits of the transfers begun. -/
def Crs (k : Fin 4) (c : Dev nD) (j : ℕ) : sProp 𝕄 := bigSep (rng c 0 j) (fun d => cred (tallyAt (xCell c k d) () NB))
def Rs (b : ℕ) (c : Dev nD) (j : ℕ) : sProp 𝕄 := iprop(Src m b c j ∗ Dst c j ∗ Crs 0 c j)

/-- In the first round there is no transfer to the device itself. -/
theorem Rs_skip (b : ℕ) (c : Dev nD) : Rs m b c c.val = Rs m b c (c.val + 1) := by
  unfold Rs Src Dst Crs; rw [rng_skip, rng_skip, rng_skip']

/-- One transfer of the first round: the rows for device j start on their way to it. -/
theorem rs_core (b : ℕ) (c j : Dev nD) (hjb : j.val < b) (hj : j ≠ c) {X : sProp 𝕄} {j' : ℕ}
    {α : Type} {Q : α → sProp 𝕄} {rest : Prog (TpuEff nD τ sig (Elt F) Λ₀ .tc) α}
    {n : Dev nD} (hn : n = j) {src dst : Memref sig .tc .vmem S8x512 .bf16} (hsrc : src = segM oM j) (hdst : dst = segM cM c)
    {sS sR : DmaSem sig} (hS : sS = sx 0 j) (hR : sR = sx 1 c) {hsc : dst.view.ref.isScScratch = false} {w1 : src.view.WordExact} {w2 : dst.view.WordExact}
    {w3 : DmaTarget.Typed (nD := nD) (τ := τ) .vmem (.dma sR) (.remote (Dev.tc n : Thread nD τ) dst (.dma sS) hsc)}
    (hk : iprop(Ctx m K ∗ OW c (OX 1 c (j.val + 1) + OX 3 c j') ∗ Rs m b c (j.val + 1) ∗ X) ⊢ WP c rest Q) :
    iprop(Ctx m K ∗ OW c (OX 1 c j.val + OX 3 c j') ∗ Rs m b c j.val ∗ X)
      ⊢ WP c (Prog.op (.enqueueDma src (.remote (Dev.tc n : Thread nD τ) dst (.dma sS) hsc) (.dma sR) w1 w2 w3) (fun _ => rest)) Q := by
  subst hn hsrc hdst hS hR
  rw [show Rs m b c n.val = iprop(bigSep (rng c n.val b) (fun d => oSeg c d fullShare (pC m c))
    ∗ bigSep (rng c n.val 32) (fun d => iprop(barPay c d ∗ dutyTok ER (xCell c 0 d) 0 c ∗ dutyTok ER (xCell d 1 c) 0 d))
    ∗ bigSep (rng c 0 n.val) (fun d => cred (tallyAt (xCell c 0 d) () NB))) from rfl]
  have hO : OX 1 c n.val + OX 3 c j' = OX 1 c (n.val + 1) + OX 3 c j' + tallyAt (xCell n 1 c) () NB := by
    rw [OX_pop 1 c n hj, add_right_comm]
  unfold Ctx OW
  iintro ⟨⟨#Hrec, #Hlev⟩, ⟨%W, HO⟩, ⟨Hs, Hd, Hc⟩, HX⟩
  ihave Hs := (bigSep_take (Φ := fun d => oSeg c d fullShare (pC m c)) (rng_pop c n b hj hjb) (rng_pop_not c n b)) $$ Hs
  icases Hs with ⟨Hsrc, Hs⟩
  ihave Hd := (bigSep_take (Φ := fun d => iprop(barPay (F := F) c d ∗ dutyTok ER (xCell c 0 d) 0 c ∗ dutyTok ER (xCell d 1 c) 0 d))
    (rng_pop c n 32 hj n.isLt) (rng_pop_not c n 32)) $$ Hd
  icases Hd with ⟨⟨Hbp, Ht0, Ht1⟩, Hd⟩
  unfold barPay cSeg
  icases Hbp with ⟨%f, Hbp⟩
  ihave #HI0 := (inv_x m K c 0 n) $$ Hrec
  ihave #Hr0 := (reached_x m K c 0 n) $$ Hrec
  ihave #HI1 := (inv_x m K n 1 c) $$ Hrec
  ihave #Hr1 := (reached_x m K n 1 c) $$ Hrec
  iapply (Rounds.wp_send_landing_pointsTo 𝒱₀ ER (Rd m) (c : Thread nD τ) none (κ₁ := K (c, some (xi 0 n))) (κ₂ := K (n, some (xi 1 c)))
    (r₁ := 0) (r₂ := 0) (d₁ := c) (d₂ := n) (fd := f) (q := fullShare) (fs := pC m c)
    (by rw [duties_x m c n 0 hj]; exact Finset.mem_singleton_self _) (by rw [duties_x m n c 1 hj.symm]; exact Finset.mem_singleton_self _)
    () () NB rfl (amount_x m c n 0 c) (amount_x m n c 1 n) (OX 1 c (n.val + 1) + OX 3 c j')
    hO (W := W)
    (by rw [payload_x]; exact BI.Entails.refl _)
    (by rw [payload_x]; exact pay_rs m c n f)) $$ [Hsrc Hbp HO Ht0 Ht1]
  · isplitr; · iexact HI0
    isplitr; · iexact HI1
    isplitl [Hsrc]; · unfold oSeg; iexact Hsrc
    isplitl [Hbp]; · iexact Hbp
    isplitl [HO]; · iexact HO
    isplitl [Ht0]; · iexact Ht0
    isplitr; · iexact Hr0
    isplitl [Ht1]; · iexact Ht1
    iexact Hr1
  iintro ⟨Hcr, HO⟩
  ihave Hc := (bigSep_give (Φ := fun d => cred (tallyAt (xCell c 0 d) () NB))
    (rng_push c n 0 hj (Nat.zero_le _)) (rng_push_not c n 0)) $$ [Hcr Hc]
  · isplitl [Hcr]
    · iexact Hcr
    · iexact Hc
  iapply hk
  unfold Ctx OW Rs Src Dst Crs barPay cSeg
  isplitr
  · isplitr
    · iexact Hrec
    · iexact Hlev
  isplitl [HO]
  · iexists _; iexact HO
  isplitl [Hs Hd Hc]
  · isplitl [Hs]; · iexact Hs
    isplitl [Hd]; · iexact Hd
    iexact Hc
  iexact HX

/-- One conditional transfer of the exchange. -/
theorem step_rs (b : ℕ) (c j : Dev nD) {cnd : Prop} [Decidable cnd] {X : sProp 𝕄} {j' : ℕ}
    {α : Type} {Q : α → sProp 𝕄} {rest : Prog (TpuEff nD τ sig (Elt F) Λ₀ .tc) α}
    {n : cnd → Dev nD} {src dst : cnd → Memref sig .tc .vmem S8x512 .bf16} {sS sR : cnd → DmaSem sig} {hsc : ∀ h, (dst h).view.ref.isScScratch = false} {w1 : ∀ h, (src h).view.WordExact} {w2 : ∀ h, (dst h).view.WordExact}
    {w3 : ∀ h, DmaTarget.Typed (nD := nD) (τ := τ) .vmem (.dma (sR h)) (.remote (Dev.tc (n h) : Thread nD τ) (dst h) (.dma (sS h)) (hsc h))}
    (hjb : j.val < b) (hc : cnd ↔ j ≠ c) (hn : ∀ h, n h = j) (hsrc : ∀ h, src h = segM oM j) (hdst : ∀ h, dst h = segM cM c)
    (hS : ∀ h, sS h = sx 0 j) (hR : ∀ h, sR h = sx 1 c)
    (hk : iprop(Ctx m K ∗ OW c (OX 1 c (j.val + 1) + OX 3 c j') ∗ Rs m b c (j.val + 1) ∗ X) ⊢ WP c rest Q) :
    iprop(Ctx m K ∗ OW c (OX 1 c j.val + OX 3 c j') ∗ Rs m b c j.val ∗ X)
      ⊢ WP c (if h : cnd then (Prog.lift (.enqueueDma (src h) (.remote (Dev.tc (n h) : Thread nD τ) (dst h) (.dma (sS h)) (hsc h)) (.dma (sR h)) (w1 h) (w2 h) (w3 h))
          >>= fun _ => rest) else rest) Q := by
  by_cases h : cnd
  · rw [dif_pos h]
    exact rs_core m K b c j hjb (hc.mp h) (hn h) (hsrc h) (hdst h) (hS h) (hR h) hk
  · rw [dif_neg h]
    have hj : j = c := by by_contra h'; exact h (hc.mpr h')
    subst hj
    rw [Rs_skip, OX_skip]; exact hk

/-! ## The second round -/

/-- Before the transfer to `j`: the shares of the own reduced rows, the own rows of the other devices' results, the
    right to send to them; the credits of the transfers begun. -/
def Ag (c : Dev nD) (j : ℕ) : sProp 𝕄 :=
  iprop(bigSep (rng c j 32) (fun d => iprop((oSeg c c (dealOf fullShare (peers c) d) (rC m) ∗ oSeg d c fullShare (pC m d))
      ∗ dutyTok ER (xCell c 2 d) 0 c ∗ dutyTok ER (xCell d 3 c) 0 d)) ∗ Crs 2 c j)

/-- In the second round there is no transfer to the device itself. -/
theorem Ag_skip (c : Dev nD) : Ag m c c.val = Ag m c (c.val + 1) := by
  unfold Ag Crs; rw [rng_skip, rng_skip']

set_option maxHeartbeats 800000 in
/-- One transfer of the second round: the reduced rows start on their way to device j. -/
theorem ag_core (c j : Dev nD) (hj : j ≠ c) {X : sProp 𝕄}
    {α : Type} {Q : α → sProp 𝕄} {rest : Prog (TpuEff nD τ sig (Elt F) Λ₀ .tc) α}
    {n : Dev nD} (hn : n = j) {src dst : Memref sig .tc .vmem S8x512 .bf16} (hsrc : src = segM oM c) (hdst : dst = segM oM c)
    {sS sR : DmaSem sig} (hS : sS = sx 2 j) (hR : sR = sx 3 c) {hsc : dst.view.ref.isScScratch = false} {w1 : src.view.WordExact} {w2 : dst.view.WordExact}
    {w3 : DmaTarget.Typed (nD := nD) (τ := τ) .vmem (.dma sR) (.remote (Dev.tc n : Thread nD τ) dst (.dma sS) hsc)}
    (hk : iprop(Ctx m K ∗ OW c (OX 3 c (j.val + 1)) ∗ Ag m c (j.val + 1) ∗ X) ⊢ WP c rest Q) :
    iprop(Ctx m K ∗ OW c (OX 3 c j.val) ∗ Ag m c j.val ∗ X)
      ⊢ WP c (Prog.op (.enqueueDma src (.remote (Dev.tc n : Thread nD τ) dst (.dma sS) hsc) (.dma sR) w1 w2 w3) (fun _ => rest)) Q := by
  subst hn hsrc hdst hS hR
  rw [show Ag m c n.val = iprop(bigSep (rng c n.val 32) (fun d => iprop((oSeg c c (dealOf fullShare (peers c) d) (rC m) ∗ oSeg d c fullShare (pC m d))
      ∗ dutyTok ER (xCell c 2 d) 0 c ∗ dutyTok ER (xCell d 3 c) 0 d))
    ∗ bigSep (rng c 0 n.val) (fun d => cred (tallyAt (xCell c 2 d) () NB))) from rfl]
  unfold Ctx OW
  iintro ⟨⟨#Hrec, #Hlev⟩, ⟨%W, HO⟩, ⟨Hd, Hc⟩, HX⟩
  ihave Hd := (bigSep_take (Φ := fun d => iprop((oSeg c c (dealOf fullShare (peers c) d) (rC m) ∗ oSeg d c fullShare (pC m d))
      ∗ dutyTok ER (xCell c 2 d) 0 c ∗ dutyTok ER (xCell d 3 c) 0 d))
    (rng_pop c n 32 hj n.isLt) (rng_pop_not c n 32)) $$ Hd
  icases Hd with ⟨⟨⟨Hsrc, Hdst⟩, Ht2, Ht3⟩, Hd⟩
  ihave #HI0 := (inv_x m K c 2 n) $$ Hrec
  ihave #Hr0 := (reached_x m K c 2 n) $$ Hrec
  ihave #HI1 := (inv_x m K n 3 c) $$ Hrec
  ihave #Hr1 := (reached_x m K n 3 c) $$ Hrec
  iapply (Rounds.wp_send_pointsTo 𝒱₀ ER (Rd m) (c : Thread nD τ) none (c' := (n : Thread nD τ)) (src := segM oM c) (dst := segM oM c) (κ₁ := K (c, some (xi 2 n))) (κ₂ := K (n, some (xi 3 c)))
    (r₁ := 0) (r₂ := 0) (d₁ := c) (d₂ := n) (fd := pC m n) (q := dealOf fullShare (peers c) n) (fs := rC m)
    (by rw [duties_x m c n 2 hj]; exact Finset.mem_singleton_self _) (by rw [duties_x m n c 3 hj.symm]; exact Finset.mem_singleton_self _)
    () () NB rfl (amount_x m c n 2 c) (amount_x m n c 3 n) (OX 3 c (n.val + 1))
    (OX_pop 3 c n hj) (W := W)
    (by rw [payload_x]; exact BI.Entails.refl _)
    (by rw [payload_x]; exact pay_ag m c n (pC m n))) $$ [Hsrc Hdst HO Ht2 Ht3]
  · isplitr; · iexact HI0
    isplitr; · iexact HI1
    isplitl [Hsrc]; · unfold oSeg; iexact Hsrc
    isplitl [Hdst]; · unfold oSeg; iexact Hdst
    isplitl [HO]; · iexact HO
    isplitl [Ht2]; · iexact Ht2
    isplitr; · iexact Hr0
    isplitl [Ht3]; · iexact Ht3
    iexact Hr1
  iintro ⟨Hcr, HO⟩
  ihave Hc := (bigSep_give (Φ := fun d => cred (tallyAt (xCell c 2 d) () NB))
    (rng_push c n 0 hj (Nat.zero_le _)) (rng_push_not c n 0)) $$ [Hcr Hc]
  · isplitl [Hcr]
    · iexact Hcr
    · iexact Hc
  iapply hk
  unfold Ctx OW Ag Crs
  isplitr
  · isplitr
    · iexact Hrec
    · iexact Hlev
  isplitl [HO]
  · iexists _; iexact HO
  isplitl [Hd Hc]
  · isplitl [Hd]; · iexact Hd
    iexact Hc
  iexact HX

/-- One conditional transfer of the second round. -/
theorem step_ag (c j : Dev nD) {cnd : Prop} [Decidable cnd] {X : sProp 𝕄}
    {α : Type} {Q : α → sProp 𝕄} {rest : Prog (TpuEff nD τ sig (Elt F) Λ₀ .tc) α}
    {n : cnd → Dev nD} {src dst : cnd → Memref sig .tc .vmem S8x512 .bf16} {sS sR : cnd → DmaSem sig} {hsc : ∀ h, (dst h).view.ref.isScScratch = false} {w1 : ∀ h, (src h).view.WordExact} {w2 : ∀ h, (dst h).view.WordExact}
    {w3 : ∀ h, DmaTarget.Typed (nD := nD) (τ := τ) .vmem (.dma (sR h)) (.remote (Dev.tc (n h) : Thread nD τ) (dst h) (.dma (sS h)) (hsc h))}
    (hc : cnd ↔ j ≠ c) (hn : ∀ h, n h = j) (hsrc : ∀ h, src h = segM oM c) (hdst : ∀ h, dst h = segM oM c)
    (hS : ∀ h, sS h = sx 2 j) (hR : ∀ h, sR h = sx 3 c)
    (hk : iprop(Ctx m K ∗ OW c (OX 3 c (j.val + 1)) ∗ Ag m c (j.val + 1) ∗ X) ⊢ WP c rest Q) :
    iprop(Ctx m K ∗ OW c (OX 3 c j.val) ∗ Ag m c j.val ∗ X)
      ⊢ WP c (if h : cnd then (Prog.lift (.enqueueDma (src h) (.remote (Dev.tc (n h) : Thread nD τ) (dst h) (.dma (sS h)) (hsc h)) (.dma (sR h)) (w1 h) (w2 h) (w3 h))
          >>= fun _ => rest) else rest) Q := by
  by_cases h : cnd
  · rw [dif_pos h]
    exact ag_core m K c j (hc.mp h) (hn h) (hsrc h) (hdst h) (hS h) (hR h) hk
  · rw [dif_neg h]
    have hj : j = c := by by_contra h'; exact h (hc.mpr h')
    subst hj
    rw [Ag_skip, OX_skip]; exact hk

/-! ## The last waits -/

/-- The two conditional waits for the transfers to `j` to have left. -/
theorem step_end (c j : Dev nD) {cnd : Prop} [Decidable cnd] {X : sProp 𝕄}
    {α : Type} {Q : α → sProp 𝕄} {rest : Prog (TpuEff nD τ sig (Elt F) Λ₀ .tc) α}
    {sp sp' : Space} {s s' : Shape} {e e' : EltTy} {src : cnd → Memref sig .tc sp s e} {dst : cnd → Memref sig .tc sp' s' e'} {hs : ∀ h, (src h).view.WordExact} {hd : ∀ h, (dst h).view.WordExact}
    {tp tp' : Space} {t t' : Shape} {u u' : EltTy} {src' : cnd → Memref sig .tc tp t u} {dst' : cnd → Memref sig .tc tp' t' u'} {hs' : ∀ h, (src' h).view.WordExact} {hd' : ∀ h, (dst' h).view.WordExact}
    {sA sB : cnd → DmaSem sig}
    (hc : cnd ↔ j ≠ c) (hA : ∀ h, sA h = sx 0 j) (hB : ∀ h, sB h = sx 2 j)
    (hcr : ∀ h, (dst h).view.dmaCredit = NB) (hcr' : ∀ h, (dst' h).view.dmaCredit = NB)
    (hk : iprop(Ctx m K ∗ OW c 0 ∗ Wt m 0 c (j.val + 1) ∗ Wt m 2 c (j.val + 1) ∗ X) ⊢ WP c rest Q) :
    iprop(Ctx m K ∗ OW c 0 ∗ Wt m 0 c j.val ∗ Wt m 2 c j.val ∗ X)
      ⊢ WP c (if h : cnd then (Prog.lift (.waitDma2 (sA h) (src h) (dst h) (hs h) (hd h)) >>= fun _ =>
          Prog.lift (.waitDma2 (sB h) (src' h) (dst' h) (hs' h) (hd' h)) >>= fun _ => rest) else rest) Q := by
  by_cases h : cnd
  · rw [dif_pos h]
    refine wait_core m K 0 c j (hc.mp h) (hA h) (hcr h) (mayWait_zero c _) ?_
    refine BIBase.Entails.trans (Q := iprop(Ctx m K ∗ OW c 0 ∗ Wt m 2 c j.val ∗ Wt m 0 c (j.val + 1) ∗ X)) ?_
      (wait_core m K 2 c j (hc.mp h) (hB h) (hcr' h) (mayWait_zero c _) (BIBase.Entails.trans ?_ hk))
    · iintro ⟨A, B, C, D, E⟩
      isplitl [A]; · iexact A
      isplitl [B]; · iexact B
      isplitl [D]; · iexact D
      isplitl [C]; · iexact C
      iexact E
    · iintro ⟨A, B, C, D, E⟩
      isplitl [A]; · iexact A
      isplitl [B]; · iexact B
      isplitl [D]; · iexact D
      isplitl [C]; · iexact C
      iexact E
  · rw [dif_neg h]
    have hj : j = c := by by_contra h'; exact h (hc.mpr h')
    subst hj
    rw [Wt_skip, Wt_skip]; exact hk

end Cert.KProof

end
-- ==== Proof.Steps3.lean ====
/-
One step of each kind that stays on device `c`: the copies of the weights, the loads and the stores.
-/
module

public import proofs.«01_k».proof.Proof.Steps2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 130) → ℕ)

/-- Run one part, then the rest. -/
theorem wp_then {c : Dev nD} {α β : Type} {A B : sProp 𝕄} {v : α} {p : Prog (TpuEff nD τ sig (Elt F) Λ₀ .tc) α}
    {f : α → Prog (TpuEff nD τ sig (Elt F) Λ₀ .tc) β} {Q : β → sProp 𝕄}
    (h1 : A ⊢ WP c p (fun r => iprop(⌜r = v⌝ ∗ B))) (h2 : B ⊢ WP c (f v) Q) : A ⊢ WP c (p >>= f) Q := by
  unfold WP; rw [wp_bind]
  refine BIBase.Entails.trans h1 (wp_mono _ _ _ fun r => ?_)
  iintro ⟨%h, HB⟩
  subst h
  iapply h2; iexact HB
/-- Run one part whose result nothing depends on, then the rest. -/
theorem wp_then' {c : Dev nD} {α β : Type} {A B : sProp 𝕄} {p : Prog (TpuEff nD τ sig (Elt F) Λ₀ .tc) α}
    {f : α → Prog (TpuEff nD τ sig (Elt F) Λ₀ .tc) β} {Q : β → sProp 𝕄}
    (h1 : A ⊢ WP c p (fun _ => B)) (h2 : ∀ r, B ⊢ WP c (f r) Q) : A ⊢ WP c (p >>= f) Q := by
  unfold WP; rw [wp_bind]
  exact BIBase.Entails.trans h1 (wp_mono _ _ _ fun r => h2 r)
/-- A finished program returns its value and keeps what it held. -/
theorem wp_done {c : Dev nD} {α : Type} {A : sProp 𝕄} {v : α} :
    A ⊢ WP c (Pure.pure v : Prog (TpuEff nD τ sig (Elt F) Λ₀ .tc) α) (fun r => iprop(⌜r = v⌝ ∗ A)) := by
  unfold WP
  rw [Prog.pure_eq_ret, wp_ret]
  iintro H; imodintro
  isplitr
  · ipureintro; rfl
  · iexact H
/-- A finished program keeps what it held. -/
theorem wp_done' {c : Dev nD} {α : Type} {A : sProp 𝕄} {v : α} :
    A ⊢ WP c (Pure.pure v : Prog (TpuEff nD τ sig (Elt F) Λ₀ .tc) α) (fun r => A) := by
  unfold WP
  rw [Prog.pure_eq_ret, wp_ret]
  iintro H; imodintro; iexact H

/-! ## The weights -/

/-- The copied query weights and their source are what their cell hands over. -/
theorem pay_wq (c : Dev nD) (f : Buf (Elt F) (wqM.view.loc (c : Thread nD τ))) :
    iprop((wqM.view.loc (c : Thread nD τ) ↦[wqM.view.set]{fullShare}
        (wqM.view.write (Elt F) f ((wqSrc c).view.read (Elt F) (m ((c : Thread nD τ).loc main_arg1))) Finset.univ)) ∗ wqSrcPts m c)
      ⊢ wPay m 0 c := by
  have h : ∀ i ∈ wqM.view.set, wqM.view.write (Elt F) f ((wqSrc c).view.read (Elt F) (m ((c : Thread nD τ).loc main_arg1))) Finset.univ i
      = wqC m c i := by
    intro i hi
    obtain ⟨x, -, rfl⟩ := Finset.mem_map.mp hi
    rw [View.write_emb_of_mem _ _ (Finset.mem_univ x)]
    rfl
  rw [pointsTo_congr h]
  exact BI.Entails.refl _
/-- The copied output weights and their source are what their cell hands over. -/
theorem pay_wo (c : Dev nD) (f : Buf (Elt F) (woM.view.loc (c : Thread nD τ))) :
    iprop((woM.view.loc (c : Thread nD τ) ↦[woM.view.set]{fullShare}
        (woM.view.write (Elt F) f ((woSrc c).view.read (Elt F) (m ((c : Thread nD τ).loc main_arg4))) Finset.univ)) ∗ woSrcPts m c)
      ⊢ wPay m 1 c := by
  have h : ∀ i ∈ woM.view.set, woM.view.write (Elt F) f ((woSrc c).view.read (Elt F) (m ((c : Thread nD τ).loc main_arg4))) Finset.univ i
      = woC m c i := by
    intro i hi
    obtain ⟨x, -, rfl⟩ := Finset.mem_map.mp hi
    rw [View.write_emb_of_mem _ _ (Finset.mem_univ x)]
    rfl
  rw [pointsTo_congr h]
  exact BI.Entails.refl _

/-- Before the copies of the weights begin. -/
def Wq0 (c : Dev nD) : sProp 𝕄 := iprop(wqSrcPts m c ∗ (∃ f, wqPts c f) ∗ dutyTok ER (wCell c 0) 0 c)
def Wo0 (c : Dev nD) : sProp 𝕄 := iprop(woSrcPts m c ∗ (∃ f, woPts c f) ∗ dutyTok ER (wCell c 1) 0 c)

/-- The copy of the query weights begins. -/
theorem step_wq (c : Dev nD) {O : CellTallies nD τ sig Unit} {X : sProp 𝕄} {α : Type} {Q : α → sProp 𝕄}
    {rest : Prog (TpuEff nD τ sig (Elt F) Λ₀ .tc) α} {sm : DmaSem sig} (hsm : sm = sw 0) {w1 w2 w3}
    (hk : iprop(Ctx m K ∗ OW c O ∗ cred (tallyAt (wCell c 0) () (NW 0)) ∗ X) ⊢ WP c rest Q) :
    iprop(Ctx m K ∗ OW c O ∗ Wq0 m c ∗ X) ⊢ WP c (Prog.lift (.enqueueDma (wqSrc c) (.here wqM) (.dma sm) w1 w2 w3) >>= fun _ => rest) Q := by
  subst hsm
  show _ ⊢ WP c (Prog.op (.enqueueDma (wqSrc c) (.here wqM) (.dma (sw 0)) w1 w2 w3) (fun _ => rest)) Q
  unfold Ctx Wq0 wqSrcPts wqPts
  iintro ⟨⟨#Hrec, #Hlev⟩, HO, ⟨Hs, ⟨%f, Hd⟩, Ht⟩, HX⟩
  ihave #HI := (inv_w m K c 0) $$ Hrec
  ihave #Hr := (reached_w m K c 0) $$ Hrec
  iapply (Rounds.wp_copy_pointsTo 𝒱₀ ER (Rd m) (c : Thread nD τ) none (κ := K (c, some (wi 0))) (r := 0) (d := c) (fd := f) (q := fullShare)
    (by rw [duties_w]; exact Finset.mem_singleton_self _) () (NW 0) rfl (amount_w m c 0 c)
    (by rw [payload_w]; exact pay_wq m c f)) $$ [Hs Hd Ht]
  · isplitr; · iexact HI
    isplitl [Hs]; · iexact Hs
    isplitl [Hd]; · iexact Hd
    isplitl [Ht]; · iexact Ht
    iexact Hr
  iintro Hcr
  iapply hk
  unfold Ctx
  isplitr
  · isplitr
    · iexact Hrec
    · iexact Hlev
  isplitl [HO]; · iexact HO
  isplitl [Hcr]; · iexact Hcr
  iexact HX
/-- The copy of the output weights begins. -/
theorem step_wo (c : Dev nD) {O : CellTallies nD τ sig Unit} {X : sProp 𝕄} {α : Type} {Q : α → sProp 𝕄}
    {rest : Prog (TpuEff nD τ sig (Elt F) Λ₀ .tc) α} {sm : DmaSem sig} (hsm : sm = sw 1) {w1 w2 w3}
    (hk : iprop(Ctx m K ∗ OW c O ∗ cred (tallyAt (wCell c 1) () (NW 1)) ∗ X) ⊢ WP c rest Q) :
    iprop(Ctx m K ∗ OW c O ∗ Wo0 m c ∗ X) ⊢ WP c (Prog.lift (.enqueueDma (woSrc c) (.here woM) (.dma sm) w1 w2 w3) >>= fun _ => rest) Q := by
  subst hsm
  show _ ⊢ WP c (Prog.op (.enqueueDma (woSrc c) (.here woM) (.dma (sw 1)) w1 w2 w3) (fun _ => rest)) Q
  unfold Ctx Wo0 woSrcPts woPts
  iintro ⟨⟨#Hrec, #Hlev⟩, HO, ⟨Hs, ⟨%f, Hd⟩, Ht⟩, HX⟩
  ihave #HI := (inv_w m K c 1) $$ Hrec
  ihave #Hr := (reached_w m K c 1) $$ Hrec
  iapply (Rounds.wp_copy_pointsTo 𝒱₀ ER (Rd m) (c : Thread nD τ) none (κ := K (c, some (wi 1))) (r := 0) (d := c) (fd := f) (q := fullShare)
    (by rw [duties_w]; exact Finset.mem_singleton_self _) () (NW 1) rfl (amount_w m c 1 c)
    (by rw [payload_w]; exact pay_wo m c f)) $$ [Hs Hd Ht]
  · isplitr; · iexact HI
    isplitl [Hs]; · iexact Hs
    isplitl [Hd]; · iexact Hd
    isplitl [Ht]; · iexact Ht
    iexact Hr
  iintro Hcr
  iapply hk
  unfold Ctx
  isplitr
  · isplitr
    · iexact Hrec
    · iexact Hlev
  isplitl [HO]; · iexact HO
  isplitl [Hcr]; · iexact Hcr
  iexact HX

/-- The wait for a copy of weights. -/
theorem step_ww (k : Fin 2) (c : Dev nD) {j j' : ℕ} {X : sProp 𝕄} {α : Type} {Q : α → sProp 𝕄}
    {rest : Prog (TpuEff nD τ sig (Elt F) Λ₀ .tc) α} {sm : DmaSem sig}
    {sp sp' : Space} {s s' : Shape} {e e' : EltTy}
    {src : Memref sig .tc sp s e} {dst : Memref sig .tc sp' s' e'} {hs : src.view.WordExact} {hd : dst.view.WordExact}
    (hsm : sm = sw k) (hcr : dst.view.dmaCredit = NW k)
    (hk : iprop(Ctx m K ∗ OW c (OX 1 c j + OX 3 c j') ∗ (atPos ER (wCell c k) 1 ∅ 0 ∗ wPay m k c) ∗ X) ⊢ WP c rest Q) :
    iprop(Ctx m K ∗ OW c (OX 1 c j + OX 3 c j') ∗ (cred (tallyAt (wCell c k) () (NW k)) ∗ atPos ER (wCell c k) 0 ∅ 0) ∗ X)
      ⊢ WP c (Prog.lift (.waitDma2 sm src dst hs hd) >>= fun _ => rest) Q := by
  subst hsm
  show _ ⊢ WP c (Prog.op (.waitDma2 (sw k) src dst hs hd) (fun _ => rest)) Q
  unfold Ctx OW
  iintro ⟨⟨#Hrec, #Hlev⟩, ⟨%W, HO⟩, ⟨Hc, Hat⟩, HX⟩
  ihave #HI := (inv_w m K c k) $$ Hrec
  iapply (Rounds.wp_wait_rest_token 𝒱₀ ER (Rd m) (c : Thread nD τ) none (κ := K (c, some (wi k)))
      (wpE_waitDma2_eq 𝒱₀ (c : Thread nD τ) none Set.univ) (Set.mem_univ _) () (O := OX 1 c j + OX 3 c j') (W := W) (R := 0) (m := 0) (T := ∅)
      (by rw [Nat.zero_add, expect_w m c k, hcr])) $$ [Hc HO Hat]
  · isplitr; · iexact HI
    isplitl [Hc]; · rw [hcr]; iexact Hc
    isplitl [HO]; · iexact HO
    isplitr; · iapply (mayWait_w c k j j'); iexact Hlev
    iexact Hat
  iintro ⟨HO, Hat, -, Hpay⟩
  ihave Hp := (Entails.of_eq (rest_w m c k)) $$ Hpay
  iapply hk
  unfold Ctx OW
  isplitr
  · isplitr
    · iexact Hrec
    · iexact Hlev
  isplitl [HO]
  · iexists _; iexact HO
  isplitl [Hat Hp]
  · isplitl [Hat]
    · iexact Hat
    · iexact Hp
  iexact HX

/-! ## Loads -/

/-- A rule that takes `P` and gives it back changed to `P'`, next to anything else. -/
theorem step_out {P P' G W W' : sProp 𝕄} (h : P ⊢ iprop((P' -∗ W') -∗ W)) (hk : iprop(P' ∗ G) ⊢ W') : iprop(P ∗ G) ⊢ W := by
  iintro ⟨H, HG⟩
  iapply h $$ H
  iintro H
  iapply hk
  isplitl [H]
  · iexact H
  · iexact HG

/-- A load through a view that is held in whole or in part; `G` is what else is held. -/
theorem load_any {c : Dev nD} {cs : CoreSpace} {s : Shape} {e : EltTy} {M : Memref sig .tc cs s e} {r : LoadRect s} {hl : M.view.LoadsAt r}
    {α : Type} {Q : α → sProp 𝕄} {k : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))} {G A : sProp 𝕄}
    (w : r.shape.Idx → Elt F e)
    (hS : M.view.setOn r.set ⊆ S) (hw : M.view.readAt (Elt F) r f = w)
    (hA : A ⊢ iprop((M.view.loc (c : Thread nD τ) ↦[S]{q} f) ∗ G)) (hB : iprop((M.view.loc (c : Thread nD τ) ↦[S]{q} f) ∗ G) ⊢ A)
    (hk : A ⊢ WP c (k w) Q) : A ⊢ WP c (Prog.lift (.load M r hl) >>= k) Q := by
  subst hw
  have h : (M.view.loc (c : Thread nD τ) ↦[S]{q} f) ⊢ iprop(((M.view.loc (c : Thread nD τ) ↦[S]{q} f) -∗ WP c (k (M.view.readAt (Elt F) r f)) Q)
      -∗ WP c (Prog.op (.load M r hl) k) Q) := wp_load 𝒱₀ (c : Thread nD τ) none Set.univ hS
  exact BIBase.Entails.trans hA (step_out h (BIBase.Entails.trans hB hk))

def xPts (c : Dev nD) : sProp 𝕄 := xM.view.loc (c : Thread nD τ) ↦{fullShare} (xC m c)
def kPts (c : Dev nD) : sProp 𝕄 := kM.view.loc (c : Thread nD τ) ↦{fullShare} (kC m c)
def vPts (c : Dev nD) : sProp 𝕄 := vM.view.loc (c : Thread nD τ) ↦{fullShare} (vC m c)
/-- The staged inputs. -/
def Bufs (c : Dev nD) : sProp 𝕄 := iprop(xPts m c ∗ kPts m c ∗ vPts m c)

section Loads
/-- Reading from the staged input. -/
theorem load_x {c : Dev nD} {A B C X : sProp 𝕄} {α : Type} {Q : α → sProp 𝕄} {r : LoadRect S2x128x512} {hl : xM.view.LoadsAt r} {k : (r.shape.Idx → Elt F .f32) → Prog (TpuEff nD τ sig (Elt F) Λ₀ .tc) α}
    (w : r.shape.Idx → Elt F .f32) (hw : xM.view.readAt (Elt F) r (xC m c) = w)
    (hk : iprop(A ∗ B ∗ C ∗ Bufs m c ∗ X) ⊢ WP c (k w) Q) :
    iprop(A ∗ B ∗ C ∗ Bufs m c ∗ X) ⊢ WP c (Prog.lift (.load xM r hl) >>= k) Q := by
  refine load_any (S := Finset.univ) (q := fullShare) (G := iprop(A ∗ B ∗ C ∗ (kPts m c ∗ vPts m c) ∗ X)) w (Finset.subset_univ _) hw ?_ ?_ hk
  · unfold Bufs xPts
    iintro ⟨HA, HB, HC, ⟨H1, H2, H3⟩, HX⟩
    isplitl [H1]; · iexact H1
    isplitl [HA]; · iexact HA
    isplitl [HB]; · iexact HB
    isplitl [HC]; · iexact HC
    isplitl [H2 H3]
    · isplitl [H2]
      · iexact H2
      · iexact H3
    iexact HX
  · unfold Bufs xPts
    iintro ⟨H1, HA, HB, HC, ⟨H2, H3⟩, HX⟩
    isplitl [HA]; · iexact HA
    isplitl [HB]; · iexact HB
    isplitl [HC]; · iexact HC
    isplitl [H1 H2 H3]
    · isplitl [H1]; · iexact H1
      isplitl [H2]; · iexact H2
      iexact H3
    iexact HX
/-- Reading from the staged keys. -/
theorem load_k {c : Dev nD} {A B C X : sProp 𝕄} {α : Type} {Q : α → sProp 𝕄} {r : LoadRect S2x128x4x64} {hl : kM.view.LoadsAt r} {k : (r.shape.Idx → Elt F .f32) → Prog (TpuEff nD τ sig (Elt F) Λ₀ .tc) α}
    (w : r.shape.Idx → Elt F .f32) (hw : kM.view.readAt (Elt F) r (kC m c) = w)
    (hk : iprop(A ∗ B ∗ C ∗ Bufs m c ∗ X) ⊢ WP c (k w) Q) :
    iprop(A ∗ B ∗ C ∗ Bufs m c ∗ X) ⊢ WP c (Prog.lift (.load kM r hl) >>= k) Q := by
  refine load_any (S := Finset.univ) (q := fullShare) (G := iprop(A ∗ B ∗ C ∗ (xPts m c ∗ vPts m c) ∗ X)) w (Finset.subset_univ _) hw ?_ ?_ hk
  · unfold Bufs kPts
    iintro ⟨HA, HB, HC, ⟨H2, H1, H3⟩, HX⟩
    isplitl [H1]; · iexact H1
    isplitl [HA]; · iexact HA
    isplitl [HB]; · iexact HB
    isplitl [HC]; · iexact HC
    isplitl [H2 H3]
    · isplitl [H2]
      · iexact H2
      · iexact H3
    iexact HX
  · unfold Bufs kPts
    iintro ⟨H1, HA, HB, HC, ⟨H2, H3⟩, HX⟩
    isplitl [HA]; · iexact HA
    isplitl [HB]; · iexact HB
    isplitl [HC]; · iexact HC
    isplitl [H1 H2 H3]
    · isplitl [H2]; · iexact H2
      isplitl [H1]; · iexact H1
      iexact H3
    iexact HX
/-- Reading from the staged values. -/
theorem load_v {c : Dev nD} {A B C X : sProp 𝕄} {α : Type} {Q : α → sProp 𝕄} {r : LoadRect S2x128x4x64} {hl : vM.view.LoadsAt r} {k : (r.shape.Idx → Elt F .f32) → Prog (TpuEff nD τ sig (Elt F) Λ₀ .tc) α}
    (w : r.shape.Idx → Elt F .f32) (hw : vM.view.readAt (Elt F) r (vC m c) = w)
    (hk : iprop(A ∗ B ∗ C ∗ Bufs m c ∗ X) ⊢ WP c (k w) Q) :
    iprop(A ∗ B ∗ C ∗ Bufs m c ∗ X) ⊢ WP c (Prog.lift (.load vM r hl) >>= k) Q := by
  refine load_any (S := Finset.univ) (q := fullShare) (G := iprop(A ∗ B ∗ C ∗ (xPts m c ∗ kPts m c) ∗ X)) w (Finset.subset_univ _) hw ?_ ?_ hk
  · unfold Bufs vPts
    iintro ⟨HA, HB, HC, ⟨H2, H3, H1⟩, HX⟩
    isplitl [H1]; · iexact H1
    isplitl [HA]; · iexact HA
    isplitl [HB]; · iexact HB
    isplitl [HC]; · iexact HC
    isplitl [H2 H3]
    · isplitl [H2]
      · iexact H2
      · iexact H3
    iexact HX
  · unfold Bufs vPts
    iintro ⟨H1, HA, HB, HC, ⟨H2, H3⟩, HX⟩
    isplitl [HA]; · iexact HA
    isplitl [HB]; · iexact HB
    isplitl [HC]; · iexact HC
    isplitl [H1 H2 H3]
    · isplitl [H2]; · iexact H2
      isplitl [H3]; · iexact H3
      iexact H1
    iexact HX

/-- A load of a buffer held at the head of the assumptions. -/
theorem load_hd {c : Dev nD} {X : sProp 𝕄} {α : Type} {Q : α → sProp 𝕄} {cs : CoreSpace} {s : Shape} {e : EltTy} {M : Memref sig .tc cs s e} {r : LoadRect s} {hl : M.view.LoadsAt r}
    {k : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))}
    (w : r.shape.Idx → Elt F e)
    (hS : M.view.setOn r.set ⊆ S) (hw : M.view.readAt (Elt F) r f = w)
    (hk : iprop((M.view.loc (c : Thread nD τ) ↦[S]{q} f) ∗ X) ⊢ WP c (k w) Q) :
    iprop((M.view.loc (c : Thread nD τ) ↦[S]{q} f) ∗ X) ⊢ WP c (Prog.lift (.load M r hl) >>= k) Q :=
  load_any w hS hw (BI.Entails.refl _) (BI.Entails.refl _) hk

/-- A store to a buffer held at the head of the assumptions. -/
theorem store_hd {c : Dev nD} {X : sProp 𝕄} {α : Type} {Q : α → sProp 𝕄} {cs : CoreSpace} {s : Shape} {e : EltTy} {M : Memref sig .tc cs s e} {r : Rect s} {w : r.shape.Idx → Elt F e}
    {Mk : Finset r.shape.Idx} {hx : (M.access r).Stores Mk} {hm : Mk = Finset.univ ∨ ∀ a, r.stride a = 1}
    {rest : Prog (TpuEff nD τ sig (Elt F) Λ₀ .tc) α}
    {S : Finset (Idx ((M.access r).loc (c : Thread nD τ)))} {f g : Buf (Elt F) ((M.access r).loc (c : Thread nD τ))}
    (hS : (M.access r).setOn Mk ⊆ S) (hg : ∀ i ∈ S, (M.access r).write (Elt F) f w Mk i = g i)
    (hk : iprop(((M.access r).loc (c : Thread nD τ) ↦[S]{fullShare} g) ∗ X) ⊢ WP c rest Q) :
    iprop(((M.access r).loc (c : Thread nD τ) ↦[S]{fullShare} f) ∗ X) ⊢ WP c (Prog.lift (.store M r w Mk hx hm) >>= fun _ => rest) Q := by
  show _ ⊢ WP c (Prog.op (.store M r w Mk hx hm) (fun _ => rest)) Q
  have h : ((M.access r).loc (c : Thread nD τ) ↦[S]{fullShare} f) ⊢ iprop((((M.access r).loc (c : Thread nD τ) ↦[S]{fullShare} ((M.access r).write (Elt F) f w Mk)) -∗ WP c rest Q)
      -∗ WP c (Prog.op (.store M r w Mk hx hm) (fun _ => rest)) Q) := wp_store 𝒱₀ (c : Thread nD τ) none Set.univ (w := w) (hx := hx) (hm := hm) (k := fun _ => rest) (f := f) hS
  rw [pointsTo_congr hg] at h
  exact step_out h hk

end Loads

end Cert.KProof

end
-- ==== Proof.Own.lean ====
/-
The result buffer and the receive buffer, whole, by halves and by the rows of each device.
-/
module

public import proofs.«01_k».proof.Proof.Steps3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

/-- A row of the result buffer lies in the segment of d when an eighth of its number is d. -/
theorem mem_segO (d : Dev nD) (i : S256x512.Idx) : i ∈ (segM oM d).view.set ↔ (i 0).val / 8 = d.val := by
  rw [show (segM oM d).view.set = (segR d).set from View.set_slice_whole _ _, Rect.mem_set_unit]
  constructor
  · intro h
    have h0 := h 0
    have h1 : 8 * d.val ≤ (i 0).val := h0.1
    have h2 : (i 0).val < 8 * d.val + 8 := h0.2
    omega
  · intro h a
    have h1 : (i 1).val < 512 := (i 1).isLt
    match a with
    | 0 => exact ⟨show 8 * d.val ≤ (i 0).val by omega, show (i 0).val < 8 * d.val + 8 by omega⟩
    | 1 => exact ⟨Nat.zero_le _, show (i 1).val < 0 + 512 by omega⟩
/-- A row of the receive buffer lies in the segment of d when an eighth of its number is d. -/
theorem mem_segC (d : Dev nD) (i : S256x512.Idx) : i ∈ (segM cM d).view.set ↔ (i 0).val / 8 = d.val := by
  rw [show (segM cM d).view.set = (segR d).set from View.set_slice_whole _ _, show (segR d).set = (segM oM d).view.set from (View.set_slice_whole _ _).symm]
  exact mem_segO d i

/-- The rows of the devices of `S`. -/
def rowsOf (S : Finset (Dev nD)) : Finset S256x512.Idx := Finset.univ.filter (fun i => devOf (i 0) ∈ S)
/-- An index lies in the rows of a set of devices when the device of its row is in the set. -/
theorem mem_rowsOf {S : Finset (Dev nD)} {i : S256x512.Idx} : i ∈ rowsOf S ↔ devOf (i 0) ∈ S := by
  unfold rowsOf; rw [Finset.mem_filter]; exact ⟨fun h => h.2, fun h => ⟨Finset.mem_univ _, h⟩⟩

/-- The result segments of a set of devices make up the rows of the set. -/
theorem rows_biUnion_o (inst : DecidableEq S256x512.Idx) (S : Finset (Dev nD)) :
    @Finset.biUnion _ S256x512.Idx inst S (fun d => (segM oM d).view.set) = rowsOf S := by
  ext i
  rw [Finset.mem_biUnion, mem_rowsOf]
  constructor
  · rintro ⟨d, hd, h⟩
    rw [mem_segO] at h
    have : devOf (i 0) = d := Fin.ext h
    rw [this]; exact hd
  · intro h
    exact ⟨devOf (i 0), h, (mem_segO _ _).mpr rfl⟩
/-- The receive segments of a set of devices make up the rows of the set. -/
theorem rows_biUnion_c (inst : DecidableEq S256x512.Idx) (S : Finset (Dev nD)) :
    @Finset.biUnion _ S256x512.Idx inst S (fun d => (segM cM d).view.set) = rowsOf S := by
  ext i
  rw [Finset.mem_biUnion, mem_rowsOf]
  constructor
  · rintro ⟨d, hd, h⟩
    rw [mem_segC] at h
    have : devOf (i 0) = d := Fin.ext h
    rw [this]; exact hd
  · intro h
    exact ⟨devOf (i 0), h, (mem_segC _ _).mpr rfl⟩
/-- The rows of all devices are all the rows. -/
theorem rowsOf_univ : rowsOf Finset.univ = Finset.univ := by
  ext i; rw [mem_rowsOf]; exact ⟨fun _ => Finset.mem_univ _, fun _ => Finset.mem_univ _⟩

def oPts (c : Dev nD) (S : Finset (Dev nD)) (f : Buf (Elt F) (oM.view.loc (c : Thread nD τ))) : sProp 𝕄 :=
  oM.view.loc (c : Thread nD τ) ↦[rowsOf S]{fullShare} f
def cPts (c : Dev nD) (S : Finset (Dev nD)) (f : Buf (Elt F) (cM.view.loc (c : Thread nD τ))) : sProp 𝕄 :=
  cM.view.loc (c : Thread nD τ) ↦[rowsOf S]{fullShare} f

/-- Owning the rows of a set of devices in the result buffer is owning each of their segments. -/
theorem o_rows (c : Dev nD) (S : Finset (Dev nD)) (f : Buf (Elt F) (oM.view.loc (c : Thread nD τ))) :
    oPts c S f = bigSep S (fun d => oSeg c d fullShare f) := by
  have hd : ∀ d ∈ S, ∀ e ∈ S, d ≠ e → Disjoint (segM oM d).view.set (segM oM e).view.set := fun d _ e _ h =>
    Finset.disjoint_left.mpr fun i h1 h2 => h (Fin.ext (((mem_segO d i).mp h1).symm.trans ((mem_segO e i).mp h2)))
  have h := pointsTo_biUnion (Ix := Unit) (Name := ℕ) (U := UU) (Lvl := ℕ) (q := fullShare) (ℓ := oM.view.loc (c : Thread nD τ)) (f := f)
    S (fun d => (segM oM d).view.set) hd
  exact (congrArg (fun R => (oM.view.loc (c : Thread nD τ) ↦[R]{fullShare} f : sProp 𝕄)) (rows_biUnion_o _ S).symm).trans h
/-- Owning the rows of a set of devices in the receive buffer is owning each of their segments. -/
theorem c_rows (c : Dev nD) (S : Finset (Dev nD)) (f : Buf (Elt F) (cM.view.loc (c : Thread nD τ))) :
    cPts c S f = bigSep S (fun d => cSeg c d f) := by
  have hd : ∀ d ∈ S, ∀ e ∈ S, d ≠ e → Disjoint (segM cM d).view.set (segM cM e).view.set := fun d _ e _ h =>
    Finset.disjoint_left.mpr fun i h1 h2 => h (Fin.ext (((mem_segC d i).mp h1).symm.trans ((mem_segC e i).mp h2)))
  have h := pointsTo_biUnion (Ix := Unit) (Name := ℕ) (U := UU) (Lvl := ℕ) (q := fullShare) (ℓ := cM.view.loc (c : Thread nD τ)) (f := f)
    S (fun d => (segM cM d).view.set) hd
  exact (congrArg (fun R => (cM.view.loc (c : Thread nD τ) ↦[R]{fullShare} f : sProp 𝕄)) (rows_biUnion_c _ S).symm).trans h

/-- The devices of the first and of the second half of the rows. -/
def lo : Finset (Dev nD) := Finset.univ.filter (fun d => d.val < 16)
def hi : Finset (Dev nD) := Finset.univ.filter (fun d => ¬ d.val < 16)

/-- Owning the result buffer is owning its two halves. -/
theorem o_halves (c : Dev nD) (f : Buf (Elt F) (oM.view.loc (c : Thread nD τ))) :
    (oM.view.loc (c : Thread nD τ) ↦{fullShare} f : sProp 𝕄) = iprop(oPts c lo f ∗ oPts c hi f) := by
  have h := o_rows c Finset.univ f
  unfold oPts at h
  rw [rowsOf_univ] at h
  rw [o_rows, o_rows, h, BI.bigSep_filter_split Finset.univ (fun d : Dev nD => d.val < 16)]
  rfl

/-- The own rows, when they lie in `S`. -/
def ownIn (c : Dev nD) (S : Finset (Dev nD)) : sProp 𝕄 := bigSep (S.filter (fun d => d = c)) (fun d => oSeg c d fullShare (pC m c))

/-- The lower half of the partial results: the own rows, if they lie there, and those for the first 16 devices. -/
theorem lo_src (c : Dev nD) : oPts c lo (pC m c) = iprop(ownIn m c lo ∗ Src m 16 c 0) := by
  rw [o_rows, BI.bigSep_filter_split lo (fun d : Dev nD => d = c)]
  unfold ownIn Src
  rw [show lo.filter (fun d => ¬ d = c) = rng c 0 16 by
    ext d; unfold lo; rw [Finset.mem_filter, Finset.mem_filter, mem_rng]
    exact ⟨fun h => ⟨⟨Nat.zero_le _, h.1.2⟩, h.2⟩, fun h => ⟨⟨Finset.mem_univ _, h.1.2⟩, h.2⟩⟩]
  rfl
/-- The upper half of the partial results: the own rows, if they lie there, and those for the last 16 devices. -/
theorem hi_src (c : Dev nD) : oPts c hi (pC m c) = iprop(ownIn m c hi ∗ Src m 32 c 16) := by
  rw [o_rows, BI.bigSep_filter_split hi (fun d : Dev nD => d = c)]
  unfold ownIn Src
  rw [show hi.filter (fun d => ¬ d = c) = rng c 16 32 by
    ext d; unfold hi; rw [Finset.mem_filter, Finset.mem_filter, mem_rng]
    have hd : d.val < 32 := d.isLt
    exact ⟨fun h => ⟨⟨by have := h.1.2; omega, hd⟩, h.2⟩, fun h => ⟨⟨Finset.mem_univ _, by have := h.1.1; omega⟩, h.2⟩⟩]
  rfl
/-- The own rows lie in one half or the other. -/
theorem own_join (c : Dev nD) : iprop(ownIn m c lo ∗ ownIn m c hi) = oSeg c c fullShare (pC m c) := by
  unfold ownIn
  have hd : Disjoint (lo.filter (fun d => d = c)) (hi.filter (fun d => d = c)) := by
    refine Finset.disjoint_left.mpr fun d h1 h2 => ?_
    unfold lo at h1; unfold hi at h2
    rw [Finset.mem_filter, Finset.mem_filter] at h1 h2
    exact h2.1.2 h1.1.2
  refine (BI.bigSep_union hd).symm.trans ?_
  rw [show lo.filter (fun d => d = c) ∪ hi.filter (fun d => d = c) = {c} by
    ext d; unfold lo hi
    rw [Finset.mem_union, Finset.mem_filter, Finset.mem_filter, Finset.mem_filter, Finset.mem_filter, Finset.mem_singleton]
    constructor
    · rintro (h | h) <;> exact h.2
    · intro h
      by_cases h' : d.val < 16
      · exact .inl ⟨⟨Finset.mem_univ _, h'⟩, h⟩
      · exact .inr ⟨⟨Finset.mem_univ _, h'⟩, h⟩]
  rw [bigSep_singleton]

/-! ## Stores -/

/-- The row of an index in a half is its row there plus the first row of the half. -/
theorem half_emb0 (b : ℕ) {inb} (x : S128x512.Idx) :
    ((Rect.unit (s := S256x512) ![b, 0] S128x512.size inb).emb x 0).val = b + (x 0).val := by
  rw [Rect.emb_apply]; simp [Rect.unit]
/-- The column of an index in a half is unchanged. -/
theorem half_emb1 (b : ℕ) {inb} (x : S128x512.Idx) :
    ((Rect.unit (s := S256x512) ![b, 0] S128x512.size inb).emb x 1) = x 1 := by
  apply Fin.ext; rw [Rect.emb_apply]; simp [Rect.unit]

/-- The 128 rows from b on lie in the rows of S if all their devices are in S. -/
theorem half_set (b : ℕ) (S : Finset (Dev nD)) {inb} (h : ∀ n : ℕ, b ≤ n → n < b + 128 → ∀ h : n < 256, devOf ⟨n, h⟩ ∈ S) :
    (oM.access (Rect.unit (s := S256x512) ![b, 0] S128x512.size inb)).set ⊆ rowsOf S := by
  intro i hi
  obtain ⟨x, -, rfl⟩ := Finset.mem_map.mp hi
  rw [mem_rowsOf]
  have h0 := half_emb0 b (inb := inb) x
  have hx : (x 0).val < 128 := (x 0).isLt
  exact h _ (h0.symm ▸ Nat.le_add_right b _ : b ≤ ((Rect.unit (s := S256x512) ![b, 0] S128x512.size inb).emb x 0).val)
    (by omega : ((Rect.unit (s := S256x512) ![b, 0] S128x512.size inb).emb x 0).val < b + 128) _

/-- After the store of the first 128 rows. -/
theorem store_lo (c : Dev nD) {inb} (f : Buf (Elt F) (oM.view.loc (c : Thread nD τ))) :
    ∀ i ∈ rowsOf lo, (oM.access (Rect.unit (s := S256x512) ![0, 0] S128x512.size inb)).write (Elt F) f (part0 m c) Finset.univ i = pC m c i := by
  intro i hi
  rw [mem_rowsOf] at hi
  unfold lo at hi
  have h2 : (i 0).val / 8 < 16 := (Finset.mem_filter.mp hi).2
  have h : (i 0).val < 128 := by omega
  have e : i = (oM.access (Rect.unit (s := S256x512) ![0, 0] S128x512.size inb)).emb (ix2 ⟨(i 0).val, h⟩ (i 1)) := by
    refine funext fun a => ?_
    match a with
    | 0 => exact Fin.ext ((half_emb0 0 (inb := inb) (ix2 ⟨(i 0).val, h⟩ (i 1))).trans (Nat.zero_add _)).symm
    | 1 => exact (half_emb1 0 (inb := inb) (ix2 ⟨(i 0).val, h⟩ (i 1))).symm
  conv_lhs => rw [e]
  rw [View.write_emb_of_mem _ _ (Finset.mem_univ _)]
  unfold pC
  rw [dif_pos h]
  rfl
/-- After the store of the last 128 rows. -/
theorem store_hi (c : Dev nD) {inb} (f : Buf (Elt F) (oM.view.loc (c : Thread nD τ))) :
    ∀ i ∈ rowsOf hi, (oM.access (Rect.unit (s := S256x512) ![128, 0] S128x512.size inb)).write (Elt F) f (part1 m c) Finset.univ i = pC m c i := by
  intro i hi
  rw [mem_rowsOf] at hi
  unfold KProof.hi at hi
  have h2 : ¬ (i 0).val / 8 < 16 := (Finset.mem_filter.mp hi).2
  have h : ¬ (i 0).val < 128 := by omega
  have h3 : (i 0).val < 256 := (i 0).isLt
  have h4 : (i 0).val - 128 < 128 := by omega
  have e : i = (oM.access (Rect.unit (s := S256x512) ![128, 0] S128x512.size inb)).emb (ix2 ⟨(i 0).val - 128, h4⟩ (i 1)) := by
    refine funext fun a => ?_
    match a with
    | 0 => exact Fin.ext ((half_emb0 128 (inb := inb) (ix2 ⟨(i 0).val - 128, h4⟩ (i 1))).trans (show 128 + ((i 0).val - 128) = (i 0).val by omega)).symm
    | 1 => exact (half_emb1 128 (inb := inb) (ix2 ⟨(i 0).val - 128, h4⟩ (i 1))).symm
  conv_lhs => rw [e]
  rw [View.write_emb_of_mem _ _ (Finset.mem_univ _)]
  unfold pC
  rw [dif_neg h]
  rfl

/-- The device's own partial rows, copied to its own receive buffer. -/
theorem store_own (c : Dev nD) (f : Buf (Elt F) (cM.view.loc (c : Thread nD τ))) (w : Vec F S8x512 .bf16)
    (hw : w = oM.view.readAt (Elt F) (segR c).toLoadRect (pC m c)) :
    ∀ i ∈ (segM cM c).view.set, (cM.access (segR c)).write (Elt F) f w Finset.univ i = cC m c i := by
  subst hw
  exact land_rs m c c f
/-- The reduced rows, stored over the device's own partial rows. -/
theorem store_red (c : Dev nD) (f : Buf (Elt F) (oM.view.loc (c : Thread nD τ))) :
    ∀ i ∈ (segM oM c).view.set, (oM.access (segR c)).write (Elt F) f (redV m c) Finset.univ i = rC m i := by
  intro i hi
  obtain ⟨x, -, rfl⟩ := Finset.mem_map.mp hi
  have h := View.write_emb_of_mem (Val := Elt F) (v := oM.access (segR c)) f (redV m c) (Finset.mem_univ x)
  exact h.trans (rC_emb m c x).symm

/-- The own reduced rows, dealt into a share for each transfer. -/
theorem own_deal (c : Dev nD) : oSeg c c fullShare (rC m) = bigSep (peers c) (fun d => oSeg c c (dealOf fullShare (peers c) d) (rC m)) := by
  unfold oSeg
  exact pointsTo_deal (peers c) ⟨shift c 1, Finset.mem_erase.mpr ⟨shift_ne c 1 (le_refl _) (by decide), Finset.mem_univ _⟩⟩ fullShare

/-- The receive buffer is the own segment and the segments of the others. -/
theorem c_join (c : Dev nD) (f : Buf (Elt F) (cM.view.loc (c : Thread nD τ))) :
    (cM.view.loc (c : Thread nD τ) ↦{fullShare} f : sProp 𝕄) = iprop(cSeg c c f ∗ bigSep (peers c) (fun d => cSeg c d f)) := by
  have h := c_rows c Finset.univ f
  unfold cPts at h
  rw [rowsOf_univ] at h
  rw [h, BI.bigSep_erase (Finset.mem_univ c)]
  rfl
/-- The result buffer is the own segment and the segments of the others. -/
theorem o_join (c : Dev nD) (f : Buf (Elt F) (oM.view.loc (c : Thread nD τ))) :
    (oM.view.loc (c : Thread nD τ) ↦{fullShare} f : sProp 𝕄) = iprop(oSeg c c fullShare f ∗ bigSep (peers c) (fun d => oSeg c d fullShare f)) := by
  have h := o_rows c Finset.univ f
  unfold oPts at h
  rw [rowsOf_univ] at h
  rw [h, BI.bigSep_erase (Finset.mem_univ c)]
  rfl

end Cert.KProof

end
-- ==== Proof.Facts.lean ====
/-
What the words of the program come to on device `c`: the neighbours it signals and the tests that leave out `c` itself.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- The test that compares a device's own number with j holds when they differ. -/
theorem dev_ne (c j : Dev nD) : Scalar.cmpi .ne (Scalar.extui (Scalar.cmpi .ne (Scalar.remsi (Scalar.divsi (Dev.word c) 1#32) 32#32) (BitVec.ofNat 32 j.val)) : BitVec 32) 0#32 = 1#1 ↔ j ≠ c := by
  revert c j; decide +kernel
/-- The target of the barrier signal number 1 is the device 1 place after c. -/
theorem dev_1 (c : Dev nD) : (⟨k0_dev1 c, k0_dev1_lt c⟩ : Dev nD) = shift c 1 := by revert c; decide +kernel
/-- The target of the barrier signal number 2 is the device 2 places after c. -/
theorem dev_2 (c : Dev nD) : (⟨k0_dev2 c, k0_dev2_lt c⟩ : Dev nD) = shift c 2 := by revert c; decide +kernel
/-- The target of the barrier signal number 3 is the device 3 places after c. -/
theorem dev_3 (c : Dev nD) : (⟨k0_dev3 c, k0_dev3_lt c⟩ : Dev nD) = shift c 3 := by revert c; decide +kernel
/-- The target of the barrier signal number 4 is the device 4 places after c. -/
theorem dev_4 (c : Dev nD) : (⟨k0_dev4 c, k0_dev4_lt c⟩ : Dev nD) = shift c 4 := by revert c; decide +kernel
/-- The target of the barrier signal number 5 is the device 5 places after c. -/
theorem dev_5 (c : Dev nD) : (⟨k0_dev5 c, k0_dev5_lt c⟩ : Dev nD) = shift c 5 := by revert c; decide +kernel
/-- The target of the barrier signal number 6 is the device 6 places after c. -/
theorem dev_6 (c : Dev nD) : (⟨k0_dev6 c, k0_dev6_lt c⟩ : Dev nD) = shift c 6 := by revert c; decide +kernel
/-- The target of the barrier signal number 7 is the device 7 places after c. -/
theorem dev_7 (c : Dev nD) : (⟨k0_dev7 c, k0_dev7_lt c⟩ : Dev nD) = shift c 7 := by revert c; decide +kernel
/-- The target of the barrier signal number 8 is the device 8 places after c. -/
theorem dev_8 (c : Dev nD) : (⟨k0_dev8 c, k0_dev8_lt c⟩ : Dev nD) = shift c 8 := by revert c; decide +kernel
/-- The target of the barrier signal number 9 is the device 9 places after c. -/
theorem dev_9 (c : Dev nD) : (⟨k0_dev9 c, k0_dev9_lt c⟩ : Dev nD) = shift c 9 := by revert c; decide +kernel
/-- The target of the barrier signal number 10 is the device 10 places after c. -/
theorem dev_10 (c : Dev nD) : (⟨k0_dev10 c, k0_dev10_lt c⟩ : Dev nD) = shift c 10 := by revert c; decide +kernel
/-- The target of the barrier signal number 11 is the device 11 places after c. -/
theorem dev_11 (c : Dev nD) : (⟨k0_dev11 c, k0_dev11_lt c⟩ : Dev nD) = shift c 11 := by revert c; decide +kernel
/-- The target of the barrier signal number 12 is the device 12 places after c. -/
theorem dev_12 (c : Dev nD) : (⟨k0_dev12 c, k0_dev12_lt c⟩ : Dev nD) = shift c 12 := by revert c; decide +kernel
/-- The target of the barrier signal number 13 is the device 13 places after c. -/
theorem dev_13 (c : Dev nD) : (⟨k0_dev13 c, k0_dev13_lt c⟩ : Dev nD) = shift c 13 := by revert c; decide +kernel
/-- The target of the barrier signal number 14 is the device 14 places after c. -/
theorem dev_14 (c : Dev nD) : (⟨k0_dev14 c, k0_dev14_lt c⟩ : Dev nD) = shift c 14 := by revert c; decide +kernel
/-- The target of the barrier signal number 15 is the device 15 places after c. -/
theorem dev_15 (c : Dev nD) : (⟨k0_dev15 c, k0_dev15_lt c⟩ : Dev nD) = shift c 15 := by revert c; decide +kernel
/-- The target of the barrier signal number 16 is the device 16 places after c. -/
theorem dev_16 (c : Dev nD) : (⟨k0_dev16 c, k0_dev16_lt c⟩ : Dev nD) = shift c 16 := by revert c; decide +kernel
/-- The target of the barrier signal number 17 is the device 17 places after c. -/
theorem dev_17 (c : Dev nD) : (⟨k0_dev17 c, k0_dev17_lt c⟩ : Dev nD) = shift c 17 := by revert c; decide +kernel
/-- The target of the barrier signal number 18 is the device 18 places after c. -/
theorem dev_18 (c : Dev nD) : (⟨k0_dev18 c, k0_dev18_lt c⟩ : Dev nD) = shift c 18 := by revert c; decide +kernel
/-- The target of the barrier signal number 19 is the device 19 places after c. -/
theorem dev_19 (c : Dev nD) : (⟨k0_dev19 c, k0_dev19_lt c⟩ : Dev nD) = shift c 19 := by revert c; decide +kernel
/-- The target of the barrier signal number 20 is the device 20 places after c. -/
theorem dev_20 (c : Dev nD) : (⟨k0_dev20 c, k0_dev20_lt c⟩ : Dev nD) = shift c 20 := by revert c; decide +kernel
/-- The target of the barrier signal number 21 is the device 21 places after c. -/
theorem dev_21 (c : Dev nD) : (⟨k0_dev21 c, k0_dev21_lt c⟩ : Dev nD) = shift c 21 := by revert c; decide +kernel
/-- The target of the barrier signal number 22 is the device 22 places after c. -/
theorem dev_22 (c : Dev nD) : (⟨k0_dev22 c, k0_dev22_lt c⟩ : Dev nD) = shift c 22 := by revert c; decide +kernel
/-- The target of the barrier signal number 23 is the device 23 places after c. -/
theorem dev_23 (c : Dev nD) : (⟨k0_dev23 c, k0_dev23_lt c⟩ : Dev nD) = shift c 23 := by revert c; decide +kernel
/-- The target of the barrier signal number 24 is the device 24 places after c. -/
theorem dev_24 (c : Dev nD) : (⟨k0_dev24 c, k0_dev24_lt c⟩ : Dev nD) = shift c 24 := by revert c; decide +kernel
/-- The target of the barrier signal number 25 is the device 25 places after c. -/
theorem dev_25 (c : Dev nD) : (⟨k0_dev25 c, k0_dev25_lt c⟩ : Dev nD) = shift c 25 := by revert c; decide +kernel
/-- The target of the barrier signal number 26 is the device 26 places after c. -/
theorem dev_26 (c : Dev nD) : (⟨k0_dev26 c, k0_dev26_lt c⟩ : Dev nD) = shift c 26 := by revert c; decide +kernel
/-- The target of the barrier signal number 27 is the device 27 places after c. -/
theorem dev_27 (c : Dev nD) : (⟨k0_dev27 c, k0_dev27_lt c⟩ : Dev nD) = shift c 27 := by revert c; decide +kernel
/-- The target of the barrier signal number 28 is the device 28 places after c. -/
theorem dev_28 (c : Dev nD) : (⟨k0_dev28 c, k0_dev28_lt c⟩ : Dev nD) = shift c 28 := by revert c; decide +kernel
/-- The target of the barrier signal number 29 is the device 29 places after c. -/
theorem dev_29 (c : Dev nD) : (⟨k0_dev29 c, k0_dev29_lt c⟩ : Dev nD) = shift c 29 := by revert c; decide +kernel
/-- The target of the barrier signal number 30 is the device 30 places after c. -/
theorem dev_30 (c : Dev nD) : (⟨k0_dev30 c, k0_dev30_lt c⟩ : Dev nD) = shift c 30 := by revert c; decide +kernel
/-- The target of the barrier signal number 31 is the device 31 places after c. -/
theorem dev_31 (c : Dev nD) : (⟨k0_dev31 c, k0_dev31_lt c⟩ : Dev nD) = shift c 31 := by revert c; decide +kernel
/-- Test 1 holds on every device but 0. -/
theorem cond_1 (c : Dev nD) : k0_cond1 c = 1#1 ↔ (0 : Dev nD) ≠ c := by revert c; decide +kernel
/-- Test 2 holds on every device but 1. -/
theorem cond_2 (c : Dev nD) : k0_cond2 c = 1#1 ↔ (1 : Dev nD) ≠ c := by revert c; decide +kernel
/-- Test 3 holds on every device but 2. -/
theorem cond_3 (c : Dev nD) : k0_cond3 c = 1#1 ↔ (2 : Dev nD) ≠ c := by revert c; decide +kernel
/-- Test 4 holds on every device but 3. -/
theorem cond_4 (c : Dev nD) : k0_cond4 c = 1#1 ↔ (3 : Dev nD) ≠ c := by revert c; decide +kernel
/-- Test 5 holds on every device but 4. -/
theorem cond_5 (c : Dev nD) : k0_cond5 c = 1#1 ↔ (4 : Dev nD) ≠ c := by revert c; decide +kernel
/-- Test 6 holds on every device but 5. -/
theorem cond_6 (c : Dev nD) : k0_cond6 c = 1#1 ↔ (5 : Dev nD) ≠ c := by revert c; decide +kernel
/-- Test 7 holds on every device but 6. -/
theorem cond_7 (c : Dev nD) : k0_cond7 c = 1#1 ↔ (6 : Dev nD) ≠ c := by revert c; decide +kernel
/-- Test 8 holds on every device but 7. -/
theorem cond_8 (c : Dev nD) : k0_cond8 c = 1#1 ↔ (7 : Dev nD) ≠ c := by revert c; decide +kernel
/-- Test 9 holds on every device but 8. -/
theorem cond_9 (c : Dev nD) : k0_cond9 c = 1#1 ↔ (8 : Dev nD) ≠ c := by revert c; decide +kernel
/-- Test 10 holds on every device but 9. -/
theorem cond_10 (c : Dev nD) : k0_cond10 c = 1#1 ↔ (9 : Dev nD) ≠ c := by revert c; decide +kernel
/-- Test 11 holds on every device but 10. -/
theorem cond_11 (c : Dev nD) : k0_cond11 c = 1#1 ↔ (10 : Dev nD) ≠ c := by revert c; decide +kernel
/-- Test 12 holds on every device but 11. -/
theorem cond_12 (c : Dev nD) : k0_cond12 c = 1#1 ↔ (11 : Dev nD) ≠ c := by revert c; decide +kernel
/-- Test 13 holds on every device but 12. -/
theorem cond_13 (c : Dev nD) : k0_cond13 c = 1#1 ↔ (12 : Dev nD) ≠ c := by revert c; decide +kernel
/-- Test 14 holds on every device but 13. -/
theorem cond_14 (c : Dev nD) : k0_cond14 c = 1#1 ↔ (13 : Dev nD) ≠ c := by revert c; decide +kernel
/-- Test 15 holds on every device but 14. -/
theorem cond_15 (c : Dev nD) : k0_cond15 c = 1#1 ↔ (14 : Dev nD) ≠ c := by revert c; decide +kernel
/-- Test 16 holds on every device but 15. -/
theorem cond_16 (c : Dev nD) : k0_cond16 c = 1#1 ↔ (15 : Dev nD) ≠ c := by revert c; decide +kernel
/-- Test 17 holds on every device but 16. -/
theorem cond_17 (c : Dev nD) : k0_cond17 c = 1#1 ↔ (16 : Dev nD) ≠ c := by revert c; decide +kernel
/-- Test 18 holds on every device but 17. -/
theorem cond_18 (c : Dev nD) : k0_cond18 c = 1#1 ↔ (17 : Dev nD) ≠ c := by revert c; decide +kernel
/-- Test 19 holds on every device but 18. -/
theorem cond_19 (c : Dev nD) : k0_cond19 c = 1#1 ↔ (18 : Dev nD) ≠ c := by revert c; decide +kernel
/-- Test 20 holds on every device but 19. -/
theorem cond_20 (c : Dev nD) : k0_cond20 c = 1#1 ↔ (19 : Dev nD) ≠ c := by revert c; decide +kernel
/-- Test 21 holds on every device but 20. -/
theorem cond_21 (c : Dev nD) : k0_cond21 c = 1#1 ↔ (20 : Dev nD) ≠ c := by revert c; decide +kernel
/-- Test 22 holds on every device but 21. -/
theorem cond_22 (c : Dev nD) : k0_cond22 c = 1#1 ↔ (21 : Dev nD) ≠ c := by revert c; decide +kernel
/-- Test 23 holds on every device but 22. -/
theorem cond_23 (c : Dev nD) : k0_cond23 c = 1#1 ↔ (22 : Dev nD) ≠ c := by revert c; decide +kernel
/-- Test 24 holds on every device but 23. -/
theorem cond_24 (c : Dev nD) : k0_cond24 c = 1#1 ↔ (23 : Dev nD) ≠ c := by revert c; decide +kernel
/-- Test 25 holds on every device but 24. -/
theorem cond_25 (c : Dev nD) : k0_cond25 c = 1#1 ↔ (24 : Dev nD) ≠ c := by revert c; decide +kernel
/-- Test 26 holds on every device but 25. -/
theorem cond_26 (c : Dev nD) : k0_cond26 c = 1#1 ↔ (25 : Dev nD) ≠ c := by revert c; decide +kernel
/-- Test 27 holds on every device but 26. -/
theorem cond_27 (c : Dev nD) : k0_cond27 c = 1#1 ↔ (26 : Dev nD) ≠ c := by revert c; decide +kernel
/-- Test 28 holds on every device but 27. -/
theorem cond_28 (c : Dev nD) : k0_cond28 c = 1#1 ↔ (27 : Dev nD) ≠ c := by revert c; decide +kernel
/-- Test 29 holds on every device but 28. -/
theorem cond_29 (c : Dev nD) : k0_cond29 c = 1#1 ↔ (28 : Dev nD) ≠ c := by revert c; decide +kernel
/-- Test 30 holds on every device but 29. -/
theorem cond_30 (c : Dev nD) : k0_cond30 c = 1#1 ↔ (29 : Dev nD) ≠ c := by revert c; decide +kernel
/-- Test 31 holds on every device but 30. -/
theorem cond_31 (c : Dev nD) : k0_cond31 c = 1#1 ↔ (30 : Dev nD) ≠ c := by revert c; decide +kernel
/-- Test 32 holds on every device but 31. -/
theorem cond_32 (c : Dev nD) : k0_cond32 c = 1#1 ↔ (31 : Dev nD) ≠ c := by revert c; decide +kernel
/-- Test 65 holds on every device but 0. -/
theorem cond_65 (c : Dev nD) : k0_cond65 c = 1#1 ↔ (0 : Dev nD) ≠ c := by revert c; decide +kernel
/-- Test 66 holds on every device but 1. -/
theorem cond_66 (c : Dev nD) : k0_cond66 c = 1#1 ↔ (1 : Dev nD) ≠ c := by revert c; decide +kernel
/-- Test 67 holds on every device but 2. -/
theorem cond_67 (c : Dev nD) : k0_cond67 c = 1#1 ↔ (2 : Dev nD) ≠ c := by revert c; decide +kernel
/-- Test 68 holds on every device but 3. -/
theorem cond_68 (c : Dev nD) : k0_cond68 c = 1#1 ↔ (3 : Dev nD) ≠ c := by revert c; decide +kernel
/-- Test 69 holds on every device but 4. -/
theorem cond_69 (c : Dev nD) : k0_cond69 c = 1#1 ↔ (4 : Dev nD) ≠ c := by revert c; decide +kernel
/-- Test 70 holds on every device but 5. -/
theorem cond_70 (c : Dev nD) : k0_cond70 c = 1#1 ↔ (5 : Dev nD) ≠ c := by revert c; decide +kernel
/-- Test 71 holds on every device but 6. -/
theorem cond_71 (c : Dev nD) : k0_cond71 c = 1#1 ↔ (6 : Dev nD) ≠ c := by revert c; decide +kernel
/-- Test 72 holds on every device but 7. -/
theorem cond_72 (c : Dev nD) : k0_cond72 c = 1#1 ↔ (7 : Dev nD) ≠ c := by revert c; decide +kernel
/-- Test 73 holds on every device but 8. -/
theorem cond_73 (c : Dev nD) : k0_cond73 c = 1#1 ↔ (8 : Dev nD) ≠ c := by revert c; decide +kernel
/-- Test 74 holds on every device but 9. -/
theorem cond_74 (c : Dev nD) : k0_cond74 c = 1#1 ↔ (9 : Dev nD) ≠ c := by revert c; decide +kernel
/-- Test 75 holds on every device but 10. -/
theorem cond_75 (c : Dev nD) : k0_cond75 c = 1#1 ↔ (10 : Dev nD) ≠ c := by revert c; decide +kernel
/-- Test 76 holds on every device but 11. -/
theorem cond_76 (c : Dev nD) : k0_cond76 c = 1#1 ↔ (11 : Dev nD) ≠ c := by revert c; decide +kernel
/-- Test 77 holds on every device but 12. -/
theorem cond_77 (c : Dev nD) : k0_cond77 c = 1#1 ↔ (12 : Dev nD) ≠ c := by revert c; decide +kernel
/-- Test 78 holds on every device but 13. -/
theorem cond_78 (c : Dev nD) : k0_cond78 c = 1#1 ↔ (13 : Dev nD) ≠ c := by revert c; decide +kernel
/-- Test 79 holds on every device but 14. -/
theorem cond_79 (c : Dev nD) : k0_cond79 c = 1#1 ↔ (14 : Dev nD) ≠ c := by revert c; decide +kernel
/-- Test 80 holds on every device but 15. -/
theorem cond_80 (c : Dev nD) : k0_cond80 c = 1#1 ↔ (15 : Dev nD) ≠ c := by revert c; decide +kernel
/-- Test 81 holds on every device but 16. -/
theorem cond_81 (c : Dev nD) : k0_cond81 c = 1#1 ↔ (16 : Dev nD) ≠ c := by revert c; decide +kernel
/-- Test 82 holds on every device but 17. -/
theorem cond_82 (c : Dev nD) : k0_cond82 c = 1#1 ↔ (17 : Dev nD) ≠ c := by revert c; decide +kernel
/-- Test 83 holds on every device but 18. -/
theorem cond_83 (c : Dev nD) : k0_cond83 c = 1#1 ↔ (18 : Dev nD) ≠ c := by revert c; decide +kernel
/-- Test 84 holds on every device but 19. -/
theorem cond_84 (c : Dev nD) : k0_cond84 c = 1#1 ↔ (19 : Dev nD) ≠ c := by revert c; decide +kernel
/-- Test 85 holds on every device but 20. -/
theorem cond_85 (c : Dev nD) : k0_cond85 c = 1#1 ↔ (20 : Dev nD) ≠ c := by revert c; decide +kernel
/-- Test 86 holds on every device but 21. -/
theorem cond_86 (c : Dev nD) : k0_cond86 c = 1#1 ↔ (21 : Dev nD) ≠ c := by revert c; decide +kernel
/-- Test 87 holds on every device but 22. -/
theorem cond_87 (c : Dev nD) : k0_cond87 c = 1#1 ↔ (22 : Dev nD) ≠ c := by revert c; decide +kernel
/-- Test 88 holds on every device but 23. -/
theorem cond_88 (c : Dev nD) : k0_cond88 c = 1#1 ↔ (23 : Dev nD) ≠ c := by revert c; decide +kernel
/-- Test 89 holds on every device but 24. -/
theorem cond_89 (c : Dev nD) : k0_cond89 c = 1#1 ↔ (24 : Dev nD) ≠ c := by revert c; decide +kernel
/-- Test 90 holds on every device but 25. -/
theorem cond_90 (c : Dev nD) : k0_cond90 c = 1#1 ↔ (25 : Dev nD) ≠ c := by revert c; decide +kernel
/-- Test 91 holds on every device but 26. -/
theorem cond_91 (c : Dev nD) : k0_cond91 c = 1#1 ↔ (26 : Dev nD) ≠ c := by revert c; decide +kernel
/-- Test 92 holds on every device but 27. -/
theorem cond_92 (c : Dev nD) : k0_cond92 c = 1#1 ↔ (27 : Dev nD) ≠ c := by revert c; decide +kernel
/-- Test 93 holds on every device but 28. -/
theorem cond_93 (c : Dev nD) : k0_cond93 c = 1#1 ↔ (28 : Dev nD) ≠ c := by revert c; decide +kernel
/-- Test 94 holds on every device but 29. -/
theorem cond_94 (c : Dev nD) : k0_cond94 c = 1#1 ↔ (29 : Dev nD) ≠ c := by revert c; decide +kernel
/-- Test 95 holds on every device but 30. -/
theorem cond_95 (c : Dev nD) : k0_cond95 c = 1#1 ↔ (30 : Dev nD) ≠ c := by revert c; decide +kernel
/-- Test 96 holds on every device but 31. -/
theorem cond_96 (c : Dev nD) : k0_cond96 c = 1#1 ↔ (31 : Dev nD) ≠ c := by revert c; decide +kernel
/-- Test 129 holds on every device but 0. -/
theorem cond_129 (c : Dev nD) : k0_cond129 c = 1#1 ↔ (0 : Dev nD) ≠ c := by revert c; decide +kernel
/-- Test 130 holds on every device but 1. -/
theorem cond_130 (c : Dev nD) : k0_cond130 c = 1#1 ↔ (1 : Dev nD) ≠ c := by revert c; decide +kernel
/-- Test 131 holds on every device but 2. -/
theorem cond_131 (c : Dev nD) : k0_cond131 c = 1#1 ↔ (2 : Dev nD) ≠ c := by revert c; decide +kernel
/-- Test 132 holds on every device but 3. -/
theorem cond_132 (c : Dev nD) : k0_cond132 c = 1#1 ↔ (3 : Dev nD) ≠ c := by revert c; decide +kernel
/-- Test 133 holds on every device but 4. -/
theorem cond_133 (c : Dev nD) : k0_cond133 c = 1#1 ↔ (4 : Dev nD) ≠ c := by revert c; decide +kernel
/-- Test 134 holds on every device but 5. -/
theorem cond_134 (c : Dev nD) : k0_cond134 c = 1#1 ↔ (5 : Dev nD) ≠ c := by revert c; decide +kernel
/-- Test 135 holds on every device but 6. -/
theorem cond_135 (c : Dev nD) : k0_cond135 c = 1#1 ↔ (6 : Dev nD) ≠ c := by revert c; decide +kernel
/-- Test 136 holds on every device but 7. -/
theorem cond_136 (c : Dev nD) : k0_cond136 c = 1#1 ↔ (7 : Dev nD) ≠ c := by revert c; decide +kernel
/-- Test 137 holds on every device but 8. -/
theorem cond_137 (c : Dev nD) : k0_cond137 c = 1#1 ↔ (8 : Dev nD) ≠ c := by revert c; decide +kernel
/-- Test 138 holds on every device but 9. -/
theorem cond_138 (c : Dev nD) : k0_cond138 c = 1#1 ↔ (9 : Dev nD) ≠ c := by revert c; decide +kernel
/-- Test 139 holds on every device but 10. -/
theorem cond_139 (c : Dev nD) : k0_cond139 c = 1#1 ↔ (10 : Dev nD) ≠ c := by revert c; decide +kernel
/-- Test 140 holds on every device but 11. -/
theorem cond_140 (c : Dev nD) : k0_cond140 c = 1#1 ↔ (11 : Dev nD) ≠ c := by revert c; decide +kernel
/-- Test 141 holds on every device but 12. -/
theorem cond_141 (c : Dev nD) : k0_cond141 c = 1#1 ↔ (12 : Dev nD) ≠ c := by revert c; decide +kernel
/-- Test 142 holds on every device but 13. -/
theorem cond_142 (c : Dev nD) : k0_cond142 c = 1#1 ↔ (13 : Dev nD) ≠ c := by revert c; decide +kernel
/-- Test 143 holds on every device but 14. -/
theorem cond_143 (c : Dev nD) : k0_cond143 c = 1#1 ↔ (14 : Dev nD) ≠ c := by revert c; decide +kernel
/-- Test 144 holds on every device but 15. -/
theorem cond_144 (c : Dev nD) : k0_cond144 c = 1#1 ↔ (15 : Dev nD) ≠ c := by revert c; decide +kernel
/-- Test 145 holds on every device but 16. -/
theorem cond_145 (c : Dev nD) : k0_cond145 c = 1#1 ↔ (16 : Dev nD) ≠ c := by revert c; decide +kernel
/-- Test 146 holds on every device but 17. -/
theorem cond_146 (c : Dev nD) : k0_cond146 c = 1#1 ↔ (17 : Dev nD) ≠ c := by revert c; decide +kernel
/-- Test 147 holds on every device but 18. -/
theorem cond_147 (c : Dev nD) : k0_cond147 c = 1#1 ↔ (18 : Dev nD) ≠ c := by revert c; decide +kernel
/-- Test 148 holds on every device but 19. -/
theorem cond_148 (c : Dev nD) : k0_cond148 c = 1#1 ↔ (19 : Dev nD) ≠ c := by revert c; decide +kernel
/-- Test 149 holds on every device but 20. -/
theorem cond_149 (c : Dev nD) : k0_cond149 c = 1#1 ↔ (20 : Dev nD) ≠ c := by revert c; decide +kernel
/-- Test 150 holds on every device but 21. -/
theorem cond_150 (c : Dev nD) : k0_cond150 c = 1#1 ↔ (21 : Dev nD) ≠ c := by revert c; decide +kernel
/-- Test 151 holds on every device but 22. -/
theorem cond_151 (c : Dev nD) : k0_cond151 c = 1#1 ↔ (22 : Dev nD) ≠ c := by revert c; decide +kernel
/-- Test 152 holds on every device but 23. -/
theorem cond_152 (c : Dev nD) : k0_cond152 c = 1#1 ↔ (23 : Dev nD) ≠ c := by revert c; decide +kernel
/-- Test 153 holds on every device but 24. -/
theorem cond_153 (c : Dev nD) : k0_cond153 c = 1#1 ↔ (24 : Dev nD) ≠ c := by revert c; decide +kernel
/-- Test 154 holds on every device but 25. -/
theorem cond_154 (c : Dev nD) : k0_cond154 c = 1#1 ↔ (25 : Dev nD) ≠ c := by revert c; decide +kernel
/-- Test 155 holds on every device but 26. -/
theorem cond_155 (c : Dev nD) : k0_cond155 c = 1#1 ↔ (26 : Dev nD) ≠ c := by revert c; decide +kernel
/-- Test 156 holds on every device but 27. -/
theorem cond_156 (c : Dev nD) : k0_cond156 c = 1#1 ↔ (27 : Dev nD) ≠ c := by revert c; decide +kernel
/-- Test 157 holds on every device but 28. -/
theorem cond_157 (c : Dev nD) : k0_cond157 c = 1#1 ↔ (28 : Dev nD) ≠ c := by revert c; decide +kernel
/-- Test 158 holds on every device but 29. -/
theorem cond_158 (c : Dev nD) : k0_cond158 c = 1#1 ↔ (29 : Dev nD) ≠ c := by revert c; decide +kernel
/-- Test 159 holds on every device but 30. -/
theorem cond_159 (c : Dev nD) : k0_cond159 c = 1#1 ↔ (30 : Dev nD) ≠ c := by revert c; decide +kernel
/-- Test 160 holds on every device but 31. -/
theorem cond_160 (c : Dev nD) : k0_cond160 c = 1#1 ↔ (31 : Dev nD) ≠ c := by revert c; decide +kernel

end Cert.KProof

end
-- ==== Proof.Names.lean ====
/-
The buffers the code is run on, and the slices as the code names them.
-/
module

public import proofs.«01_k».proof.Proof.Own
public import proofs.«01_k».proof.Proof.Facts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- A function of the code, at the buffers of the launch. -/
abbrev onBufs {β : Type 1} (f : (arg0 : Memref sig .tc .vmem S2x128x512 .f32) → (harg0 : arg0.IsWhole) → (arg1 : Memref sig .tc .hbm S512x8192 .f32) → (harg1 : arg1.IsWhole) → (arg2 : Memref sig .tc .vmem S2x128x4x64 .f32) → (harg2 : arg2.IsWhole) → (arg3 : Memref sig .tc .vmem S2x128x4x64 .f32) → (harg3 : arg3.IsWhole) → (arg4 : Memref sig .tc .hbm S8192x512 .f32) → (harg4 : arg4.IsWhole) → (arg5 : Memref sig .tc .vmem S256x512 .bf16) → (harg5 : arg5.IsWhole) → (arg6 : Memref sig .tc .vmem S256x512 .bf16) → (harg6 : arg6.IsWhole) → (arg7 : Memref sig .tc .vmem S512x256 .f32) → (harg7 : arg7.IsWhole) → (arg8 : Memref sig .tc .vmem S256x512 .f32) → (harg8 : arg8.IsWhole) → (arg9 : DmaSems sig S2) → (arg10 : DmaSems sig S32) → (arg11 : DmaSems sig S32) → (arg12 : DmaSems sig S32) → (arg13 : DmaSems sig S32)  → β) : β :=
  f xM (Memref.isWhole_whole _) wqHbm (Memref.isWhole_whole _) kM (Memref.isWhole_whole _) vM (Memref.isWhole_whole _) woHbm (Memref.isWhole_whole _) oM (Memref.isWhole_whole _) cM (Memref.isWhole_whole _) wqM (Memref.isWhole_whole _) woM (Memref.isWhole_whole _) cc0_scratch3 cc0_scratch4 cc0_scratch5 cc0_scratch6 cc0_scratch7

/-- The device's own number as the code computes it. -/
abbrev v2w (c : Dev nD) : BitVec 32 := Scalar.remsi (Scalar.divsi (Dev.word c) 1#32) 32#32

/-- Asking for the device number gives the number of the device that asks. -/
theorem step_dev {c : Dev nD} {α : Type} {A : sProp 𝕄} {k : Dev nD → Prog (TpuEff nD τ sig (Elt F) Λ₀ .tc) α} {Q : α → sProp 𝕄}
    (hk : A ⊢ WP c (k c) Q) : A ⊢ WP c (Prog.lift .deviceId >>= k) Q := by
  refine BIBase.Entails.trans hk ?_
  show _ ⊢ WP c (Prog.op .deviceId k) Q
  unfold WP
  rw [wp_deviceId]

/-- The slice of the result buffer at row 8j is the eight rows of device j. -/
theorem seg_o (j : Dev nD) {off : Fin 2 → ℕ} (h : off = ![8 * j.val, 0]) {inb : ∀ a, off a + S8x512.size a ≤ S256x512.size a} {hu} :
    oM.slice (Rect.unit (s := S256x512) off S8x512.size inb) hu = segM oM j := by subst h; rfl
/-- The slice of the receive buffer at row 8j is the eight rows of device j. -/
theorem seg_c (j : Dev nD) {off : Fin 2 → ℕ} (h : off = ![8 * j.val, 0]) {inb : ∀ a, off a + S8x512.size a ≤ S256x512.size a} {hu} :
    cM.slice (Rect.unit (s := S256x512) off S8x512.size inb) hu = segM cM j := by subst h; rfl
/-- The rectangle at row 8j is that of the eight rows of device j. -/
theorem read_o (j : Dev nD) {off : Fin 2 → ℕ} (h : off = ![8 * j.val, 0]) {inb : ∀ a, off a + S8x512.size a ≤ S256x512.size a} :
    Rect.unit (s := S256x512) off S8x512.size inb = segR j := by subst h; rfl
/-- The k-th weight semaphore by its name. -/
theorem sem_w (k : Fin 2) {off : Fin 1 → ℕ} (h : off = ![k.val]) {inb : ∀ a, off a + S1.size a ≤ S2.size a} {hq : S1.Squeezes S_} :
    (((cc0_scratch3 : DmaSems sig S2).slice (Rect.unit (s := S2) off S1.size inb)).squeeze S_ hq).sem = sw k := by
  subst h
  have e : ∀ j : (Rect.unit (s := S2) ![k.val] S1.size inb).shape.Idx,
      (S2.rowMajor ((Rect.unit (s := S2) ![k.val] S1.size inb).emb j)).val = k.val := fun j => by
    rw [Shape.rowMajor_val_one, Rect.emb_apply]
    have hj : (j 0).val < 1 := (j 0).isLt
    show k.val + 1 * (j 0).val = k.val
    omega
  exact Fin.ext (congrArg (4 + ·) (e _))

/-! ## The order of what is held -/

/-- Exchange the third and the fourth member. -/
theorem swap12 {A B C D E : sProp 𝕄} : iprop(A ∗ B ∗ C ∗ D ∗ E) ⊢ iprop(A ∗ B ∗ D ∗ C ∗ E) := by
  iintro ⟨HA, HB, HC, HD, HE⟩
  isplitl [HA]; · iexact HA
  isplitl [HB]; · iexact HB
  isplitl [HD]; · iexact HD
  isplitl [HC]; · iexact HC
  iexact HE

/-- Leave out the third member. -/
theorem drop3 {A B C X : sProp 𝕄} : iprop(A ∗ B ∗ C ∗ X) ⊢ iprop(A ∗ B ∗ X) := by
  iintro ⟨HA, HB, -, HX⟩
  isplitl [HA]; · iexact HA
  isplitl [HB]; · iexact HB
  iexact HX
/-- Bring the fifth member to the third place. -/
theorem swap2 {A B C D E X : sProp 𝕄} : iprop(A ∗ B ∗ C ∗ D ∗ E ∗ X) ⊢ iprop(A ∗ B ∗ E ∗ C ∗ D ∗ X) := by
  iintro ⟨HA, HB, HC, HD, HE, HX⟩
  isplitl [HA]; · iexact HA
  isplitl [HB]; · iexact HB
  isplitl [HE]; · iexact HE
  isplitl [HC]; · iexact HC
  isplitl [HD]; · iexact HD
  iexact HX

end Cert.KProof

end
-- ==== Proof.Parts5.lean ====
/-
The device's own rows: the copy of the partial rows, and the store of the reduced ones; what the waits brought.
-/
module

public import proofs.«01_k».proof.Proof.Names
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

/-- The whole receive buffer, complete. -/
def cAll (c : Dev nD) : sProp 𝕄 := cM.view.loc (c : Thread nD τ) ↦{fullShare} (cC m c)
/-- The rows in which the other devices take `c`'s reduced rows. -/
def Theirs (c : Dev nD) : sProp 𝕄 := bigSep (peers c) (fun d => oSeg d c fullShare (pC m d))
/-- The tokens of the second round. -/
def Tag (c : Dev nD) : sProp 𝕄 := bigSep (peers c) (fun d => iprop(dutyTok ER (xCell c 2 d) 0 c ∗ dutyTok ER (xCell d 3 c) 0 d))
/-- The positions past the waits of kind `k`. -/
def Past (k : Fin 4) (c : Dev nD) : sProp 𝕄 := bigSep (peers c) (fun d => atPos ER (xCell c k d) 1 ∅ 0)

/-- The stored rows are the value unchanged. -/
theorem pay22_eq (v : Vec F S8x512 .bf16) : k0_pay22 v = v := by
  unfold k0_pay22
  exact (shapeCast_self _ _).trans (shapeCast_self _ _)

/-- A load from the result buffer touches the indices of its rectangle. -/
theorem set_o {r : Rect S256x512} : oM.view.setOn r.toLoadRect.set = (oM.access r).set := (View.set_slice _ _).symm
/-- A load from the receive buffer touches the indices of its rectangle. -/
theorem set_c {r : Rect S256x512} : cM.view.setOn r.toLoadRect.set = (cM.access r).set := (View.set_slice _ _).symm

/-- Bring the fourth member to the front. -/
theorem pull4 {A B C D X : sProp 𝕄} : iprop(A ∗ B ∗ C ∗ D ∗ X) ⊢ iprop(D ∗ A ∗ B ∗ C ∗ X) := by
  iintro ⟨HA, HB, HC, HD, HX⟩
  isplitl [HD]; · iexact HD
  isplitl [HA]; · iexact HA
  isplitl [HB]; · iexact HB
  isplitl [HC]; · iexact HC
  iexact HX
/-- Put the first member in the fourth place. -/
theorem push4 {A B C D X : sProp 𝕄} : iprop(D ∗ A ∗ B ∗ C ∗ X) ⊢ iprop(A ∗ B ∗ C ∗ D ∗ X) := by
  iintro ⟨HD, HA, HB, HC, HX⟩
  isplitl [HA]; · iexact HA
  isplitl [HB]; · iexact HB
  isplitl [HC]; · iexact HC
  isplitl [HD]; · iexact HD
  iexact HX
/-- Put the first member in the fourth place and bring the fifth to the front. -/
theorem turn4 {A B C D E X : sProp 𝕄} : iprop(D ∗ A ∗ B ∗ C ∗ E ∗ X) ⊢ iprop(E ∗ A ∗ B ∗ C ∗ D ∗ X) := by
  iintro ⟨HD, HA, HB, HC, HE, HX⟩
  isplitl [HE]; · iexact HE
  isplitl [HA]; · iexact HA
  isplitl [HB]; · iexact HB
  isplitl [HC]; · iexact HC
  isplitl [HD]; · iexact HD
  iexact HX

/-- The device copies its own partial rows into its receive buffer. -/
theorem own_copy (c : Dev nD) {A B C X : sProp 𝕄} {α : Type} {Q : α → sProp 𝕄} {off : Fin 2 → ℕ} (ho : off = ![8 * c.val, 0])
    {inb : ∀ a, off a + S8x512.size a ≤ S256x512.size a}
    {hl : oM.view.LoadsAt (Rect.unit (s := S256x512) off S8x512.size inb).toLoadRect}
    {hl' : cM.view.LoadsAt (Rect.unit (s := S256x512) off S8x512.size inb).toLoadRect} {hx hm}
    {rest : Prog (TpuEff nD τ sig (Elt F) Λ₀ .tc) α} {f : Buf (Elt F) (cM.view.loc (c : Thread nD τ))}
    (hk : iprop(A ∗ B ∗ C ∗ oSeg c c fullShare (pC m c) ∗ cSeg c c (cC m c) ∗ X) ⊢ WP c rest Q) :
    iprop(A ∗ B ∗ C ∗ oSeg c c fullShare (pC m c) ∗ cSeg c c f ∗ X)
      ⊢ WP c (Prog.lift (.load oM (Rect.unit (s := S256x512) off S8x512.size inb).toLoadRect hl) >>= fun v =>
          Prog.lift (.load cM (Rect.unit (s := S256x512) off S8x512.size inb).toLoadRect hl') >>= fun _ =>
          Prog.lift (.store cM (Rect.unit (s := S256x512) off S8x512.size inb) (k0_pay22 v) Finset.univ hx hm) >>= fun _ => rest) Q := by
  subst ho
  refine BIBase.Entails.trans pull4 ?_
  unfold oSeg
  refine load_hd (M := oM) (r := (segR c).toLoadRect) _ ?_ rfl ?_
  · rw [set_o]
  refine BIBase.Entails.trans turn4 ?_
  unfold cSeg
  refine load_hd (M := cM) (r := (segR c).toLoadRect) _ ?_ rfl ?_
  · rw [set_c]
  refine store_hd (M := cM) (r := segR c) (f := f) (g := cC m c) ?_ ?_ ?_
  · exact Finset.Subset.refl _
  · exact store_own m c f _ (pay22_eq _)
  refine BIBase.Entails.trans turn4 ?_
  exact BIBase.Entails.trans push4 hk

/-- The device stores its reduced rows over its own partial rows. -/
theorem own_red (c : Dev nD) {A B C X : sProp 𝕄} {α : Type} {Q : α → sProp 𝕄} {off : Fin 2 → ℕ} (ho : off = ![8 * c.val, 0])
    {inb : ∀ a, off a + S8x512.size a ≤ S256x512.size a}
    {hl : oM.view.LoadsAt (Rect.unit (s := S256x512) off S8x512.size inb).toLoadRect} {w : FVec F S8x512 .bf16} {hx hm}
    {rest : Prog (TpuEff nD τ sig (Elt F) Λ₀ .tc) α} (hw : w = redV m c)
    (hk : iprop(A ∗ B ∗ C ∗ oSeg c c fullShare (rC m) ∗ X) ⊢ WP c rest Q) :
    iprop(A ∗ B ∗ C ∗ oSeg c c fullShare (pC m c) ∗ X)
      ⊢ WP c (Prog.lift (.load oM (Rect.unit (s := S256x512) off S8x512.size inb).toLoadRect hl) >>= fun _ =>
          Prog.lift (.store oM (Rect.unit (s := S256x512) off S8x512.size inb) w Finset.univ hx hm) >>= fun _ => rest) Q := by
  subst ho hw
  refine BIBase.Entails.trans pull4 ?_
  unfold oSeg
  refine load_hd (M := oM) (r := (segR c).toLoadRect) _ ?_ rfl ?_
  · rw [set_o]
  refine store_hd (M := oM) (r := segR c) (f := pC m c) (g := rC m) ?_ ?_ ?_
  · exact Finset.Subset.refl _
  · exact store_red m c (pC m c)
  exact BIBase.Entails.trans push4 hk

/-- All transfers of the first round have left. -/
theorem rs_end (c : Dev nD) {A B X : sProp 𝕄} : iprop(A ∗ B ∗ Rs m 32 c 32 ∗ X) ⊢ iprop(A ∗ B ∗ Crs 0 c 32 ∗ X) := by
  unfold Rs
  iintro ⟨HA, HB, ⟨-, -, HC⟩, HX⟩
  isplitl [HA]; · iexact HA
  isplitl [HB]; · iexact HB
  isplitl [HC]; · iexact HC
  iexact HX
/-- Bring the sixth member to the third place. -/
theorem rs_turn {A B C D E W X : sProp 𝕄} : iprop(A ∗ B ∗ C ∗ D ∗ E ∗ W ∗ X) ⊢ iprop(A ∗ B ∗ W ∗ C ∗ D ∗ E ∗ X) := by
  iintro ⟨HA, HB, HC, HD, HE, HW, HX⟩
  isplitl [HA]; · iexact HA
  isplitl [HB]; · iexact HB
  isplitl [HW]; · iexact HW
  isplitl [HC]; · iexact HC
  isplitl [HD]; · iexact HD
  isplitl [HE]; · iexact HE
  iexact HX

/-- The waits of the first round are over: the receive buffer is whole. -/
theorem got_all (c : Dev nD) {A B X : sProp 𝕄} : iprop(A ∗ B ∗ Wt m 1 c 32 ∗ cSeg c c (cC m c) ∗ X)
    ⊢ iprop(A ∗ B ∗ cAll m c ∗ Past 1 c ∗ Theirs m c ∗ X) := by
  unfold cAll Past Theirs Wt
  rw [c_join, rng_all]
  rw [show bigSep (peers c) (fun d => iprop(atPos ER (xCell c 1 d) 1 ∅ 0 ∗ xPay m 1 c d))
      = iprop(bigSep (peers c) (fun d => atPos ER (xCell c 1 d) 1 ∅ 0) ∗ bigSep (peers c) (fun d => xPay m 1 c d)) from BI.bigSep_sep _ _ _,
    show bigSep (peers c) (fun d => xPay m 1 c d)
      = iprop(bigSep (peers c) (fun d => cSeg c d (cC m c)) ∗ bigSep (peers c) (fun d => oSeg d c fullShare (pC m d))) from BI.bigSep_sep _ _ _]
  iintro ⟨HA, HB, ⟨-, H1, H2, H3⟩, HC, HX⟩
  isplitl [HA]; · iexact HA
  isplitl [HB]; · iexact HB
  isplitl [H2 HC]
  · isplitl [HC]
    · iexact HC
    · iexact H2
  isplitl [H1]; · iexact H1
  isplitl [H3]; · iexact H3
  iexact HX

/-- Reading from the receive buffer. -/
theorem load_c {c : Dev nD} {A B X : sProp 𝕄} {α : Type} {Q : α → sProp 𝕄} {r : LoadRect S256x512} {hl : cM.view.LoadsAt r} {k : (r.shape.Idx → Elt F .bf16) → Prog (TpuEff nD τ sig (Elt F) Λ₀ .tc) α}
    (w : r.shape.Idx → Elt F .bf16) (hw : cM.view.readAt (Elt F) r (cC m c) = w)
    (hk : iprop(A ∗ B ∗ cAll m c ∗ X) ⊢ WP c (k w) Q) :
    iprop(A ∗ B ∗ cAll m c ∗ X) ⊢ WP c (Prog.lift (.load cM r hl) >>= k) Q := by
  refine load_any (S := Finset.univ) (q := fullShare) (f := cC m c) (G := iprop(A ∗ B ∗ X)) w (Finset.subset_univ _) hw ?_ ?_ hk
  · unfold cAll
    iintro ⟨HA, HB, H1, HX⟩
    isplitl [H1]; · iexact H1
    isplitl [HA]; · iexact HA
    isplitl [HB]; · iexact HB
    iexact HX
  · unfold cAll
    iintro ⟨H1, HA, HB, HX⟩
    isplitl [HA]; · iexact HA
    isplitl [HB]; · iexact HB
    isplitl [H1]; · iexact H1
    iexact HX

/-- The reduced rows are lent out, a share for each transfer. -/
theorem ag_start (c : Dev nD) {A B C X : sProp 𝕄} : iprop(A ∗ B ∗ C ∗ oSeg c c fullShare (rC m) ∗ Theirs m c ∗ Tag c ∗ X)
    ⊢ iprop(A ∗ B ∗ Ag m c 0 ∗ C ∗ X) := by
  unfold Theirs Tag Ag Crs
  rw [own_deal, rng_all, rng_empty c 0 0 (le_refl _), bigSep_empty]
  rw [show bigSep (peers c) (fun d => iprop((oSeg c c (dealOf fullShare (peers c) d) (rC m) ∗ oSeg d c fullShare (pC m d))
        ∗ dutyTok ER (xCell c 2 d) 0 c ∗ dutyTok ER (xCell d 3 c) 0 d))
      = iprop(bigSep (peers c) (fun d => iprop(oSeg c c (dealOf fullShare (peers c) d) (rC m) ∗ oSeg d c fullShare (pC m d)))
        ∗ bigSep (peers c) (fun d => iprop(dutyTok ER (xCell c 2 d) 0 c ∗ dutyTok ER (xCell d 3 c) 0 d))) from BI.bigSep_sep _ _ _,
    show bigSep (peers c) (fun d => iprop(oSeg c c (dealOf fullShare (peers c) d) (rC m) ∗ oSeg d c fullShare (pC m d)))
      = iprop(bigSep (peers c) (fun d => oSeg c c (dealOf fullShare (peers c) d) (rC m)) ∗ bigSep (peers c) (fun d => oSeg d c fullShare (pC m d))) from BI.bigSep_sep _ _ _]
  iintro ⟨HA, HB, HC, H1, H2, H3, HX⟩
  isplitl [HA]; · iexact HA
  isplitl [HB]; · iexact HB
  isplitl [H1 H2 H3]
  · isplitl [H1 H2 H3]
    · isplitl [H1 H2]
      · isplitl [H1]
        · iexact H1
        · iexact H2
      · iexact H3
    · iempintro
  isplitl [HC]; · iexact HC
  iexact HX
/-- When all transfers of the second round have begun, their credits are left. -/
theorem ag_end (c : Dev nD) {A B W X : sProp 𝕄} : iprop(A ∗ B ∗ Ag m c 32 ∗ W ∗ X) ⊢ iprop(A ∗ B ∗ W ∗ Crs 2 c 32 ∗ X) := by
  unfold Ag
  iintro ⟨HA, HB, ⟨-, HC⟩, HW, HX⟩
  isplitl [HA]; · iexact HA
  isplitl [HB]; · iexact HB
  isplitl [HW]; · iexact HW
  isplitl [HC]; · iexact HC
  iexact HX

end Cert.KProof

end
-- ==== Proof.Parts2.lean ====
/-
The computation of the partial result, in two halves of rows, and the transfers of its rows to their devices.
-/
module

public import proofs.«01_k».proof.Proof.Names

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

/-- Before and after the waits for the weights. -/
def Ww (c : Dev nD) : sProp 𝕄 := iprop((cred (tallyAt (wCell c 0) () (NW 0)) ∗ atPos ER (wCell c 0) 0 ∅ 0)
  ∗ (cred (tallyAt (wCell c 1) () (NW 1)) ∗ atPos ER (wCell c 1) 0 ∅ 0))
def Wd (c : Dev nD) : sProp 𝕄 := iprop((atPos ER (wCell c 0) 1 ∅ 0 ∗ wPay m 0 c) ∗ (atPos ER (wCell c 1) 1 ∅ 0 ∗ wPay m 1 c))

/-- Reading the query weights after their copy has arrived. -/
theorem load_wq {c : Dev nD} {A B X Y P : sProp 𝕄} {α : Type} {Q : α → sProp 𝕄} {r : LoadRect S512x256} {hl : wqM.view.LoadsAt r} {k : (r.shape.Idx → Elt F .f32) → Prog (TpuEff nD τ sig (Elt F) Λ₀ .tc) α}
    (w : r.shape.Idx → Elt F .f32) (hw : wqM.view.readAt (Elt F) r (wqC m c) = w)
    (hk : iprop(A ∗ B ∗ ((P ∗ wPay m 0 c) ∗ Y) ∗ X) ⊢ WP c (k w) Q) :
    iprop(A ∗ B ∗ ((P ∗ wPay m 0 c) ∗ Y) ∗ X) ⊢ WP c (Prog.lift (.load wqM r hl) >>= k) Q := by
  refine load_any (S := wqM.view.set) (q := fullShare) (f := wqC m c) (G := iprop(wqSrcPts m c ∗ A ∗ B ∗ (P ∗ Y) ∗ X)) w (by intro i _; rw [show wqM.view.set = Finset.univ from View.set_whole _]; exact Finset.mem_univ _) hw ?_ ?_ hk
  · rw [show wPay m 0 c = iprop(wqPts c (wqC m c) ∗ wqSrcPts m c) from if_pos rfl]
    unfold wqPts
    iintro ⟨HA, HB, ⟨⟨HP, H1, H2⟩, HY⟩, HX⟩
    isplitl [H1]; · iexact H1
    isplitl [H2]; · iexact H2
    isplitl [HA]; · iexact HA
    isplitl [HB]; · iexact HB
    isplitl [HP HY]
    · isplitl [HP]
      · iexact HP
      · iexact HY
    iexact HX
  · rw [show wPay m 0 c = iprop(wqPts c (wqC m c) ∗ wqSrcPts m c) from if_pos rfl]
    unfold wqPts
    iintro ⟨H1, H2, HA, HB, ⟨HP, HY⟩, HX⟩
    isplitl [HA]; · iexact HA
    isplitl [HB]; · iexact HB
    isplitl [H1 H2 HP HY]
    · isplitl [H1 H2 HP]
      · isplitl [HP]; · iexact HP
        isplitl [H1]; · iexact H1
        iexact H2
      · iexact HY
    iexact HX
/-- Reading the output weights after their copy has arrived. -/
theorem load_wo {c : Dev nD} {A B X Y P : sProp 𝕄} {α : Type} {Q : α → sProp 𝕄} {r : LoadRect S256x512} {hl : woM.view.LoadsAt r} {k : (r.shape.Idx → Elt F .f32) → Prog (TpuEff nD τ sig (Elt F) Λ₀ .tc) α}
    (w : r.shape.Idx → Elt F .f32) (hw : woM.view.readAt (Elt F) r (woC m c) = w)
    (hk : iprop(A ∗ B ∗ (Y ∗ (P ∗ wPay m 1 c)) ∗ X) ⊢ WP c (k w) Q) :
    iprop(A ∗ B ∗ (Y ∗ (P ∗ wPay m 1 c)) ∗ X) ⊢ WP c (Prog.lift (.load woM r hl) >>= k) Q := by
  refine load_any (S := woM.view.set) (q := fullShare) (f := woC m c) (G := iprop(woSrcPts m c ∗ A ∗ B ∗ (P ∗ Y) ∗ X)) w (by intro i _; rw [show woM.view.set = Finset.univ from View.set_whole _]; exact Finset.mem_univ _) hw ?_ ?_ hk
  · rw [show wPay m 1 c = iprop(woPts c (woC m c) ∗ woSrcPts m c) from if_neg (by decide)]
    unfold woPts
    iintro ⟨HA, HB, ⟨HY, ⟨HP, H1, H2⟩⟩, HX⟩
    isplitl [H1]; · iexact H1
    isplitl [H2]; · iexact H2
    isplitl [HA]; · iexact HA
    isplitl [HB]; · iexact HB
    isplitl [HP HY]
    · isplitl [HP]
      · iexact HP
      · iexact HY
    iexact HX
  · rw [show wPay m 1 c = iprop(woPts c (woC m c) ∗ woSrcPts m c) from if_neg (by decide)]
    unfold woPts
    iintro ⟨H1, H2, HA, HB, ⟨HP, HY⟩, HX⟩
    isplitl [HA]; · iexact HA
    isplitl [HB]; · iexact HB
    isplitl [H1 H2 HP HY]
    · isplitl [HY]; · iexact HY
      isplitl [HP]; · iexact HP
      isplitl [H1]; · iexact H1
      iexact H2
    iexact HX

/-- Take apart what the two waits for the weights need. -/
theorem ww_open {A B X : sProp 𝕄} {c : Dev nD} : iprop(A ∗ B ∗ Ww c ∗ X)
    ⊢ iprop(A ∗ B ∗ (cred (tallyAt (wCell c 0) () (NW 0)) ∗ atPos ER (wCell c 0) 0 ∅ 0) ∗ (cred (tallyAt (wCell c 1) () (NW 1)) ∗ atPos ER (wCell c 1) 0 ∅ 0) ∗ X) := by
  unfold Ww
  iintro ⟨HA, HB, ⟨H1, H2⟩, HX⟩
  isplitl [HA]; · iexact HA
  isplitl [HB]; · iexact HB
  isplitl [H1]; · iexact H1
  isplitl [H2]; · iexact H2
  iexact HX
/-- Put together what the two waits for the weights gave. -/
theorem ww_close {A B X : sProp 𝕄} {c : Dev nD} : iprop(A ∗ B ∗ (atPos ER (wCell c 1) 1 ∅ 0 ∗ wPay m 1 c) ∗ (atPos ER (wCell c 0) 1 ∅ 0 ∗ wPay m 0 c) ∗ X)
    ⊢ iprop(A ∗ B ∗ ((atPos ER (wCell c 0) 1 ∅ 0 ∗ wPay m 0 c) ∗ (atPos ER (wCell c 1) 1 ∅ 0 ∗ wPay m 1 c)) ∗ X) := by
  iintro ⟨HA, HB, H1, H2, HX⟩
  isplitl [HA]; · iexact HA
  isplitl [HB]; · iexact HB
  isplitl [H1 H2]
  · isplitl [H2]
    · iexact H2
    · iexact H1
  iexact HX

set_option maxRecDepth 65536 in
set_option maxHeartbeats 4000000 in
/-- The waits for the weights, and the first head. -/
theorem part14_run (c : Dev nD) {X : sProp 𝕄} :
    iprop(Ctx m K ∗ OW c (OX 1 c 0 + OX 3 c 0) ∗ Ww c ∗ Bufs m c ∗ X)
      ⊢ WP c ((onBufs k0_part14) c) (fun r => iprop(⌜r = ⟨w426 m c, w428 m c, w433 m c, k0_pay4 (F := F), w455 m c⟩⌝ ∗ Ctx m K ∗ OW c (OX 1 c 0 + OX 3 c 0) ∗ Wd m c ∗ Bufs m c ∗ X)) := by
  unfold onBufs
  rw [k0_part14_eq_skeleton]
  unfold k0_part14_skel
  refine BIBase.Entails.trans ww_open ?_
  refine step_ww m K 0 c ?_ ?_ ?_
  · exact sem_w 0 rfl
  · rfl
  refine BIBase.Entails.trans swap12 ?_
  refine step_ww m K 1 c ?_ ?_ ?_
  · exact sem_w 1 rfl
  · rfl
  refine BIBase.Entails.trans (ww_close m) ?_
  refine load_wq m (wqC m c) ?_ ?_
  · exact Memref.readAt_unit_zero (Elt F) _ (by decide) _ _
  refine load_wo m (woC m c) ?_ ?_
  · exact Memref.readAt_unit_zero (Elt F) _ (by decide) _ _
  refine load_x m (xl m c 0) ?_ ?_
  · rfl
  refine load_k m (kl m c 0 0) ?_ ?_
  · rfl
  refine load_v m (vl m c 0 0) ?_ ?_
  · rfl
  exact wp_done

set_option maxRecDepth 65536 in
set_option maxHeartbeats 4000000 in
/-- The second head, and scores of the third. -/
theorem part15_run (c : Dev nD) {A B C X : sProp 𝕄} :
    iprop(A ∗ B ∗ C ∗ Bufs m c ∗ X)
      ⊢ WP c ((onBufs k0_part15) (w428 m c) (w433 m c) (k0_pay4 (F := F)) (w455 m c)) (fun r => iprop(⌜r = ⟨w484 m c, w491 m c, w493 m c⟩⌝ ∗ A ∗ B ∗ C ∗ Bufs m c ∗ X)) := by
  unfold onBufs
  rw [k0_part15_eq_skeleton]
  unfold k0_part15_skel
  refine load_k m (kl m c 0 1) ?_ ?_
  · rfl
  refine load_v m (vl m c 0 1) ?_ ?_
  · rfl
  refine load_k m (kl m c 0 2) ?_ ?_
  · rfl
  exact wp_done

set_option maxRecDepth 65536 in
set_option maxHeartbeats 4000000 in
/-- The third and fourth heads. -/
theorem part16_run (c : Dev nD) {A B C X : sProp 𝕄} :
    iprop(A ∗ B ∗ C ∗ Bufs m c ∗ X)
      ⊢ WP c ((onBufs k0_part16) (w428 m c) (w433 m c) (w484 m c) (w491 m c) (w493 m c)) (fun r => iprop(⌜r = ⟨w509 m c, w531 m c, w532 m c, constant S128x512 .f32 0x00000000#32⟩⌝ ∗ A ∗ B ∗ C ∗ Bufs m c ∗ X)) := by
  unfold onBufs
  rw [k0_part16_eq_skeleton]
  unfold k0_part16_skel
  refine load_v m (vl m c 0 2) ?_ ?_
  · rfl
  refine load_k m (kl m c 0 3) ?_ ?_
  · rfl
  refine load_v m (vl m c 0 3) ?_ ?_
  · rfl
  exact wp_done

/-- Bring the fourth member to the front. -/
theorem lo_open {c : Dev nD} {A B D X : sProp 𝕄} : iprop(A ∗ B ∗ Dst c 0 ∗ D ∗ X) ⊢ iprop(D ∗ A ∗ B ∗ Dst c 0 ∗ X) := by
  iintro ⟨HA, HB, HC, HD, HX⟩
  isplitl [HD]; · iexact HD
  isplitl [HA]; · iexact HA
  isplitl [HB]; · iexact HB
  isplitl [HC]; · iexact HC
  iexact HX
/-- After the lower half is written its rows are ready to be sent to the first 16 devices. -/
theorem lo_close {c : Dev nD} {A B X : sProp 𝕄} : iprop(oPts c lo (pC m c) ∗ A ∗ B ∗ Dst c 0 ∗ X) ⊢ iprop(A ∗ B ∗ Rs m 16 c 0 ∗ ownIn m c lo ∗ X) := by
  rw [lo_src]
  unfold Rs Crs
  iintro ⟨⟨H1, H2⟩, HA, HB, HC, HX⟩
  isplitl [HA]; · iexact HA
  isplitl [HB]; · iexact HB
  isplitl [H2 HC]
  · isplitl [H2]; · iexact H2
    isplitl [HC]; · iexact HC
    rw [rng_empty c 0 0 (le_refl _), bigSep_empty]
    iempintro
  isplitl [H1]; · iexact H1
  iexact HX
/-- After the upper half is written its rows are ready to be sent to the last 16 devices. -/
theorem hi_close {c : Dev nD} {A B C X : sProp 𝕄} : iprop(oPts c hi (pC m c) ∗ A ∗ B ∗ Rs m 16 c 16 ∗ C ∗ ownIn m c lo ∗ X) ⊢ iprop(A ∗ B ∗ Rs m 32 c 16 ∗ C ∗ oSeg c c fullShare (pC m c) ∗ X) := by
  rw [hi_src, ← own_join]
  unfold Rs
  iintro ⟨⟨H1, H2⟩, HA, HB, ⟨-, H3, H4⟩, HC, H5, HX⟩
  isplitl [HA]; · iexact HA
  isplitl [HB]; · iexact HB
  isplitl [H2 H3 H4]
  · isplitl [H2]; · iexact H2
    isplitl [H3]; · iexact H3
    iexact H4
  isplitl [HC]; · iexact HC
  isplitl [H1 H5]
  · isplitl [H5]
    · iexact H5
    · iexact H1
  iexact HX
/-- Bring the fifth member to the front. -/
theorem hi_open {A B C D E X : sProp 𝕄} : iprop(A ∗ B ∗ C ∗ D ∗ E ∗ X) ⊢ iprop(E ∗ A ∗ B ∗ C ∗ D ∗ X) := by
  iintro ⟨HA, HB, HC, HD, HE, HX⟩
  isplitl [HE]; · iexact HE
  isplitl [HA]; · iexact HA
  isplitl [HB]; · iexact HB
  isplitl [HC]; · iexact HC
  isplitl [HD]; · iexact HD
  iexact HX

/-- The first 128 rows lie in the lower half. -/
theorem half_lo {inb} : (oM.access (Rect.unit (s := S256x512) ![0, 0] S128x512.size inb)).set ⊆ rowsOf lo :=
  half_set 0 lo fun n _ h2 h => by
    unfold lo; rw [Finset.mem_filter]
    exact ⟨Finset.mem_univ _, show n / 8 < 16 by omega⟩
/-- The last 128 rows lie in the upper half. -/
theorem half_hi {inb} : (oM.access (Rect.unit (s := S256x512) ![128, 0] S128x512.size inb)).set ⊆ rowsOf hi :=
  half_set 128 hi fun n h1 _ h => by
    unfold hi; rw [Finset.mem_filter]
    exact ⟨Finset.mem_univ _, show ¬ n / 8 < 16 by omega⟩

/-- A load from the result buffer touches the indices of its rectangle. -/
theorem load_set {r : Rect S256x512} : oM.view.setOn r.toLoadRect.set = (oM.access r).set := (View.set_slice _ _).symm

/-- The first half of the rows is stored. -/
theorem store_first (c : Dev nD) {A B X : sProp 𝕄} {α : Type} {Q : α → sProp 𝕄} {inb : ∀ a, (![0, 0] : Fin 2 → ℕ) a + S128x512.size a ≤ S256x512.size a}
    {hl : oM.view.LoadsAt (Rect.unit (s := S256x512) ![0, 0] S128x512.size inb).toLoadRect} {w : FVec F S128x512 .bf16} {hx hm}
    {rest : Prog (TpuEff nD τ sig (Elt F) Λ₀ .tc) α} {f : Buf (Elt F) (oM.view.loc (c : Thread nD τ))} (hw : w = part0 m c)
    (hk : iprop(A ∗ B ∗ Rs m 16 c 0 ∗ ownIn m c lo ∗ X) ⊢ WP c rest Q) :
    iprop(A ∗ B ∗ Dst c 0 ∗ oPts c lo f ∗ X)
      ⊢ WP c (Prog.lift (.load oM (Rect.unit (s := S256x512) ![0, 0] S128x512.size inb).toLoadRect hl) >>= fun _ =>
          Prog.lift (.store oM (Rect.unit (s := S256x512) ![0, 0] S128x512.size inb) w Finset.univ hx hm) >>= fun _ => rest) Q := by
  subst hw
  refine BIBase.Entails.trans lo_open ?_
  unfold oPts
  refine load_hd _ ?_ rfl ?_
  · rw [load_set]; exact half_lo
  refine store_hd (M := oM) (r := Rect.unit (s := S256x512) ![0, 0] S128x512.size inb) (f := f) (g := pC m c) ?_ ?_ ?_
  · exact half_lo
  · exact store_lo m c f
  exact BIBase.Entails.trans (lo_close m) hk
/-- The second half of the rows is stored. -/
theorem store_second (c : Dev nD) {A B C X : sProp 𝕄} {α : Type} {Q : α → sProp 𝕄} {inb : ∀ a, (![128, 0] : Fin 2 → ℕ) a + S128x512.size a ≤ S256x512.size a}
    {hl : oM.view.LoadsAt (Rect.unit (s := S256x512) ![128, 0] S128x512.size inb).toLoadRect} {w : FVec F S128x512 .bf16} {hx hm}
    {rest : Prog (TpuEff nD τ sig (Elt F) Λ₀ .tc) α} {f : Buf (Elt F) (oM.view.loc (c : Thread nD τ))} (hw : w = part1 m c)
    (hk : iprop(A ∗ B ∗ Rs m 32 c 16 ∗ C ∗ oSeg c c fullShare (pC m c) ∗ X) ⊢ WP c rest Q) :
    iprop(A ∗ B ∗ Rs m 16 c 16 ∗ C ∗ oPts c hi f ∗ ownIn m c lo ∗ X)
      ⊢ WP c (Prog.lift (.load oM (Rect.unit (s := S256x512) ![128, 0] S128x512.size inb).toLoadRect hl) >>= fun _ =>
          Prog.lift (.store oM (Rect.unit (s := S256x512) ![128, 0] S128x512.size inb) w Finset.univ hx hm) >>= fun _ => rest) Q := by
  subst hw
  refine BIBase.Entails.trans hi_open ?_
  unfold oPts
  refine load_hd _ ?_ rfl ?_
  · rw [load_set]; exact half_hi
  refine store_hd (M := oM) (r := Rect.unit (s := S256x512) ![128, 0] S128x512.size inb) (f := f) (g := pC m c) ?_ ?_ ?_
  · exact half_hi
  · exact store_hi m c f
  exact BIBase.Entails.trans (hi_close m) hk

end Cert.KProof

end
-- ==== Proof.Turns.lean ====
/-
What device `c` holds between the parts of the code.
-/
module

public import proofs.«01_k».proof.Proof.Parts5
public import proofs.«01_k».proof.Proof.Parts2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

/-- The tokens of the first round. -/
def Trs (c : Dev nD) : sProp 𝕄 := bigSep (peers c) (fun d => iprop(dutyTok ER (xCell c 0 d) 0 c ∗ dutyTok ER (xCell d 1 c) 0 d))
/-- The positions before the waits of kind `k`. -/
def Ats (k : Fin 4) (c : Dev nD) : sProp 𝕄 := bigSep (peers c) (fun d => atPos ER (xCell c k d) 0 ∅ 0)
/-- The barrier before its wait and after it. -/
def Bar0 (c : Dev nD) : sProp 𝕄 := iprop(atPos ER (barCell c) 0 ∅ 0 ∗ cred (tallyAt (barCell c) () 31))
/-- The result buffer, complete. -/
def oAll (c : Dev nD) : sProp 𝕄 := oM.view.loc (c : Thread nD τ) ↦{fullShare} (rC m)

/-- Bring the sixth member to the fourth place. -/
theorem turn13 {A B C D E W X : sProp 𝕄} : iprop(A ∗ B ∗ C ∗ D ∗ E ∗ W ∗ X) ⊢ iprop(A ∗ B ∗ C ∗ W ∗ D ∗ E ∗ X) := by
  iintro ⟨HA, HB, HC, HD, HE, HW, HX⟩
  isplitl [HA]; · iexact HA
  isplitl [HB]; · iexact HB
  isplitl [HC]; · iexact HC
  isplitl [HW]; · iexact HW
  isplitl [HD]; · iexact HD
  isplitl [HE]; · iexact HE
  iexact HX
/-- Gather what the two waits for the weights need. -/
theorem turn14 {c : Dev nD} {A B P U X : sProp 𝕄} :
    iprop(A ∗ B ∗ P ∗ cred (tallyAt (wCell c 1) () (NW 1)) ∗ cred (tallyAt (wCell c 0) () (NW 0)) ∗ (atPos ER (wCell c 0) 0 ∅ 0 ∗ atPos ER (wCell c 1) 0 ∅ 0) ∗ U ∗ X)
      ⊢ iprop(A ∗ B ∗ Ww c ∗ U ∗ P ∗ X) := by
  unfold Ww
  iintro ⟨HA, HB, HP, H1, H0, ⟨H2, H3⟩, HU, HX⟩
  isplitl [HA]; · iexact HA
  isplitl [HB]; · iexact HB
  isplitl [H0 H1 H2 H3]
  · isplitl [H0 H2]
    · isplitl [H0]
      · iexact H0
      · iexact H2
    · isplitl [H1]
      · iexact H1
      · iexact H3
  isplitl [HU]; · iexact HU
  isplitl [HP]; · iexact HP
  iexact HX
/-- After the barrier, the rows received from the others and the tokens are what the first round needs. -/
theorem dst_start (c : Dev nD) : iprop(bigSep (peers c) (fun p => barPay (F := F) c p) ∗ Trs c) ⊢ Dst c 0 := by
  unfold Trs Dst
  rw [rng_all]
  exact Entails.of_eq (BI.bigSep_sep (peers c) (fun d => barPay (F := F) c d) (fun d => iprop(dutyTok ER (xCell c 0 d) 0 c ∗ dutyTok ER (xCell d 1 c) 0 d))).symm
/-- Gather what the first round needs after the barrier. -/
theorem turn17 {c : Dev nD} {A B D U P L H S X : sProp 𝕄} :
    iprop(A ∗ B ∗ D ∗ U ∗ (P ∗ bigSep (peers c) (fun p => barPay (F := F) c p)) ∗ L ∗ H ∗ S ∗ Trs c ∗ X)
      ⊢ iprop(A ∗ B ∗ Dst c 0 ∗ L ∗ D ∗ U ∗ P ∗ H ∗ S ∗ X) := by
  iintro ⟨HA, HB, HD, HU, ⟨HP, H1⟩, HL, HH, HS, H2, HX⟩
  isplitl [HA]; · iexact HA
  isplitl [HB]; · iexact HB
  isplitl [H1 H2]
  · iapply (dst_start c)
    isplitl [H1]
    · iexact H1
    · iexact H2
  isplitl [HL]; · iexact HL
  isplitl [HD]; · iexact HD
  isplitl [HU]; · iexact HU
  isplitl [HP]; · iexact HP
  isplitl [HH]; · iexact HH
  isplitl [HS]; · iexact HS
  iexact HX
/-- Reorder the members for the lower half. -/
theorem turn18 {A B R L D U P H X : sProp 𝕄} : iprop(A ∗ B ∗ R ∗ L ∗ D ∗ U ∗ P ∗ H ∗ X) ⊢ iprop(A ∗ B ∗ R ∗ U ∗ H ∗ L ∗ D ∗ P ∗ X) := by
  iintro ⟨HA, HB, HR, HL, HD, HU, HP, HH, HX⟩
  isplitl [HA]; · iexact HA
  isplitl [HB]; · iexact HB
  isplitl [HR]; · iexact HR
  isplitl [HU]; · iexact HU
  isplitl [HH]; · iexact HH
  isplitl [HL]; · iexact HL
  isplitl [HD]; · iexact HD
  isplitl [HP]; · iexact HP
  iexact HX
/-- Reorder the members for the waits of the first round. -/
theorem turn23 {A B R U O D P S T W X : sProp 𝕄} : iprop(A ∗ B ∗ R ∗ U ∗ O ∗ D ∗ P ∗ S ∗ T ∗ W ∗ X) ⊢ iprop(A ∗ B ∗ R ∗ O ∗ S ∗ W ∗ U ∗ D ∗ P ∗ T ∗ X) := by
  iintro ⟨HA, HB, HR, HU, HO, HD, HP, HS, HT, HW, HX⟩
  isplitl [HA]; · iexact HA
  isplitl [HB]; · iexact HB
  isplitl [HR]; · iexact HR
  isplitl [HO]; · iexact HO
  isplitl [HS]; · iexact HS
  isplitl [HW]; · iexact HW
  isplitl [HU]; · iexact HU
  isplitl [HD]; · iexact HD
  isplitl [HP]; · iexact HP
  isplitl [HT]; · iexact HT
  iexact HX
/-- Bring the sixth member to the fourth place. -/
theorem turn26 {A B W C O S X : sProp 𝕄} : iprop(A ∗ B ∗ W ∗ C ∗ O ∗ S ∗ X) ⊢ iprop(A ∗ B ∗ W ∗ S ∗ C ∗ O ∗ X) := by
  iintro ⟨HA, HB, HW, HC, HO, HS, HX⟩
  isplitl [HA]; · iexact HA
  isplitl [HB]; · iexact HB
  isplitl [HW]; · iexact HW
  isplitl [HS]; · iexact HS
  isplitl [HC]; · iexact HC
  isplitl [HO]; · iexact HO
  iexact HX
/-- Reorder the members for the second round. -/
theorem turn29 {A B C P T R O U D Q G X : sProp 𝕄} : iprop(A ∗ B ∗ C ∗ P ∗ T ∗ R ∗ O ∗ U ∗ D ∗ Q ∗ G ∗ X) ⊢ iprop(A ∗ B ∗ C ∗ O ∗ T ∗ G ∗ P ∗ R ∗ U ∗ D ∗ Q ∗ X) := by
  iintro ⟨HA, HB, HC, HP, HT, HR, HO, HU, HD, HQ, HG, HX⟩
  isplitl [HA]; · iexact HA
  isplitl [HB]; · iexact HB
  isplitl [HC]; · iexact HC
  isplitl [HO]; · iexact HO
  isplitl [HT]; · iexact HT
  isplitl [HG]; · iexact HG
  isplitl [HP]; · iexact HP
  isplitl [HR]; · iexact HR
  isplitl [HU]; · iexact HU
  isplitl [HD]; · iexact HD
  isplitl [HQ]; · iexact HQ
  iexact HX
/-- Bring the tenth member to the fourth place. -/
theorem turn32 {A B G C P R U D Q W X : sProp 𝕄} : iprop(A ∗ B ∗ G ∗ C ∗ P ∗ R ∗ U ∗ D ∗ Q ∗ W ∗ X) ⊢ iprop(A ∗ B ∗ G ∗ W ∗ C ∗ P ∗ R ∗ U ∗ D ∗ Q ∗ X) := by
  iintro ⟨HA, HB, HG, HC, HP, HR, HU, HD, HQ, HW, HX⟩
  isplitl [HA]; · iexact HA
  isplitl [HB]; · iexact HB
  isplitl [HG]; · iexact HG
  isplitl [HW]; · iexact HW
  isplitl [HC]; · iexact HC
  isplitl [HP]; · iexact HP
  isplitl [HR]; · iexact HR
  isplitl [HU]; · iexact HU
  isplitl [HD]; · iexact HD
  isplitl [HQ]; · iexact HQ
  iexact HX
/-- The credits and positions are what the waits of one kind start from. -/
theorem wt_start (k : Fin 4) (c : Dev nD) : iprop(Crs k c 32 ∗ Ats k c) ⊢ Wt m k c 0 := by
  unfold Crs Ats Wt
  rw [rng_all, rng_empty c 0 0 (le_refl _), bigSep_empty]
  iintro ⟨H1, H2⟩
  isplitl [H1 H2]
  · rw [show bigSep (peers c) (fun d => iprop(cred (tallyAt (xCell c k d) () NB) ∗ atPos ER (xCell c k d) 0 ∅ 0))
      = iprop(bigSep (peers c) (fun d => cred (tallyAt (xCell c k d) () NB)) ∗ bigSep (peers c) (fun d => (atPos ER (xCell c k d) 0 ∅ 0 : sProp 𝕄))) from BI.bigSep_sep _ _ _]
    isplitl [H1]
    · iexact H1
    · iexact H2
  · iempintro
/-- Past all the waits of kind `k`. -/
theorem wt_end (k : Fin 4) (c : Dev nD) : Wt m k c 32 ⊢ iprop(Past k c ∗ bigSep (peers c) (fun d => xPay m k c d)) := by
  unfold Past Wt
  rw [rng_all]
  iintro ⟨-, H⟩
  iapply (Entails.of_eq (BI.bigSep_sep (peers c) (fun d => atPos ER (xCell c k d) 1 ∅ 0) (fun d => xPay m k c d)))
  iexact H
/-- 35: the credits of the transfers sent, with the positions, are what the last waits need. -/
theorem turn35 {c : Dev nD} {A B W C P U D Q X : sProp 𝕄} :
    iprop(A ∗ B ∗ W ∗ Crs 2 c 32 ∗ C ∗ P ∗ Crs 0 c 32 ∗ U ∗ D ∗ Q ∗ (Ats 0 c ∗ Ats 2 c) ∗ X)
      ⊢ iprop(A ∗ B ∗ W ∗ Wt m 0 c 0 ∗ Wt m 2 c 0 ∗ C ∗ P ∗ U ∗ D ∗ Q ∗ X) := by
  iintro ⟨HA, HB, HW, H2, HC, HP, H0, HU, HD, HQ, ⟨G0, G2⟩, HX⟩
  isplitl [HA]; · iexact HA
  isplitl [HB]; · iexact HB
  isplitl [HW]; · iexact HW
  isplitl [H0 G0]
  · iapply (wt_start m 0 c)
    isplitl [H0]
    · iexact H0
    · iexact G0
  isplitl [H2 G2]
  · iapply (wt_start m 2 c)
    isplitl [H2]
    · iexact H2
    · iexact G2
  isplitl [HC]; · iexact HC
  isplitl [HP]; · iexact HP
  isplitl [HU]; · iexact HU
  isplitl [HD]; · iexact HD
  isplitl [HQ]; · iexact HQ
  iexact HX
/-- The end: the result buffer is whole again. -/
theorem turn39 {c : Dev nD} {A B C P U D Q X : sProp 𝕄} :
    iprop(A ∗ B ∗ Wt m 0 c 32 ∗ Wt m 2 c 32 ∗ Wt m 3 c 32 ∗ C ∗ P ∗ U ∗ D ∗ Q ∗ X)
      ⊢ iprop(A ∗ B ∗ oAll m c ∗ Past 0 c ∗ Past 2 c ∗ Past 3 c ∗ C ∗ P ∗ U ∗ D ∗ Q ∗ X) := by
  unfold oAll
  rw [o_join, own_deal]
  iintro ⟨HA, HB, H0, H2, H3, HC, HP, HU, HD, HQ, HX⟩
  ihave H0 := (wt_end m 0 c) $$ H0
  ihave H2 := (wt_end m 2 c) $$ H2
  ihave H3 := (wt_end m 3 c) $$ H3
  icases H0 with ⟨H0, -⟩
  icases H2 with ⟨H2, G2⟩
  icases H3 with ⟨H3, G3⟩
  isplitl [HA]; · iexact HA
  isplitl [HB]; · iexact HB
  isplitl [G2 G3]
  · isplitl [G2]
    · iexact G2
    · iexact G3
  isplitl [H0]; · iexact H0
  isplitl [H2]; · iexact H2
  isplitl [H3]; · iexact H3
  isplitl [HC]; · iexact HC
  isplitl [HP]; · iexact HP
  isplitl [HU]; · iexact HU
  isplitl [HD]; · iexact HD
  isplitl [HQ]; · iexact HQ
  iexact HX

end Cert.KProof

end
-- ==== Proof.Cells.lean ====
/-
The cells of one device, listed by kind; how they are closed at the end.
-/
module

public import proofs.«01_k».proof.Proof.Turns

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- Where a cell stands among the kernel's own: the two of the weights, then four kinds of 32. -/
def cellIx : Fin 2 ⊕ (Fin 4 × Dev nD) → Fin 130
  | .inl k => wi k
  | .inr kd => xi kd.1 kd.2

/-- No two kinds of transfer cell share an index. -/
theorem cellIx_injective : Function.Injective cellIx := by
  rintro (k | ⟨k, d⟩) (k' | ⟨k', d'⟩) h
  · replace h := congrArg Fin.val h
    change k.val = k'.val at h
    rw [Fin.ext h]
  · replace h := congrArg Fin.val h
    change k.val = 2 + 32 * k'.val + d'.val at h
    have := k.isLt; omega
  · replace h := congrArg Fin.val h
    change 2 + 32 * k.val + d.val = k'.val at h
    have := k'.isLt; omega
  · replace h := congrArg Fin.val h
    change 2 + 32 * k.val + d.val = 2 + 32 * k'.val + d'.val at h
    have h1 : d.val < 32 := d.isLt
    have h2 : d'.val < 32 := d'.isLt
    have e1 : k = k' := Fin.ext (by omega)
    have e2 : d = d' := Fin.ext (by omega)
    rw [e1, e2]

/-- There are as many cells of the two kinds together as there are cell indices. -/
theorem cellIx_card : Fintype.card (Fin 2 ⊕ (Fin 4 × Dev nD)) = Fintype.card (Fin 130) := by
  rw [Fintype.card_sum, Fintype.card_prod, Fintype.card_fin, Fintype.card_fin, Fintype.card_fin, Fintype.card_fin]; rfl

def cellEq : Fin 2 ⊕ (Fin 4 × Dev nD) ≃ Fin 130 :=
  Equiv.ofBijective cellIx ((Fintype.bijective_iff_injective_and_card _).mpr ⟨cellIx_injective, cellIx_card⟩)

omit [FloatOps F] in
/-- A separating product over two indices, written out. -/
theorem bigSep_two (Φ : Fin 2 → sProp 𝕄) : bigSep Finset.univ Φ = iprop(Φ 0 ∗ Φ 1) := bigSep_univ_eq_bigSepL [0, 1] (by decide) (by decide) Φ
omit [FloatOps F] in
/-- A separating product over four indices, written out. -/
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- Something said of every cell of the kernel itself on device `c`, kind by kind. -/
theorem bigSep_kernel (c : Dev nD) (Ψ : GSem nD τ sig → sProp 𝕄) :
    bigSep Finset.univ (fun i : Fin 130 => Ψ (kcell (c, some i)))
      = iprop((Ψ (wCell c 0) ∗ Ψ (wCell c 1)) ∗ bigSep Finset.univ (fun d => Ψ (xCell c 0 d)) ∗ bigSep Finset.univ (fun d => Ψ (xCell c 1 d))
          ∗ bigSep Finset.univ (fun d => Ψ (xCell c 2 d)) ∗ bigSep Finset.univ (fun d => Ψ (xCell c 3 d))) := by
  have hx (k : Fin 4) : bigSep Finset.univ (fun d : Dev nD => Ψ (kcell (c, some (xi k d)))) = bigSep Finset.univ (fun d => Ψ (xCell c k d)) :=
    bigSep_congr fun d _ => by rw [show kcell (c, some (xi k d)) = xCell c k d from congrArg (Prod.mk _) (osem_xi k d)]
  rw [bigSep_univ_equiv cellEq, bigSep_univ_sum, bigSep_univ_prod, bigSep_two, bigSep_four]
  exact congrArg₂ BIBase.sep rfl (congrArg₂ BIBase.sep (hx 0) (congrArg₂ BIBase.sep (hx 1) (congrArg₂ BIBase.sep (hx 2) (hx 3))))

omit [FloatOps F] in
/-- A separating product over optional indices is the member at none and the product over the rest. -/
theorem bigSep_opt (Φ : Option (Fin 130) → sProp 𝕄) :
    bigSep Finset.univ Φ = iprop(Φ none ∗ bigSep Finset.univ (fun i => Φ (some i))) := by
  have h : (Finset.univ.erase none : Finset (Option (Fin 130))) = Finset.univ.map ⟨some, Option.some_injective _⟩ := by
    ext x; cases x <;> simp
  rw [bigSep_univ_at Φ none, h, bigSep_map]; rfl

omit [FloatOps F] in
/-- ... and of every cell of device `c`, the barrier's first. -/
theorem bigSep_own (c : Dev nD) (Ψ : GSem nD τ sig → sProp 𝕄) :
    bigSep Finset.univ (fun k : Option (Fin 130) => Ψ (kcell (c, k)))
      = iprop(Ψ (barCell c) ∗ (Ψ (wCell c 0) ∗ Ψ (wCell c 1)) ∗ bigSep Finset.univ (fun d => Ψ (xCell c 0 d)) ∗ bigSep Finset.univ (fun d => Ψ (xCell c 1 d))
          ∗ bigSep Finset.univ (fun d => Ψ (xCell c 2 d)) ∗ bigSep Finset.univ (fun d => Ψ (xCell c 3 d))) := by
  rw [bigSep_opt, bigSep_kernel c Ψ]

omit [FloatOps F] in
/-- A persistent fact may be used at every member of a separating product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (K : Dev nD × Option (Fin 130) → ℕ)

/-- The position of device `c` at the transfer cell of kind `k` it never uses. -/
def Self (k : Fin 4) (c : Dev nD) : sProp 𝕄 := atPos ER (xCell c k c) 0 ∅ 0

/-- One transfer cell closes. -/
theorem close_x (k : Fin 4) (c d : Dev nD) {R : ℕ} (hR : ∀ r, R ≤ r → (Rd (F := F) m).duties (xCell c k d) r = ∅) :
    iprop(records m K ∗ atPos ER (xCell c k d) R ∅ 0) ⊢ |={Set.univ}=> semVal (xCell c k d) 0 := by
  iintro ⟨#Hr, Hat⟩
  ihave #HI := (inv_x m K c k d) $$ Hr
  iapply (Rounds.cell_close ER (Rd m) (Set.mem_univ (K (c, some (xi k d)))) (fun h => h) (R := R) hR)
  isplitr
  · iexact HI
  · iexact Hat
/-- The cells of one kind close. -/
theorem close_kind (k : Fin 4) (c : Dev nD) :
    iprop(records m K ∗ Self k c ∗ Past k c) ⊢ |={Set.univ}=> bigSep Finset.univ (fun d => semVal (xCell c k d) 0) := by
  have h : iprop(records m K ∗ Past k c) ⊢ |={Set.univ}=> bigSep (peers c) (fun d => semVal (xCell c k d) 0) :=
    (with_persistent (S := peers c) (R := records m K) (Φ := fun d => atPos ER (xCell c k d) 1 ∅ 0) (Ψ := fun d => iprop(|={Set.univ}=> semVal (xCell c k d) 0))
      fun d _ => close_x m K k c d (duties_later m _)).trans (bigSep_fupd _ _)
  rw [bigSep_univ_at _ c]
  unfold Self
  iintro ⟨#Hr, Hs, Hp⟩
  imod (close_x m K k c c (R := 0) (fun r _ => duties_x_self m c k r)) $$ [Hs] with Hz
  · isplitr
    · iexact Hr
    · iexact Hs
  imod h $$ [Hp] with Hp
  · isplitr
    · iexact Hr
    · iexact Hp
  imodintro
  isplitl [Hz]
  · iexact Hz
  · iexact Hp
/-- A cell of the weights closes. -/
theorem close_w (k : Fin 2) (c : Dev nD) :
    iprop(records m K ∗ atPos ER (wCell c k) 1 ∅ 0) ⊢ |={Set.univ}=> semVal (wCell c k) 0 := by
  iintro ⟨#Hr, Hat⟩
  ihave #HI := (inv_w m K c k) $$ Hr
  iapply (Rounds.cell_close ER (Rd m) (Set.mem_univ (K (c, some (wi k)))) (fun h => h) (R := 1) (duties_later m _))
  isplitr
  · iexact HI
  · iexact Hat
/-- The barrier's cell closes. -/
theorem close_bar (c : Dev nD) :
    iprop(records m K ∗ atPos ER (barCell c) 1 ∅ 0) ⊢ |={Set.univ}=> semVal (barCell c) 0 := by
  iintro ⟨#Hr, Hat⟩
  ihave #HI := (inv_bar m K c) $$ Hr
  iapply (Rounds.cell_close ER (Rd m) (Set.mem_univ (K (c, none))) (fun h => h) (R := 1) (duties_later m _))
  isplitr
  · iexact HI
  · iexact Hat

/-- All positions of device `c` at the end. -/
def Ends (c : Dev nD) : sProp 𝕄 :=
  iprop(atPos ER (barCell c) 1 ∅ 0 ∗ (atPos ER (wCell c 0) 1 ∅ 0 ∗ atPos ER (wCell c 1) 1 ∅ 0)
    ∗ (Self 0 c ∗ Past 0 c) ∗ (Self 1 c ∗ Past 1 c) ∗ (Self 2 c ∗ Past 2 c) ∗ (Self 3 c ∗ Past 3 c))
/-- The kernel's own semaphores read zero. -/
def Zeros (c : Dev nD) : sProp 𝕄 :=
  iprop(semVal (barCell c) 0 ∗ bigSep Finset.univ (fun i : Fin 130 => semVal (kcell (c, some i)) 0))

/-- Every cell of device `c` closes with its counter at zero. -/
theorem close_all (c : Dev nD) : iprop(records m K ∗ Ends c) ⊢ |={Set.univ}=> Zeros (F := F) c := by
  unfold Ends Zeros
  rw [bigSep_kernel c (fun g => semVal g 0)]
  iintro ⟨#Hr, Hb, ⟨H0, H1⟩, G0, G1, G2, G3⟩
  imod (close_bar m K c) $$ [Hb] with Hb
  · isplitr
    · iexact Hr
    · iexact Hb
  imod (close_w m K 0 c) $$ [H0] with H0
  · isplitr
    · iexact Hr
    · iexact H0
  imod (close_w m K 1 c) $$ [H1] with H1
  · isplitr
    · iexact Hr
    · iexact H1
  imod (close_kind m K 0 c) $$ [G0] with G0
  · isplitr
    · iexact Hr
    · iexact G0
  imod (close_kind m K 1 c) $$ [G1] with G1
  · isplitr
    · iexact Hr
    · iexact G1
  imod (close_kind m K 2 c) $$ [G2] with G2
  · isplitr
    · iexact Hr
    · iexact G2
  imod (close_kind m K 3 c) $$ [G3] with G3
  · isplitr
    · iexact Hr
    · iexact G3
  imodintro
  isplitl [Hb]; · iexact Hb
  isplitl [H0 H1]
  · isplitl [H0]
    · iexact H0
    · iexact H1
  isplitl [G0]; · iexact G0
  isplitl [G1]; · iexact G1
  isplitl [G2]; · iexact G2
  iexact G3

end Cert.KProof

end
-- ==== Proof.Parts1.lean ====
/-
The signals of the barrier: every device tells every other that its buffers may be written to.
-/
module

public import proofs.«01_k».proof.Proof.Names

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- The copies of the weights begin; the first signal. -/
theorem part1_run (c : Dev nD) {X : sProp 𝕄} :
    iprop(Ctx m K ∗ OW c (OB c 1 + (OX 1 c 0 + OX 3 c 0)) ∗ Wq0 m c ∗ Wo0 m c ∗ Bs c 1 ∗ X)
      ⊢ WP c (onBufs k0_part1) (fun r => iprop(⌜r = ⟨c, v2w c, Scalar.muli (v2w c) 8#32, SemArray.scalar barS, Scalar.select (Scalar.cmpi .eq 32#32 0#32) 1#32 32#32, Scalar.remsi (Scalar.addi (v2w c) 2#32) (Scalar.select (Scalar.cmpi .eq 32#32 0#32) 1#32 32#32)⟩⌝
          ∗ Ctx m K ∗ OW c (OB c 2 + (OX 1 c 0 + OX 3 c 0)) ∗ Bs c 2 ∗ cred (tallyAt (wCell c 1) () (NW 1)) ∗ cred (tallyAt (wCell c 0) () (NW 0)) ∗ X)) := by
  unfold onBufs
  rw [k0_part1_eq_skeleton]
  unfold k0_part1_skel
  refine step_dev ?_
  refine step_wq m K c ?_ ?_
  · exact sem_w 0 rfl
  refine BIBase.Entails.trans swap12 ?_
  refine step_wo m K c ?_ ?_
  · exact sem_w 1 rfl
  refine BIBase.Entails.trans swap2 ?_
  refine step_signal m K 1 c ?_ ?_ ?_ ?_
  · decide
  · exact dev_1 c
  · rfl
  exact wp_done

set_option maxRecDepth 65536 in
set_option maxHeartbeats 4000000 in
/-- Signals 2 to 3. -/
theorem part2_run (c : Dev nD) (w1 w2 : BitVec 32) {X : sProp 𝕄} :
    iprop(Ctx m K ∗ OW c (OB c 2 + (OX 1 c 0 + OX 3 c 0)) ∗ Bs c 2 ∗ X)
      ⊢ WP c ((onBufs k0_part2) c (v2w c) (SemArray.scalar barS) w1 w2) (fun _ => iprop(Ctx m K ∗ OW c (OB c 4 + (OX 1 c 0 + OX 3 c 0)) ∗ Bs c 4 ∗ X)) := by
  unfold onBufs
  rw [k0_part2_eq_skeleton]
  unfold k0_part2_skel
  refine step_signal m K 2 c ?_ ?_ ?_ ?_
  · decide
  · exact dev_2 c
  · rfl
  refine step_signal m K 3 c ?_ ?_ ?_ ?_
  · decide
  · exact dev_3 c
  · rfl
  exact wp_done'

set_option maxRecDepth 65536 in
set_option maxHeartbeats 4000000 in
/-- Signals 4 to 6. -/
theorem part3_run (c : Dev nD) (w1 w2 : BitVec 32) {X : sProp 𝕄} :
    iprop(Ctx m K ∗ OW c (OB c 4 + (OX 1 c 0 + OX 3 c 0)) ∗ Bs c 4 ∗ X)
      ⊢ WP c ((onBufs k0_part3) c (v2w c) (SemArray.scalar barS) w1 w2) (fun _ => iprop(Ctx m K ∗ OW c (OB c 7 + (OX 1 c 0 + OX 3 c 0)) ∗ Bs c 7 ∗ X)) := by
  unfold onBufs
  rw [k0_part3_eq_skeleton]
  unfold k0_part3_skel
  refine step_signal m K 4 c ?_ ?_ ?_ ?_
  · decide
  · exact dev_4 c
  · rfl
  refine step_signal m K 5 c ?_ ?_ ?_ ?_
  · decide
  · exact dev_5 c
  · rfl
  refine step_signal m K 6 c ?_ ?_ ?_ ?_
  · decide
  · exact dev_6 c
  · rfl
  exact wp_done'

set_option maxRecDepth 65536 in
set_option maxHeartbeats 4000000 in
/-- Signals 7 to 8. -/
theorem part4_run (c : Dev nD) (w1 w2 : BitVec 32) {X : sProp 𝕄} :
    iprop(Ctx m K ∗ OW c (OB c 7 + (OX 1 c 0 + OX 3 c 0)) ∗ Bs c 7 ∗ X)
      ⊢ WP c ((onBufs k0_part4) c (v2w c) (SemArray.scalar barS) w1 w2) (fun _ => iprop(Ctx m K ∗ OW c (OB c 9 + (OX 1 c 0 + OX 3 c 0)) ∗ Bs c 9 ∗ X)) := by
  unfold onBufs
  rw [k0_part4_eq_skeleton]
  unfold k0_part4_skel
  refine step_signal m K 7 c ?_ ?_ ?_ ?_
  · decide
  · exact dev_7 c
  · rfl
  refine step_signal m K 8 c ?_ ?_ ?_ ?_
  · decide
  · exact dev_8 c
  · rfl
  exact wp_done'

set_option maxRecDepth 65536 in
set_option maxHeartbeats 4000000 in
/-- Signals 9 to 11. -/
theorem part5_run (c : Dev nD) (w1 w2 : BitVec 32) {X : sProp 𝕄} :
    iprop(Ctx m K ∗ OW c (OB c 9 + (OX 1 c 0 + OX 3 c 0)) ∗ Bs c 9 ∗ X)
      ⊢ WP c ((onBufs k0_part5) c (v2w c) (SemArray.scalar barS) w1 w2) (fun _ => iprop(Ctx m K ∗ OW c (OB c 12 + (OX 1 c 0 + OX 3 c 0)) ∗ Bs c 12 ∗ X)) := by
  unfold onBufs
  rw [k0_part5_eq_skeleton]
  unfold k0_part5_skel
  refine step_signal m K 9 c ?_ ?_ ?_ ?_
  · decide
  · exact dev_9 c
  · rfl
  refine step_signal m K 10 c ?_ ?_ ?_ ?_
  · decide
  · exact dev_10 c
  · rfl
  refine step_signal m K 11 c ?_ ?_ ?_ ?_
  · decide
  · exact dev_11 c
  · rfl
  exact wp_done'

set_option maxRecDepth 65536 in
set_option maxHeartbeats 4000000 in
/-- Signals 12 to 13. -/
theorem part6_run (c : Dev nD) (w1 w2 : BitVec 32) {X : sProp 𝕄} :
    iprop(Ctx m K ∗ OW c (OB c 12 + (OX 1 c 0 + OX 3 c 0)) ∗ Bs c 12 ∗ X)
      ⊢ WP c ((onBufs k0_part6) c (v2w c) (SemArray.scalar barS) w1 w2) (fun _ => iprop(Ctx m K ∗ OW c (OB c 14 + (OX 1 c 0 + OX 3 c 0)) ∗ Bs c 14 ∗ X)) := by
  unfold onBufs
  rw [k0_part6_eq_skeleton]
  unfold k0_part6_skel
  refine step_signal m K 12 c ?_ ?_ ?_ ?_
  · decide
  · exact dev_12 c
  · rfl
  refine step_signal m K 13 c ?_ ?_ ?_ ?_
  · decide
  · exact dev_13 c
  · rfl
  exact wp_done'

set_option maxRecDepth 65536 in
set_option maxHeartbeats 4000000 in
/-- Signals 14 to 16. -/
theorem part7_run (c : Dev nD) (w1 w2 : BitVec 32) {X : sProp 𝕄} :
    iprop(Ctx m K ∗ OW c (OB c 14 + (OX 1 c 0 + OX 3 c 0)) ∗ Bs c 14 ∗ X)
      ⊢ WP c ((onBufs k0_part7) c (v2w c) (SemArray.scalar barS) w1 w2) (fun _ => iprop(Ctx m K ∗ OW c (OB c 17 + (OX 1 c 0 + OX 3 c 0)) ∗ Bs c 17 ∗ X)) := by
  unfold onBufs
  rw [k0_part7_eq_skeleton]
  unfold k0_part7_skel
  refine step_signal m K 14 c ?_ ?_ ?_ ?_
  · decide
  · exact dev_14 c
  · rfl
  refine step_signal m K 15 c ?_ ?_ ?_ ?_
  · decide
  · exact dev_15 c
  · rfl
  refine step_signal m K 16 c ?_ ?_ ?_ ?_
  · decide
  · exact dev_16 c
  · rfl
  exact wp_done'

set_option maxRecDepth 65536 in
set_option maxHeartbeats 4000000 in
/-- Signals 17 to 18. -/
theorem part8_run (c : Dev nD) (w1 w2 : BitVec 32) {X : sProp 𝕄} :
    iprop(Ctx m K ∗ OW c (OB c 17 + (OX 1 c 0 + OX 3 c 0)) ∗ Bs c 17 ∗ X)
      ⊢ WP c ((onBufs k0_part8) c (v2w c) (SemArray.scalar barS) w1 w2) (fun _ => iprop(Ctx m K ∗ OW c (OB c 19 + (OX 1 c 0 + OX 3 c 0)) ∗ Bs c 19 ∗ X)) := by
  unfold onBufs
  rw [k0_part8_eq_skeleton]
  unfold k0_part8_skel
  refine step_signal m K 17 c ?_ ?_ ?_ ?_
  · decide
  · exact dev_17 c
  · rfl
  refine step_signal m K 18 c ?_ ?_ ?_ ?_
  · decide
  · exact dev_18 c
  · rfl
  exact wp_done'

set_option maxRecDepth 65536 in
set_option maxHeartbeats 4000000 in
/-- Signals 19 to 21. -/
theorem part9_run (c : Dev nD) (w1 w2 : BitVec 32) {X : sProp 𝕄} :
    iprop(Ctx m K ∗ OW c (OB c 19 + (OX 1 c 0 + OX 3 c 0)) ∗ Bs c 19 ∗ X)
      ⊢ WP c ((onBufs k0_part9) c (v2w c) (SemArray.scalar barS) w1 w2) (fun _ => iprop(Ctx m K ∗ OW c (OB c 22 + (OX 1 c 0 + OX 3 c 0)) ∗ Bs c 22 ∗ X)) := by
  unfold onBufs
  rw [k0_part9_eq_skeleton]
  unfold k0_part9_skel
  refine step_signal m K 19 c ?_ ?_ ?_ ?_
  · decide
  · exact dev_19 c
  · rfl
  refine step_signal m K 20 c ?_ ?_ ?_ ?_
  · decide
  · exact dev_20 c
  · rfl
  refine step_signal m K 21 c ?_ ?_ ?_ ?_
  · decide
  · exact dev_21 c
  · rfl
  exact wp_done'

set_option maxRecDepth 65536 in
set_option maxHeartbeats 4000000 in
/-- Signals 22 to 23. -/
theorem part10_run (c : Dev nD) (w1 w2 : BitVec 32) {X : sProp 𝕄} :
    iprop(Ctx m K ∗ OW c (OB c 22 + (OX 1 c 0 + OX 3 c 0)) ∗ Bs c 22 ∗ X)
      ⊢ WP c ((onBufs k0_part10) c (v2w c) (SemArray.scalar barS) w1 w2) (fun _ => iprop(Ctx m K ∗ OW c (OB c 24 + (OX 1 c 0 + OX 3 c 0)) ∗ Bs c 24 ∗ X)) := by
  unfold onBufs
  rw [k0_part10_eq_skeleton]
  unfold k0_part10_skel
  refine step_signal m K 22 c ?_ ?_ ?_ ?_
  · decide
  · exact dev_22 c
  · rfl
  refine step_signal m K 23 c ?_ ?_ ?_ ?_
  · decide
  · exact dev_23 c
  · rfl
  exact wp_done'

set_option maxRecDepth 65536 in
set_option maxHeartbeats 4000000 in
/-- Signals 24 to 26. -/
theorem part11_run (c : Dev nD) (w1 w2 : BitVec 32) {X : sProp 𝕄} :
    iprop(Ctx m K ∗ OW c (OB c 24 + (OX 1 c 0 + OX 3 c 0)) ∗ Bs c 24 ∗ X)
      ⊢ WP c ((onBufs k0_part11) c (v2w c) (SemArray.scalar barS) w1 w2) (fun _ => iprop(Ctx m K ∗ OW c (OB c 27 + (OX 1 c 0 + OX 3 c 0)) ∗ Bs c 27 ∗ X)) := by
  unfold onBufs
  rw [k0_part11_eq_skeleton]
  unfold k0_part11_skel
  refine step_signal m K 24 c ?_ ?_ ?_ ?_
  · decide
  · exact dev_24 c
  · rfl
  refine step_signal m K 25 c ?_ ?_ ?_ ?_
  · decide
  · exact dev_25 c
  · rfl
  refine step_signal m K 26 c ?_ ?_ ?_ ?_
  · decide
  · exact dev_26 c
  · rfl
  exact wp_done'

set_option maxRecDepth 65536 in
set_option maxHeartbeats 4000000 in
/-- Signals 27 to 28. -/
theorem part12_run (c : Dev nD) (w1 w2 : BitVec 32) {X : sProp 𝕄} :
    iprop(Ctx m K ∗ OW c (OB c 27 + (OX 1 c 0 + OX 3 c 0)) ∗ Bs c 27 ∗ X)
      ⊢ WP c ((onBufs k0_part12) c (v2w c) (SemArray.scalar barS) w1 w2) (fun _ => iprop(Ctx m K ∗ OW c (OB c 29 + (OX 1 c 0 + OX 3 c 0)) ∗ Bs c 29 ∗ X)) := by
  unfold onBufs
  rw [k0_part12_eq_skeleton]
  unfold k0_part12_skel
  refine step_signal m K 27 c ?_ ?_ ?_ ?_
  · decide
  · exact dev_27 c
  · rfl
  refine step_signal m K 28 c ?_ ?_ ?_ ?_
  · decide
  · exact dev_28 c
  · rfl
  exact wp_done'

set_option maxRecDepth 65536 in
set_option maxHeartbeats 4000000 in
/-- The last signals and the wait for everyone else's. -/
theorem part13_run (c : Dev nD) (w1 w2 : BitVec 32) {X : sProp 𝕄} :
    iprop(Ctx m K ∗ OW c (OB c 29 + (OX 1 c 0 + OX 3 c 0)) ∗ Bs c 29 ∗ (atPos ER (barCell c) 0 ∅ 0 ∗ cred (tallyAt (barCell c) () 31)) ∗ X)
      ⊢ WP c ((onBufs k0_part13) c (v2w c) (SemArray.scalar barS) w1 w2) (fun _ => iprop(Ctx m K ∗ OW c (OX 1 c 0 + OX 3 c 0)
          ∗ (atPos ER (barCell c) 1 ∅ 0 ∗ bigSep (peers c) (fun p => barPay c p)) ∗ X)) := by
  unfold onBufs
  rw [k0_part13_eq_skeleton]
  unfold k0_part13_skel
  refine step_signal m K 29 c ?_ ?_ ?_ ?_
  · decide
  · exact dev_29 c
  · rfl
  refine step_signal m K 30 c ?_ ?_ ?_ ?_
  · decide
  · exact dev_30 c
  · rfl
  refine step_signal m K 31 c ?_ ?_ ?_ ?_
  · decide
  · exact dev_31 c
  · rfl
  rw [show OB c 32 + (OX 1 c 0 + OX 3 c 0) = OX 1 c 0 + OX 3 c 0 by rw [OB_end, zero_add]]
  refine BIBase.Entails.trans drop3 ?_
  refine step_bar m K c ?_ ?_
  · rfl
  exact wp_done'

end Cert.KProof

end
-- ==== Proof.Parts3.lean ====
/-
The first half of the rows and its transfers.
-/
module

public import proofs.«01_k».proof.Proof.Parts2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- The first half is stored; its first rows leave. -/
theorem part17_run (c : Dev nD) {X : sProp 𝕄} {fo : Buf (Elt F) (oM.view.loc (c : Thread nD τ))} :
    iprop(Ctx m K ∗ OW c (OX 1 c 0 + OX 3 c 0) ∗ Dst c 0 ∗ (oPts c lo fo) ∗ X)
      ⊢ WP c ((onBufs k0_part17) c (v2w c) (w509 m c) (w531 m c) (w532 m c) (constant S128x512 .f32 0x00000000#32)) (fun _ => iprop(Ctx m K ∗ OW c (OX 1 c 8 + OX 3 c 0) ∗ Rs m 16 c 8 ∗ ownIn m c lo ∗ X)) := by
  unfold onBufs
  rw [k0_part17_eq_skeleton]
  unfold k0_part17_skel
  refine store_first m c ?_ ?_
  · rfl
  refine step_rs m K 16 c 0 ?_ ?_ ?_ ?_ ?_ ?_ ?_ ?_
  · decide
  · exact cond_1 c
  · exact fun _ => Fin.ext k0_dev32_eq
  · exact fun _ => seg_o 0 rfl
  · exact fun _ => seg_c c (k0_off4_eq c)
  · exact fun _ => sem_0 0 rfl
  · exact fun _ => sem_1 c (k0_off3_eq c)
  refine step_rs m K 16 c 1 ?_ ?_ ?_ ?_ ?_ ?_ ?_ ?_
  · decide
  · exact cond_2 c
  · exact fun _ => Fin.ext k0_dev33_eq
  · exact fun _ => seg_o 1 rfl
  · exact fun _ => seg_c c (k0_off6_eq c)
  · exact fun _ => sem_0 1 rfl
  · exact fun _ => sem_1 c (k0_off5_eq c)
  refine step_rs m K 16 c 2 ?_ ?_ ?_ ?_ ?_ ?_ ?_ ?_
  · decide
  · exact cond_3 c
  · exact fun _ => Fin.ext k0_dev34_eq
  · exact fun _ => seg_o 2 rfl
  · exact fun _ => seg_c c (k0_off8_eq c)
  · exact fun _ => sem_0 2 rfl
  · exact fun _ => sem_1 c (k0_off7_eq c)
  refine step_rs m K 16 c 3 ?_ ?_ ?_ ?_ ?_ ?_ ?_ ?_
  · decide
  · exact cond_4 c
  · exact fun _ => Fin.ext k0_dev35_eq
  · exact fun _ => seg_o 3 rfl
  · exact fun _ => seg_c c (k0_off10_eq c)
  · exact fun _ => sem_0 3 rfl
  · exact fun _ => sem_1 c (k0_off9_eq c)
  refine step_rs m K 16 c 4 ?_ ?_ ?_ ?_ ?_ ?_ ?_ ?_
  · decide
  · exact cond_5 c
  · exact fun _ => Fin.ext k0_dev36_eq
  · exact fun _ => seg_o 4 rfl
  · exact fun _ => seg_c c (k0_off12_eq c)
  · exact fun _ => sem_0 4 rfl
  · exact fun _ => sem_1 c (k0_off11_eq c)
  refine step_rs m K 16 c 5 ?_ ?_ ?_ ?_ ?_ ?_ ?_ ?_
  · decide
  · exact cond_6 c
  · exact fun _ => Fin.ext k0_dev37_eq
  · exact fun _ => seg_o 5 rfl
  · exact fun _ => seg_c c (k0_off14_eq c)
  · exact fun _ => sem_0 5 rfl
  · exact fun _ => sem_1 c (k0_off13_eq c)
  refine step_rs m K 16 c 6 ?_ ?_ ?_ ?_ ?_ ?_ ?_ ?_
  · decide
  · exact cond_7 c
  · exact fun _ => Fin.ext k0_dev38_eq
  · exact fun _ => seg_o 6 rfl
  · exact fun _ => seg_c c (k0_off16_eq c)
  · exact fun _ => sem_0 6 rfl
  · exact fun _ => sem_1 c (k0_off15_eq c)
  refine step_rs m K 16 c 7 ?_ ?_ ?_ ?_ ?_ ?_ ?_ ?_
  · decide
  · exact cond_8 c
  · exact fun _ => Fin.ext k0_dev39_eq
  · exact fun _ => seg_o 7 rfl
  · exact fun _ => seg_c c (k0_off18_eq c)
  · exact fun _ => sem_0 7 rfl
  · exact fun _ => sem_1 c (k0_off17_eq c)
  exact wp_done'

set_option maxRecDepth 65536 in
set_option maxHeartbeats 4000000 in
/-- The rest of the first half leaves; loads for the second. -/
theorem part18_run (c : Dev nD) {X : sProp 𝕄} :
    iprop(Ctx m K ∗ OW c (OX 1 c 8 + OX 3 c 0) ∗ Rs m 16 c 8 ∗ Bufs m c ∗ X)
      ⊢ WP c ((onBufs k0_part18) c (v2w c) (w426 m c)) (fun r => iprop(⌜r = ⟨w589 m c, k0_pay14 (F := F), w591 m c, kl m c 1 0⟩⌝ ∗ Ctx m K ∗ OW c (OX 1 c 16 + OX 3 c 0) ∗ Rs m 16 c 16 ∗ Bufs m c ∗ X)) := by
  unfold onBufs
  rw [k0_part18_eq_skeleton]
  unfold k0_part18_skel
  refine step_rs m K 16 c 8 ?_ ?_ ?_ ?_ ?_ ?_ ?_ ?_
  · decide
  · exact cond_9 c
  · exact fun _ => Fin.ext k0_dev40_eq
  · exact fun _ => seg_o 8 rfl
  · exact fun _ => seg_c c (k0_off20_eq c)
  · exact fun _ => sem_0 8 rfl
  · exact fun _ => sem_1 c (k0_off19_eq c)
  refine step_rs m K 16 c 9 ?_ ?_ ?_ ?_ ?_ ?_ ?_ ?_
  · decide
  · exact cond_10 c
  · exact fun _ => Fin.ext k0_dev41_eq
  · exact fun _ => seg_o 9 rfl
  · exact fun _ => seg_c c (k0_off22_eq c)
  · exact fun _ => sem_0 9 rfl
  · exact fun _ => sem_1 c (k0_off21_eq c)
  refine step_rs m K 16 c 10 ?_ ?_ ?_ ?_ ?_ ?_ ?_ ?_
  · decide
  · exact cond_11 c
  · exact fun _ => Fin.ext k0_dev42_eq
  · exact fun _ => seg_o 10 rfl
  · exact fun _ => seg_c c (k0_off24_eq c)
  · exact fun _ => sem_0 10 rfl
  · exact fun _ => sem_1 c (k0_off23_eq c)
  refine step_rs m K 16 c 11 ?_ ?_ ?_ ?_ ?_ ?_ ?_ ?_
  · decide
  · exact cond_12 c
  · exact fun _ => Fin.ext k0_dev43_eq
  · exact fun _ => seg_o 11 rfl
  · exact fun _ => seg_c c (k0_off26_eq c)
  · exact fun _ => sem_0 11 rfl
  · exact fun _ => sem_1 c (k0_off25_eq c)
  refine step_rs m K 16 c 12 ?_ ?_ ?_ ?_ ?_ ?_ ?_ ?_
  · decide
  · exact cond_13 c
  · exact fun _ => Fin.ext k0_dev44_eq
  · exact fun _ => seg_o 12 rfl
  · exact fun _ => seg_c c (k0_off28_eq c)
  · exact fun _ => sem_0 12 rfl
  · exact fun _ => sem_1 c (k0_off27_eq c)
  refine step_rs m K 16 c 13 ?_ ?_ ?_ ?_ ?_ ?_ ?_ ?_
  · decide
  · exact cond_14 c
  · exact fun _ => Fin.ext k0_dev45_eq
  · exact fun _ => seg_o 13 rfl
  · exact fun _ => seg_c c (k0_off30_eq c)
  · exact fun _ => sem_0 13 rfl
  · exact fun _ => sem_1 c (k0_off29_eq c)
  refine step_rs m K 16 c 14 ?_ ?_ ?_ ?_ ?_ ?_ ?_ ?_
  · decide
  · exact cond_15 c
  · exact fun _ => Fin.ext k0_dev46_eq
  · exact fun _ => seg_o 14 rfl
  · exact fun _ => seg_c c (k0_off32_eq c)
  · exact fun _ => sem_0 14 rfl
  · exact fun _ => sem_1 c (k0_off31_eq c)
  refine step_rs m K 16 c 15 ?_ ?_ ?_ ?_ ?_ ?_ ?_ ?_
  · decide
  · exact cond_16 c
  · exact fun _ => Fin.ext k0_dev47_eq
  · exact fun _ => seg_o 15 rfl
  · exact fun _ => seg_c c (k0_off34_eq c)
  · exact fun _ => sem_0 15 rfl
  · exact fun _ => sem_1 c (k0_off33_eq c)
  refine load_x m (xl m c 1) ?_ ?_
  · rfl
  refine load_k m (kl m c 1 0) ?_ ?_
  · rfl
  exact wp_done

set_option maxRecDepth 65536 in
set_option maxHeartbeats 4000000 in
/-- The first head of the second half. -/
theorem part19_run (c : Dev nD) {A B C X : sProp 𝕄} :
    iprop(A ∗ B ∗ C ∗ Bufs m c ∗ X)
      ⊢ WP c ((onBufs k0_part19) (w428 m c) (w589 m c) (k0_pay14 (F := F)) (w591 m c) (kl m c 1 0)) (fun r => iprop(⌜r = ⟨w615 m c, w632 m c⟩⌝ ∗ A ∗ B ∗ C ∗ Bufs m c ∗ X)) := by
  unfold onBufs
  rw [k0_part19_eq_skeleton]
  unfold k0_part19_skel
  refine load_v m (vl m c 1 0) ?_ ?_
  · rfl
  refine load_k m (kl m c 1 1) ?_ ?_
  · rfl
  exact wp_done

set_option maxRecDepth 65536 in
set_option maxHeartbeats 4000000 in
/-- The second and third heads of the second half. -/
theorem part20_run (c : Dev nD) {A B C X : sProp 𝕄} :
    iprop(A ∗ B ∗ C ∗ Bufs m c ∗ X)
      ⊢ WP c ((onBufs k0_part20) (w428 m c) (w589 m c) (w615 m c) (w632 m c)) (fun r => iprop(⌜r = ⟨w665 m c, w666 m c, w669 m c, constant S128x128 .f32 0x00000000#32⟩⌝ ∗ A ∗ B ∗ C ∗ Bufs m c ∗ X)) := by
  unfold onBufs
  rw [k0_part20_eq_skeleton]
  unfold k0_part20_skel
  refine load_v m (vl m c 1 1) ?_ ?_
  · rfl
  refine load_k m (kl m c 1 2) ?_ ?_
  · rfl
  refine load_v m (vl m c 1 2) ?_ ?_
  · rfl
  refine load_k m (kl m c 1 3) ?_ ?_
  · rfl
  exact wp_done

end Cert.KProof

end
-- ==== Proof.Parts4.lean ====
/-
The second half of the rows and its transfers.
-/
module

public import proofs.«01_k».proof.Proof.Parts2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- The second half is stored; its first rows leave. -/
theorem part21_run (c : Dev nD) {X : sProp 𝕄} {fo : Buf (Elt F) (oM.view.loc (c : Thread nD τ))} :
    iprop(Ctx m K ∗ OW c (OX 1 c 16 + OX 3 c 0) ∗ Rs m 16 c 16 ∗ Bufs m c ∗ (oPts c hi fo) ∗ ownIn m c lo ∗ X)
      ⊢ WP c ((onBufs k0_part21) c (v2w c) (w428 m c) (w665 m c) (w666 m c) (w669 m c) (constant S128x128 .f32 0x00000000#32)) (fun r => iprop(⌜r = 20#32⌝ ∗ Ctx m K ∗ OW c (OX 1 c 20 + OX 3 c 0) ∗ Rs m 32 c 20 ∗ Bufs m c ∗ oSeg c c fullShare (pC m c) ∗ X)) := by
  unfold onBufs
  rw [k0_part21_eq_skeleton]
  unfold k0_part21_skel
  refine load_v m (vl m c 1 3) ?_ ?_
  · rfl
  refine store_second m c ?_ ?_
  · rfl
  refine step_rs m K 32 c 16 ?_ ?_ ?_ ?_ ?_ ?_ ?_ ?_
  · decide
  · exact cond_17 c
  · exact fun _ => Fin.ext k0_dev48_eq
  · exact fun _ => seg_o 16 rfl
  · exact fun _ => seg_c c (k0_off36_eq c)
  · exact fun _ => sem_0 16 rfl
  · exact fun _ => sem_1 c (k0_off35_eq c)
  refine step_rs m K 32 c 17 ?_ ?_ ?_ ?_ ?_ ?_ ?_ ?_
  · decide
  · exact cond_18 c
  · exact fun _ => Fin.ext k0_dev49_eq
  · exact fun _ => seg_o 17 rfl
  · exact fun _ => seg_c c (k0_off38_eq c)
  · exact fun _ => sem_0 17 rfl
  · exact fun _ => sem_1 c (k0_off37_eq c)
  refine step_rs m K 32 c 18 ?_ ?_ ?_ ?_ ?_ ?_ ?_ ?_
  · decide
  · exact cond_19 c
  · exact fun _ => Fin.ext k0_dev50_eq
  · exact fun _ => seg_o 18 rfl
  · exact fun _ => seg_c c (k0_off40_eq c)
  · exact fun _ => sem_0 18 rfl
  · exact fun _ => sem_1 c (k0_off39_eq c)
  refine step_rs m K 32 c 19 ?_ ?_ ?_ ?_ ?_ ?_ ?_ ?_
  · decide
  · exact cond_20 c
  · exact fun _ => Fin.ext k0_dev51_eq
  · exact fun _ => seg_o 19 rfl
  · exact fun _ => seg_c c (k0_off42_eq c)
  · exact fun _ => sem_0 19 rfl
  · exact fun _ => sem_1 c (k0_off41_eq c)
  exact wp_done

set_option maxRecDepth 65536 in
set_option maxHeartbeats 4000000 in
/-- Ten transfers. -/
theorem part22_run (c : Dev nD) {X : sProp 𝕄} :
    iprop(Ctx m K ∗ OW c (OX 1 c 20 + OX 3 c 0) ∗ Rs m 32 c 20 ∗ X)
      ⊢ WP c ((onBufs k0_part22) c (v2w c) 20#32) (fun r => iprop(⌜r = 30#32⌝ ∗ Ctx m K ∗ OW c (OX 1 c 30 + OX 3 c 0) ∗ Rs m 32 c 30 ∗ X)) := by
  unfold onBufs
  rw [k0_part22_eq_skeleton]
  unfold k0_part22_skel
  refine step_rs m K 32 c 20 ?_ ?_ ?_ ?_ ?_ ?_ ?_ ?_
  · decide
  · exact cond_21 c
  · exact fun _ => Fin.ext k0_dev52_eq
  · exact fun _ => seg_o 20 rfl
  · exact fun _ => seg_c c (k0_off44_eq c)
  · exact fun _ => sem_0 20 rfl
  · exact fun _ => sem_1 c (k0_off43_eq c)
  refine step_rs m K 32 c 21 ?_ ?_ ?_ ?_ ?_ ?_ ?_ ?_
  · decide
  · exact cond_22 c
  · exact fun _ => Fin.ext k0_dev53_eq
  · exact fun _ => seg_o 21 rfl
  · exact fun _ => seg_c c (k0_off46_eq c)
  · exact fun _ => sem_0 21 rfl
  · exact fun _ => sem_1 c (k0_off45_eq c)
  refine step_rs m K 32 c 22 ?_ ?_ ?_ ?_ ?_ ?_ ?_ ?_
  · decide
  · exact cond_23 c
  · exact fun _ => Fin.ext k0_dev54_eq
  · exact fun _ => seg_o 22 rfl
  · exact fun _ => seg_c c (k0_off48_eq c)
  · exact fun _ => sem_0 22 rfl
  · exact fun _ => sem_1 c (k0_off47_eq c)
  refine step_rs m K 32 c 23 ?_ ?_ ?_ ?_ ?_ ?_ ?_ ?_
  · decide
  · exact cond_24 c
  · exact fun _ => Fin.ext k0_dev55_eq
  · exact fun _ => seg_o 23 rfl
  · exact fun _ => seg_c c (k0_off50_eq c)
  · exact fun _ => sem_0 23 rfl
  · exact fun _ => sem_1 c (k0_off49_eq c)
  refine step_rs m K 32 c 24 ?_ ?_ ?_ ?_ ?_ ?_ ?_ ?_
  · decide
  · exact cond_25 c
  · exact fun _ => Fin.ext k0_dev56_eq
  · exact fun _ => seg_o 24 rfl
  · exact fun _ => seg_c c (k0_off52_eq c)
  · exact fun _ => sem_0 24 rfl
  · exact fun _ => sem_1 c (k0_off51_eq c)
  refine step_rs m K 32 c 25 ?_ ?_ ?_ ?_ ?_ ?_ ?_ ?_
  · decide
  · exact cond_26 c
  · exact fun _ => Fin.ext k0_dev57_eq
  · exact fun _ => seg_o 25 rfl
  · exact fun _ => seg_c c (k0_off54_eq c)
  · exact fun _ => sem_0 25 rfl
  · exact fun _ => sem_1 c (k0_off53_eq c)
  refine step_rs m K 32 c 26 ?_ ?_ ?_ ?_ ?_ ?_ ?_ ?_
  · decide
  · exact cond_27 c
  · exact fun _ => Fin.ext k0_dev58_eq
  · exact fun _ => seg_o 26 rfl
  · exact fun _ => seg_c c (k0_off56_eq c)
  · exact fun _ => sem_0 26 rfl
  · exact fun _ => sem_1 c (k0_off55_eq c)
  refine step_rs m K 32 c 27 ?_ ?_ ?_ ?_ ?_ ?_ ?_ ?_
  · decide
  · exact cond_28 c
  · exact fun _ => Fin.ext k0_dev59_eq
  · exact fun _ => seg_o 27 rfl
  · exact fun _ => seg_c c (k0_off58_eq c)
  · exact fun _ => sem_0 27 rfl
  · exact fun _ => sem_1 c (k0_off57_eq c)
  refine step_rs m K 32 c 28 ?_ ?_ ?_ ?_ ?_ ?_ ?_ ?_
  · decide
  · exact cond_29 c
  · exact fun _ => Fin.ext k0_dev60_eq
  · exact fun _ => seg_o 28 rfl
  · exact fun _ => seg_c c (k0_off60_eq c)
  · exact fun _ => sem_0 28 rfl
  · exact fun _ => sem_1 c (k0_off59_eq c)
  refine step_rs m K 32 c 29 ?_ ?_ ?_ ?_ ?_ ?_ ?_ ?_
  · decide
  · exact cond_30 c
  · exact fun _ => Fin.ext k0_dev61_eq
  · exact fun _ => seg_o 29 rfl
  · exact fun _ => seg_c c (k0_off62_eq c)
  · exact fun _ => sem_0 29 rfl
  · exact fun _ => sem_1 c (k0_off61_eq c)
  exact wp_done

end Cert.KProof

end
-- ==== Proof.Parts6.lean ====
/-
The waits of the first round, and the sum of the arrived rows.
-/
module

public import proofs.«01_k».proof.Proof.Parts5

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- The last two transfers; the device's own rows; the first six waits. -/
theorem part23_run (c : Dev nD) {X : sProp 𝕄} {fo : Buf (Elt F) (cM.view.loc (c : Thread nD τ))} :
    iprop(Ctx m K ∗ OW c (OX 1 c 30 + OX 3 c 0) ∗ Rs m 32 c 30 ∗ oSeg c c fullShare (pC m c) ∗ cSeg c c fo ∗ Wt m 1 c 0 ∗ X)
      ⊢ WP c ((onBufs k0_part23) c (v2w c) (Scalar.muli (v2w c) 8#32) 30#32) (fun r => iprop(⌜r = (Scalar.extui (Scalar.cmpi .ne (v2w c) 6#32))⌝ ∗ Ctx m K ∗ OW c (OX 3 c 0) ∗ Wt m 1 c 6 ∗ Crs 0 c 32 ∗ oSeg c c fullShare (pC m c) ∗ cSeg c c (cC m c) ∗ X)) := by
  unfold onBufs
  rw [k0_part23_eq_skeleton]
  unfold k0_part23_skel
  refine step_rs m K 32 c 30 ?_ ?_ ?_ ?_ ?_ ?_ ?_ ?_
  · decide
  · exact cond_31 c
  · exact fun _ => Fin.ext k0_dev62_eq
  · exact fun _ => seg_o 30 rfl
  · exact fun _ => seg_c c (k0_off64_eq c)
  · exact fun _ => sem_0 30 rfl
  · exact fun _ => sem_1 c (k0_off63_eq c)
  refine step_rs m K 32 c 31 ?_ ?_ ?_ ?_ ?_ ?_ ?_ ?_
  · decide
  · exact cond_32 c
  · exact fun _ => Fin.ext k0_dev63_eq
  · exact fun _ => seg_o 31 rfl
  · exact fun _ => seg_c c (k0_off66_eq c)
  · exact fun _ => sem_0 31 rfl
  · exact fun _ => sem_1 c (k0_off65_eq c)
  refine BIBase.Entails.trans (rs_end m c) ?_
  refine own_copy m c (k0_off67_eq c) ?_
  refine BIBase.Entails.trans rs_turn ?_
  rw [show OX 1 c ((31 : Dev nD).val + 1) + OX 3 c 0 = OX 3 c 0 from (congrArg (· + OX 3 c 0) (OX_end 1 c)).trans (zero_add _)]
  refine step_wait m K 1 c 0 ?_ ?_ ?_ ?_ ?_
  · exact dev_ne c 0
  · exact sem_1 0 rfl
  · exact fun _ => credit_cs
  · exact mayWait_x1 c 0 0
  refine step_wait m K 1 c 1 ?_ ?_ ?_ ?_ ?_
  · exact dev_ne c 1
  · exact sem_1 1 rfl
  · exact fun _ => credit_cs
  · exact mayWait_x1 c 1 0
  refine step_wait m K 1 c 2 ?_ ?_ ?_ ?_ ?_
  · exact dev_ne c 2
  · exact sem_1 2 rfl
  · exact fun _ => credit_cs
  · exact mayWait_x1 c 2 0
  refine step_wait m K 1 c 3 ?_ ?_ ?_ ?_ ?_
  · exact dev_ne c 3
  · exact sem_1 3 rfl
  · exact fun _ => credit_cs
  · exact mayWait_x1 c 3 0
  refine step_wait m K 1 c 4 ?_ ?_ ?_ ?_ ?_
  · exact dev_ne c 4
  · exact sem_1 4 rfl
  · exact fun _ => credit_cs
  · exact mayWait_x1 c 4 0
  refine step_wait m K 1 c 5 ?_ ?_ ?_ ?_ ?_
  · exact dev_ne c 5
  · exact sem_1 5 rfl
  · exact fun _ => credit_cs
  · exact mayWait_x1 c 5 0
  exact wp_done

set_option maxRecDepth 65536 in
set_option maxHeartbeats 4000000 in
/-- Ten waits. -/
theorem part24_run (c : Dev nD) {X : sProp 𝕄} :
    iprop(Ctx m K ∗ OW c (OX 3 c 0) ∗ Wt m 1 c 6 ∗ X)
      ⊢ WP c ((onBufs k0_part24) (v2w c) (Scalar.extui (Scalar.cmpi .ne (v2w c) 6#32))) (fun r => iprop(⌜r = (Scalar.extui (Scalar.cmpi .ne (v2w c) 16#32))⌝ ∗ Ctx m K ∗ OW c (OX 3 c 0) ∗ Wt m 1 c 16 ∗ X)) := by
  unfold onBufs
  rw [k0_part24_eq_skeleton]
  unfold k0_part24_skel
  refine step_wait m K 1 c 6 ?_ ?_ ?_ ?_ ?_
  · exact dev_ne c 6
  · exact sem_1 6 rfl
  · exact fun _ => credit_cs
  · exact mayWait_x1 c 6 0
  refine step_wait m K 1 c 7 ?_ ?_ ?_ ?_ ?_
  · exact dev_ne c 7
  · exact sem_1 7 rfl
  · exact fun _ => credit_cs
  · exact mayWait_x1 c 7 0
  refine step_wait m K 1 c 8 ?_ ?_ ?_ ?_ ?_
  · exact dev_ne c 8
  · exact sem_1 8 rfl
  · exact fun _ => credit_cs
  · exact mayWait_x1 c 8 0
  refine step_wait m K 1 c 9 ?_ ?_ ?_ ?_ ?_
  · exact dev_ne c 9
  · exact sem_1 9 rfl
  · exact fun _ => credit_cs
  · exact mayWait_x1 c 9 0
  refine step_wait m K 1 c 10 ?_ ?_ ?_ ?_ ?_
  · exact dev_ne c 10
  · exact sem_1 10 rfl
  · exact fun _ => credit_cs
  · exact mayWait_x1 c 10 0
  refine step_wait m K 1 c 11 ?_ ?_ ?_ ?_ ?_
  · exact dev_ne c 11
  · exact sem_1 11 rfl
  · exact fun _ => credit_cs
  · exact mayWait_x1 c 11 0
  refine step_wait m K 1 c 12 ?_ ?_ ?_ ?_ ?_
  · exact dev_ne c 12
  · exact sem_1 12 rfl
  · exact fun _ => credit_cs
  · exact mayWait_x1 c 12 0
  refine step_wait m K 1 c 13 ?_ ?_ ?_ ?_ ?_
  · exact dev_ne c 13
  · exact sem_1 13 rfl
  · exact fun _ => credit_cs
  · exact mayWait_x1 c 13 0
  refine step_wait m K 1 c 14 ?_ ?_ ?_ ?_ ?_
  · exact dev_ne c 14
  · exact sem_1 14 rfl
  · exact fun _ => credit_cs
  · exact mayWait_x1 c 14 0
  refine step_wait m K 1 c 15 ?_ ?_ ?_ ?_ ?_
  · exact dev_ne c 15
  · exact sem_1 15 rfl
  · exact fun _ => credit_cs
  · exact mayWait_x1 c 15 0
  exact wp_done

end Cert.KProof

end
-- ==== Proof.Parts7.lean ====
/-
The waits of the first round, and the sum of the arrived rows.
-/
module

public import proofs.«01_k».proof.Proof.Parts5

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- Ten waits. -/
theorem part25_run (c : Dev nD) {X : sProp 𝕄} :
    iprop(Ctx m K ∗ OW c (OX 3 c 0) ∗ Wt m 1 c 16 ∗ X)
      ⊢ WP c ((onBufs k0_part25) (v2w c) (Scalar.extui (Scalar.cmpi .ne (v2w c) 16#32))) (fun r => iprop(⌜r = (Scalar.extui (Scalar.cmpi .ne (v2w c) 26#32))⌝ ∗ Ctx m K ∗ OW c (OX 3 c 0) ∗ Wt m 1 c 26 ∗ X)) := by
  unfold onBufs
  rw [k0_part25_eq_skeleton]
  unfold k0_part25_skel
  refine step_wait m K 1 c 16 ?_ ?_ ?_ ?_ ?_
  · exact dev_ne c 16
  · exact sem_1 16 rfl
  · exact fun _ => credit_cs
  · exact mayWait_x1 c 16 0
  refine step_wait m K 1 c 17 ?_ ?_ ?_ ?_ ?_
  · exact dev_ne c 17
  · exact sem_1 17 rfl
  · exact fun _ => credit_cs
  · exact mayWait_x1 c 17 0
  refine step_wait m K 1 c 18 ?_ ?_ ?_ ?_ ?_
  · exact dev_ne c 18
  · exact sem_1 18 rfl
  · exact fun _ => credit_cs
  · exact mayWait_x1 c 18 0
  refine step_wait m K 1 c 19 ?_ ?_ ?_ ?_ ?_
  · exact dev_ne c 19
  · exact sem_1 19 rfl
  · exact fun _ => credit_cs
  · exact mayWait_x1 c 19 0
  refine step_wait m K 1 c 20 ?_ ?_ ?_ ?_ ?_
  · exact dev_ne c 20
  · exact sem_1 20 rfl
  · exact fun _ => credit_cs
  · exact mayWait_x1 c 20 0
  refine step_wait m K 1 c 21 ?_ ?_ ?_ ?_ ?_
  · exact dev_ne c 21
  · exact sem_1 21 rfl
  · exact fun _ => credit_cs
  · exact mayWait_x1 c 21 0
  refine step_wait m K 1 c 22 ?_ ?_ ?_ ?_ ?_
  · exact dev_ne c 22
  · exact sem_1 22 rfl
  · exact fun _ => credit_cs
  · exact mayWait_x1 c 22 0
  refine step_wait m K 1 c 23 ?_ ?_ ?_ ?_ ?_
  · exact dev_ne c 23
  · exact sem_1 23 rfl
  · exact fun _ => credit_cs
  · exact mayWait_x1 c 23 0
  refine step_wait m K 1 c 24 ?_ ?_ ?_ ?_ ?_
  · exact dev_ne c 24
  · exact sem_1 24 rfl
  · exact fun _ => credit_cs
  · exact mayWait_x1 c 24 0
  refine step_wait m K 1 c 25 ?_ ?_ ?_ ?_ ?_
  · exact dev_ne c 25
  · exact sem_1 25 rfl
  · exact fun _ => credit_cs
  · exact mayWait_x1 c 25 0
  exact wp_done

set_option maxRecDepth 65536 in
set_option maxHeartbeats 4000000 in
/-- The last waits, and the first five rows. -/
theorem part26_run (c : Dev nD) {X : sProp 𝕄} :
    iprop(Ctx m K ∗ OW c (OX 3 c 0) ∗ Wt m 1 c 26 ∗ cSeg c c (cC m c) ∗ X)
      ⊢ WP c ((onBufs k0_part26) (v2w c) (Scalar.extui (Scalar.cmpi .ne (v2w c) 26#32))) (fun r => iprop(⌜r = w859 m c⌝ ∗ Ctx m K ∗ OW c (OX 3 c 0) ∗ cAll m c ∗ Past 1 c ∗ Theirs m c ∗ X)) := by
  unfold onBufs
  rw [k0_part26_eq_skeleton]
  unfold k0_part26_skel
  refine step_wait m K 1 c 26 ?_ ?_ ?_ ?_ ?_
  · exact dev_ne c 26
  · exact sem_1 26 rfl
  · exact fun _ => credit_cs
  · exact mayWait_x1 c 26 0
  refine step_wait m K 1 c 27 ?_ ?_ ?_ ?_ ?_
  · exact dev_ne c 27
  · exact sem_1 27 rfl
  · exact fun _ => credit_cs
  · exact mayWait_x1 c 27 0
  refine step_wait m K 1 c 28 ?_ ?_ ?_ ?_ ?_
  · exact dev_ne c 28
  · exact sem_1 28 rfl
  · exact fun _ => credit_cs
  · exact mayWait_x1 c 28 0
  refine step_wait m K 1 c 29 ?_ ?_ ?_ ?_ ?_
  · exact dev_ne c 29
  · exact sem_1 29 rfl
  · exact fun _ => credit_cs
  · exact mayWait_x1 c 29 0
  refine step_wait m K 1 c 30 ?_ ?_ ?_ ?_ ?_
  · exact dev_ne c 30
  · exact sem_1 30 rfl
  · exact fun _ => credit_cs
  · exact mayWait_x1 c 30 0
  refine step_wait m K 1 c 31 ?_ ?_ ?_ ?_ ?_
  · exact dev_ne c 31
  · exact sem_1 31 rfl
  · exact fun _ => credit_cs
  · exact mayWait_x1 c 31 0
  refine BIBase.Entails.trans (got_all m c) ?_
  refine load_c m (seg m c 0) ?_ ?_
  · rfl
  refine load_c m (seg m c 1) ?_ ?_
  · rfl
  refine load_c m (seg m c 2) ?_ ?_
  · rfl
  refine load_c m (seg m c 3) ?_ ?_
  · rfl
  refine load_c m (seg m c 4) ?_ ?_
  · rfl
  exact wp_done

set_option maxRecDepth 65536 in
set_option maxHeartbeats 4000000 in
/-- Twelve more. -/
theorem part27_run (c : Dev nD) {A B X : sProp 𝕄} :
    iprop(A ∗ B ∗ cAll m c ∗ X)
      ⊢ WP c ((onBufs k0_part27) (w859 m c)) (fun r => iprop(⌜r = w895 m c⌝ ∗ A ∗ B ∗ cAll m c ∗ X)) := by
  unfold onBufs
  rw [k0_part27_eq_skeleton]
  unfold k0_part27_skel
  refine load_c m (seg m c 5) ?_ ?_
  · rfl
  refine load_c m (seg m c 6) ?_ ?_
  · rfl
  refine load_c m (seg m c 7) ?_ ?_
  · rfl
  refine load_c m (seg m c 8) ?_ ?_
  · rfl
  refine load_c m (seg m c 9) ?_ ?_
  · rfl
  refine load_c m (seg m c 10) ?_ ?_
  · rfl
  refine load_c m (seg m c 11) ?_ ?_
  · rfl
  refine load_c m (seg m c 12) ?_ ?_
  · rfl
  refine load_c m (seg m c 13) ?_ ?_
  · rfl
  refine load_c m (seg m c 14) ?_ ?_
  · rfl
  refine load_c m (seg m c 15) ?_ ?_
  · rfl
  refine load_c m (seg m c 16) ?_ ?_
  · rfl
  exact wp_done

set_option maxRecDepth 65536 in
set_option maxHeartbeats 4000000 in
/-- Twelve more. -/
theorem part28_run (c : Dev nD) {A B X : sProp 𝕄} :
    iprop(A ∗ B ∗ cAll m c ∗ X)
      ⊢ WP c ((onBufs k0_part28) (w895 m c)) (fun r => iprop(⌜r = w931 m c⌝ ∗ A ∗ B ∗ cAll m c ∗ X)) := by
  unfold onBufs
  rw [k0_part28_eq_skeleton]
  unfold k0_part28_skel
  refine load_c m (seg m c 17) ?_ ?_
  · rfl
  refine load_c m (seg m c 18) ?_ ?_
  · rfl
  refine load_c m (seg m c 19) ?_ ?_
  · rfl
  refine load_c m (seg m c 20) ?_ ?_
  · rfl
  refine load_c m (seg m c 21) ?_ ?_
  · rfl
  refine load_c m (seg m c 22) ?_ ?_
  · rfl
  refine load_c m (seg m c 23) ?_ ?_
  · rfl
  refine load_c m (seg m c 24) ?_ ?_
  · rfl
  refine load_c m (seg m c 25) ?_ ?_
  · rfl
  refine load_c m (seg m c 26) ?_ ?_
  · rfl
  refine load_c m (seg m c 27) ?_ ?_
  · rfl
  refine load_c m (seg m c 28) ?_ ?_
  · rfl
  exact wp_done

end Cert.KProof

end
-- ==== Proof.Parts8.lean ====
/-
The transfers of the second round.
-/
module

public import proofs.«01_k».proof.Proof.Parts5

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- The last rows are added, the sum is stored and its first transfers leave. -/
theorem part29_run (c : Dev nD) {X : sProp 𝕄} :
    iprop(Ctx m K ∗ OW c (OX 3 c 0) ∗ cAll m c ∗ oSeg c c fullShare (pC m c) ∗ Theirs m c ∗ Tag c ∗ X)
      ⊢ WP c ((onBufs k0_part29) c (v2w c) (Scalar.muli (v2w c) 8#32) (w931 m c)) (fun r => iprop(⌜r = ⟨(Scalar.extui (Scalar.cmpi .ne (v2w c) 6#32)), 0#32⟩⌝ ∗ Ctx m K ∗ OW c (OX 3 c 6) ∗ Ag m c 6 ∗ cAll m c ∗ X)) := by
  unfold onBufs
  rw [k0_part29_eq_skeleton]
  unfold k0_part29_skel
  refine load_c m (seg m c 29) ?_ ?_
  · rfl
  refine load_c m (seg m c 30) ?_ ?_
  · rfl
  refine load_c m (seg m c 31) ?_ ?_
  · rfl
  refine own_red m c (k0_off67_eq c) ?_ ?_
  · rfl
  refine BIBase.Entails.trans (ag_start m c) ?_
  refine step_ag m K c 0 ?_ ?_ ?_ ?_ ?_ ?_ ?_
  · exact cond_65 c
  · exact fun _ => Fin.ext k0_dev64_eq
  · exact fun _ => seg_o c (k0_off69_eq c)
  · exact fun _ => seg_o c (k0_off69_eq c)
  · exact fun _ => sem_2 0 rfl
  · exact fun _ => sem_3 c (k0_off68_eq c)
  refine step_ag m K c 1 ?_ ?_ ?_ ?_ ?_ ?_ ?_
  · exact cond_66 c
  · exact fun _ => Fin.ext k0_dev65_eq
  · exact fun _ => seg_o c (k0_off71_eq c)
  · exact fun _ => seg_o c (k0_off71_eq c)
  · exact fun _ => sem_2 1 rfl
  · exact fun _ => sem_3 c (k0_off70_eq c)
  refine step_ag m K c 2 ?_ ?_ ?_ ?_ ?_ ?_ ?_
  · exact cond_67 c
  · exact fun _ => Fin.ext k0_dev66_eq
  · exact fun _ => seg_o c (k0_off73_eq c)
  · exact fun _ => seg_o c (k0_off73_eq c)
  · exact fun _ => sem_2 2 rfl
  · exact fun _ => sem_3 c (k0_off72_eq c)
  refine step_ag m K c 3 ?_ ?_ ?_ ?_ ?_ ?_ ?_
  · exact cond_68 c
  · exact fun _ => Fin.ext k0_dev67_eq
  · exact fun _ => seg_o c (k0_off75_eq c)
  · exact fun _ => seg_o c (k0_off75_eq c)
  · exact fun _ => sem_2 3 rfl
  · exact fun _ => sem_3 c (k0_off74_eq c)
  refine step_ag m K c 4 ?_ ?_ ?_ ?_ ?_ ?_ ?_
  · exact cond_69 c
  · exact fun _ => Fin.ext k0_dev68_eq
  · exact fun _ => seg_o c (k0_off77_eq c)
  · exact fun _ => seg_o c (k0_off77_eq c)
  · exact fun _ => sem_2 4 rfl
  · exact fun _ => sem_3 c (k0_off76_eq c)
  refine step_ag m K c 5 ?_ ?_ ?_ ?_ ?_ ?_ ?_
  · exact cond_70 c
  · exact fun _ => Fin.ext k0_dev69_eq
  · exact fun _ => seg_o c (k0_off79_eq c)
  · exact fun _ => seg_o c (k0_off79_eq c)
  · exact fun _ => sem_2 5 rfl
  · exact fun _ => sem_3 c (k0_off78_eq c)
  exact wp_done

set_option maxRecDepth 65536 in
set_option maxHeartbeats 4000000 in
/-- Ten transfers. -/
theorem part30_run (c : Dev nD) {X : sProp 𝕄} :
    iprop(Ctx m K ∗ OW c (OX 3 c 6) ∗ Ag m c 6 ∗ X)
      ⊢ WP c ((onBufs k0_part30) c (v2w c) (Scalar.extui (Scalar.cmpi .ne (v2w c) 6#32)) 0#32) (fun r => iprop(⌜r = ⟨(Scalar.extui (Scalar.cmpi .ne (v2w c) 16#32)), 0#32⟩⌝ ∗ Ctx m K ∗ OW c (OX 3 c 16) ∗ Ag m c 16 ∗ X)) := by
  unfold onBufs
  rw [k0_part30_eq_skeleton]
  unfold k0_part30_skel
  refine step_ag m K c 6 ?_ ?_ ?_ ?_ ?_ ?_ ?_
  · exact cond_71 c
  · exact fun _ => Fin.ext k0_dev70_eq
  · exact fun _ => seg_o c (k0_off81_eq c)
  · exact fun _ => seg_o c (k0_off81_eq c)
  · exact fun _ => sem_2 6 rfl
  · exact fun _ => sem_3 c (k0_off80_eq c)
  refine step_ag m K c 7 ?_ ?_ ?_ ?_ ?_ ?_ ?_
  · exact cond_72 c
  · exact fun _ => Fin.ext k0_dev71_eq
  · exact fun _ => seg_o c (k0_off83_eq c)
  · exact fun _ => seg_o c (k0_off83_eq c)
  · exact fun _ => sem_2 7 rfl
  · exact fun _ => sem_3 c (k0_off82_eq c)
  refine step_ag m K c 8 ?_ ?_ ?_ ?_ ?_ ?_ ?_
  · exact cond_73 c
  · exact fun _ => Fin.ext k0_dev72_eq
  · exact fun _ => seg_o c (k0_off85_eq c)
  · exact fun _ => seg_o c (k0_off85_eq c)
  · exact fun _ => sem_2 8 rfl
  · exact fun _ => sem_3 c (k0_off84_eq c)
  refine step_ag m K c 9 ?_ ?_ ?_ ?_ ?_ ?_ ?_
  · exact cond_74 c
  · exact fun _ => Fin.ext k0_dev73_eq
  · exact fun _ => seg_o c (k0_off87_eq c)
  · exact fun _ => seg_o c (k0_off87_eq c)
  · exact fun _ => sem_2 9 rfl
  · exact fun _ => sem_3 c (k0_off86_eq c)
  refine step_ag m K c 10 ?_ ?_ ?_ ?_ ?_ ?_ ?_
  · exact cond_75 c
  · exact fun _ => Fin.ext k0_dev74_eq
  · exact fun _ => seg_o c (k0_off89_eq c)
  · exact fun _ => seg_o c (k0_off89_eq c)
  · exact fun _ => sem_2 10 rfl
  · exact fun _ => sem_3 c (k0_off88_eq c)
  refine step_ag m K c 11 ?_ ?_ ?_ ?_ ?_ ?_ ?_
  · exact cond_76 c
  · exact fun _ => Fin.ext k0_dev75_eq
  · exact fun _ => seg_o c (k0_off91_eq c)
  · exact fun _ => seg_o c (k0_off91_eq c)
  · exact fun _ => sem_2 11 rfl
  · exact fun _ => sem_3 c (k0_off90_eq c)
  refine step_ag m K c 12 ?_ ?_ ?_ ?_ ?_ ?_ ?_
  · exact cond_77 c
  · exact fun _ => Fin.ext k0_dev76_eq
  · exact fun _ => seg_o c (k0_off93_eq c)
  · exact fun _ => seg_o c (k0_off93_eq c)
  · exact fun _ => sem_2 12 rfl
  · exact fun _ => sem_3 c (k0_off92_eq c)
  refine step_ag m K c 13 ?_ ?_ ?_ ?_ ?_ ?_ ?_
  · exact cond_78 c
  · exact fun _ => Fin.ext k0_dev77_eq
  · exact fun _ => seg_o c (k0_off95_eq c)
  · exact fun _ => seg_o c (k0_off95_eq c)
  · exact fun _ => sem_2 13 rfl
  · exact fun _ => sem_3 c (k0_off94_eq c)
  refine step_ag m K c 14 ?_ ?_ ?_ ?_ ?_ ?_ ?_
  · exact cond_79 c
  · exact fun _ => Fin.ext k0_dev78_eq
  · exact fun _ => seg_o c (k0_off97_eq c)
  · exact fun _ => seg_o c (k0_off97_eq c)
  · exact fun _ => sem_2 14 rfl
  · exact fun _ => sem_3 c (k0_off96_eq c)
  refine step_ag m K c 15 ?_ ?_ ?_ ?_ ?_ ?_ ?_
  · exact cond_80 c
  · exact fun _ => Fin.ext k0_dev79_eq
  · exact fun _ => seg_o c (k0_off99_eq c)
  · exact fun _ => seg_o c (k0_off99_eq c)
  · exact fun _ => sem_2 15 rfl
  · exact fun _ => sem_3 c (k0_off98_eq c)
  exact wp_done

end Cert.KProof

end
-- ==== Proof.Parts9.lean ====
/-
The last transfers of the second round and its first waits.
-/
module

public import proofs.«01_k».proof.Proof.Parts5

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- Ten transfers. -/
theorem part31_run (c : Dev nD) {X : sProp 𝕄} :
    iprop(Ctx m K ∗ OW c (OX 3 c 16) ∗ Ag m c 16 ∗ X)
      ⊢ WP c ((onBufs k0_part31) c (v2w c) (Scalar.extui (Scalar.cmpi .ne (v2w c) 16#32)) 0#32) (fun r => iprop(⌜r = ⟨(Scalar.extui (Scalar.cmpi .ne (v2w c) 26#32)), 0#32⟩⌝ ∗ Ctx m K ∗ OW c (OX 3 c 26) ∗ Ag m c 26 ∗ X)) := by
  unfold onBufs
  rw [k0_part31_eq_skeleton]
  unfold k0_part31_skel
  refine step_ag m K c 16 ?_ ?_ ?_ ?_ ?_ ?_ ?_
  · exact cond_81 c
  · exact fun _ => Fin.ext k0_dev80_eq
  · exact fun _ => seg_o c (k0_off101_eq c)
  · exact fun _ => seg_o c (k0_off101_eq c)
  · exact fun _ => sem_2 16 rfl
  · exact fun _ => sem_3 c (k0_off100_eq c)
  refine step_ag m K c 17 ?_ ?_ ?_ ?_ ?_ ?_ ?_
  · exact cond_82 c
  · exact fun _ => Fin.ext k0_dev81_eq
  · exact fun _ => seg_o c (k0_off103_eq c)
  · exact fun _ => seg_o c (k0_off103_eq c)
  · exact fun _ => sem_2 17 rfl
  · exact fun _ => sem_3 c (k0_off102_eq c)
  refine step_ag m K c 18 ?_ ?_ ?_ ?_ ?_ ?_ ?_
  · exact cond_83 c
  · exact fun _ => Fin.ext k0_dev82_eq
  · exact fun _ => seg_o c (k0_off105_eq c)
  · exact fun _ => seg_o c (k0_off105_eq c)
  · exact fun _ => sem_2 18 rfl
  · exact fun _ => sem_3 c (k0_off104_eq c)
  refine step_ag m K c 19 ?_ ?_ ?_ ?_ ?_ ?_ ?_
  · exact cond_84 c
  · exact fun _ => Fin.ext k0_dev83_eq
  · exact fun _ => seg_o c (k0_off107_eq c)
  · exact fun _ => seg_o c (k0_off107_eq c)
  · exact fun _ => sem_2 19 rfl
  · exact fun _ => sem_3 c (k0_off106_eq c)
  refine step_ag m K c 20 ?_ ?_ ?_ ?_ ?_ ?_ ?_
  · exact cond_85 c
  · exact fun _ => Fin.ext k0_dev84_eq
  · exact fun _ => seg_o c (k0_off109_eq c)
  · exact fun _ => seg_o c (k0_off109_eq c)
  · exact fun _ => sem_2 20 rfl
  · exact fun _ => sem_3 c (k0_off108_eq c)
  refine step_ag m K c 21 ?_ ?_ ?_ ?_ ?_ ?_ ?_
  · exact cond_86 c
  · exact fun _ => Fin.ext k0_dev85_eq
  · exact fun _ => seg_o c (k0_off111_eq c)
  · exact fun _ => seg_o c (k0_off111_eq c)
  · exact fun _ => sem_2 21 rfl
  · exact fun _ => sem_3 c (k0_off110_eq c)
  refine step_ag m K c 22 ?_ ?_ ?_ ?_ ?_ ?_ ?_
  · exact cond_87 c
  · exact fun _ => Fin.ext k0_dev86_eq
  · exact fun _ => seg_o c (k0_off113_eq c)
  · exact fun _ => seg_o c (k0_off113_eq c)
  · exact fun _ => sem_2 22 rfl
  · exact fun _ => sem_3 c (k0_off112_eq c)
  refine step_ag m K c 23 ?_ ?_ ?_ ?_ ?_ ?_ ?_
  · exact cond_88 c
  · exact fun _ => Fin.ext k0_dev87_eq
  · exact fun _ => seg_o c (k0_off115_eq c)
  · exact fun _ => seg_o c (k0_off115_eq c)
  · exact fun _ => sem_2 23 rfl
  · exact fun _ => sem_3 c (k0_off114_eq c)
  refine step_ag m K c 24 ?_ ?_ ?_ ?_ ?_ ?_ ?_
  · exact cond_89 c
  · exact fun _ => Fin.ext k0_dev88_eq
  · exact fun _ => seg_o c (k0_off117_eq c)
  · exact fun _ => seg_o c (k0_off117_eq c)
  · exact fun _ => sem_2 24 rfl
  · exact fun _ => sem_3 c (k0_off116_eq c)
  refine step_ag m K c 25 ?_ ?_ ?_ ?_ ?_ ?_ ?_
  · exact cond_90 c
  · exact fun _ => Fin.ext k0_dev89_eq
  · exact fun _ => seg_o c (k0_off119_eq c)
  · exact fun _ => seg_o c (k0_off119_eq c)
  · exact fun _ => sem_2 25 rfl
  · exact fun _ => sem_3 c (k0_off118_eq c)
  exact wp_done

set_option maxRecDepth 65536 in
set_option maxHeartbeats 4000000 in
/-- The last transfers, the first waits. -/
theorem part32_run (c : Dev nD) {X : sProp 𝕄} :
    iprop(Ctx m K ∗ OW c (OX 3 c 26) ∗ Ag m c 26 ∗ Wt m 3 c 0 ∗ X)
      ⊢ WP c ((onBufs k0_part32) c (v2w c) (Scalar.extui (Scalar.cmpi .ne (v2w c) 26#32)) 0#32) (fun r => iprop(⌜r = ⟨(Scalar.extui (Scalar.cmpi .ne (v2w c) 4#32)), 0#32⟩⌝ ∗ Ctx m K ∗ OW c 0 ∗ Wt m 3 c 4 ∗ Crs 2 c 32 ∗ X)) := by
  unfold onBufs
  rw [k0_part32_eq_skeleton]
  unfold k0_part32_skel
  refine step_ag m K c 26 ?_ ?_ ?_ ?_ ?_ ?_ ?_
  · exact cond_91 c
  · exact fun _ => Fin.ext k0_dev90_eq
  · exact fun _ => seg_o c (k0_off121_eq c)
  · exact fun _ => seg_o c (k0_off121_eq c)
  · exact fun _ => sem_2 26 rfl
  · exact fun _ => sem_3 c (k0_off120_eq c)
  refine step_ag m K c 27 ?_ ?_ ?_ ?_ ?_ ?_ ?_
  · exact cond_92 c
  · exact fun _ => Fin.ext k0_dev91_eq
  · exact fun _ => seg_o c (k0_off123_eq c)
  · exact fun _ => seg_o c (k0_off123_eq c)
  · exact fun _ => sem_2 27 rfl
  · exact fun _ => sem_3 c (k0_off122_eq c)
  refine step_ag m K c 28 ?_ ?_ ?_ ?_ ?_ ?_ ?_
  · exact cond_93 c
  · exact fun _ => Fin.ext k0_dev92_eq
  · exact fun _ => seg_o c (k0_off125_eq c)
  · exact fun _ => seg_o c (k0_off125_eq c)
  · exact fun _ => sem_2 28 rfl
  · exact fun _ => sem_3 c (k0_off124_eq c)
  refine step_ag m K c 29 ?_ ?_ ?_ ?_ ?_ ?_ ?_
  · exact cond_94 c
  · exact fun _ => Fin.ext k0_dev93_eq
  · exact fun _ => seg_o c (k0_off127_eq c)
  · exact fun _ => seg_o c (k0_off127_eq c)
  · exact fun _ => sem_2 29 rfl
  · exact fun _ => sem_3 c (k0_off126_eq c)
  refine step_ag m K c 30 ?_ ?_ ?_ ?_ ?_ ?_ ?_
  · exact cond_95 c
  · exact fun _ => Fin.ext k0_dev94_eq
  · exact fun _ => seg_o c (k0_off129_eq c)
  · exact fun _ => seg_o c (k0_off129_eq c)
  · exact fun _ => sem_2 30 rfl
  · exact fun _ => sem_3 c (k0_off128_eq c)
  refine step_ag m K c 31 ?_ ?_ ?_ ?_ ?_ ?_ ?_
  · exact cond_96 c
  · exact fun _ => Fin.ext k0_dev95_eq
  · exact fun _ => seg_o c (k0_off131_eq c)
  · exact fun _ => seg_o c (k0_off131_eq c)
  · exact fun _ => sem_2 31 rfl
  · exact fun _ => sem_3 c (k0_off130_eq c)
  refine BIBase.Entails.trans (ag_end m c) ?_
  rw [show OX 3 c ((31 : Dev nD).val + 1) = 0 from OX_end 3 c]
  refine step_wait m K 3 c 0 ?_ ?_ ?_ ?_ ?_
  · exact dev_ne c 0
  · exact sem_3 0 rfl
  · exact fun _ => credit_os
  · exact mayWait_zero _ _
  refine step_wait m K 3 c 1 ?_ ?_ ?_ ?_ ?_
  · exact dev_ne c 1
  · exact sem_3 1 rfl
  · exact fun _ => credit_os
  · exact mayWait_zero _ _
  refine step_wait m K 3 c 2 ?_ ?_ ?_ ?_ ?_
  · exact dev_ne c 2
  · exact sem_3 2 rfl
  · exact fun _ => credit_os
  · exact mayWait_zero _ _
  refine step_wait m K 3 c 3 ?_ ?_ ?_ ?_ ?_
  · exact dev_ne c 3
  · exact sem_3 3 rfl
  · exact fun _ => credit_os
  · exact mayWait_zero _ _
  exact wp_done

end Cert.KProof

end
-- ==== Proof.Parts10.lean ====
/-
The waits of the second round.
-/
module

public import proofs.«01_k».proof.Proof.Names

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- Ten waits. -/
theorem part33_run (c : Dev nD) {X : sProp 𝕄} :
    iprop(Ctx m K ∗ OW c 0 ∗ Wt m 3 c 4 ∗ X)
      ⊢ WP c ((onBufs k0_part33) (v2w c) (Scalar.extui (Scalar.cmpi .ne (v2w c) 4#32)) 0#32) (fun r => iprop(⌜r = ⟨(Scalar.extui (Scalar.cmpi .ne (v2w c) 14#32)), 0#32⟩⌝ ∗ Ctx m K ∗ OW c 0 ∗ Wt m 3 c 14 ∗ X)) := by
  unfold onBufs
  rw [k0_part33_eq_skeleton]
  unfold k0_part33_skel
  refine step_wait m K 3 c 4 ?_ ?_ ?_ ?_ ?_
  · exact dev_ne c 4
  · exact sem_3 4 rfl
  · exact fun _ => credit_os
  · exact mayWait_zero _ _
  refine step_wait m K 3 c 5 ?_ ?_ ?_ ?_ ?_
  · exact dev_ne c 5
  · exact sem_3 5 rfl
  · exact fun _ => credit_os
  · exact mayWait_zero _ _
  refine step_wait m K 3 c 6 ?_ ?_ ?_ ?_ ?_
  · exact dev_ne c 6
  · exact sem_3 6 rfl
  · exact fun _ => credit_os
  · exact mayWait_zero _ _
  refine step_wait m K 3 c 7 ?_ ?_ ?_ ?_ ?_
  · exact dev_ne c 7
  · exact sem_3 7 rfl
  · exact fun _ => credit_os
  · exact mayWait_zero _ _
  refine step_wait m K 3 c 8 ?_ ?_ ?_ ?_ ?_
  · exact dev_ne c 8
  · exact sem_3 8 rfl
  · exact fun _ => credit_os
  · exact mayWait_zero _ _
  refine step_wait m K 3 c 9 ?_ ?_ ?_ ?_ ?_
  · exact dev_ne c 9
  · exact sem_3 9 rfl
  · exact fun _ => credit_os
  · exact mayWait_zero _ _
  refine step_wait m K 3 c 10 ?_ ?_ ?_ ?_ ?_
  · exact dev_ne c 10
  · exact sem_3 10 rfl
  · exact fun _ => credit_os
  · exact mayWait_zero _ _
  refine step_wait m K 3 c 11 ?_ ?_ ?_ ?_ ?_
  · exact dev_ne c 11
  · exact sem_3 11 rfl
  · exact fun _ => credit_os
  · exact mayWait_zero _ _
  refine step_wait m K 3 c 12 ?_ ?_ ?_ ?_ ?_
  · exact dev_ne c 12
  · exact sem_3 12 rfl
  · exact fun _ => credit_os
  · exact mayWait_zero _ _
  refine step_wait m K 3 c 13 ?_ ?_ ?_ ?_ ?_
  · exact dev_ne c 13
  · exact sem_3 13 rfl
  · exact fun _ => credit_os
  · exact mayWait_zero _ _
  exact wp_done

set_option maxRecDepth 65536 in
set_option maxHeartbeats 4000000 in
/-- Ten waits. -/
theorem part34_run (c : Dev nD) {X : sProp 𝕄} :
    iprop(Ctx m K ∗ OW c 0 ∗ Wt m 3 c 14 ∗ X)
      ⊢ WP c ((onBufs k0_part34) (v2w c) (Scalar.extui (Scalar.cmpi .ne (v2w c) 14#32)) 0#32) (fun r => iprop(⌜r = ⟨(Scalar.extui (Scalar.cmpi .ne (v2w c) 24#32)), 0#32⟩⌝ ∗ Ctx m K ∗ OW c 0 ∗ Wt m 3 c 24 ∗ X)) := by
  unfold onBufs
  rw [k0_part34_eq_skeleton]
  unfold k0_part34_skel
  refine step_wait m K 3 c 14 ?_ ?_ ?_ ?_ ?_
  · exact dev_ne c 14
  · exact sem_3 14 rfl
  · exact fun _ => credit_os
  · exact mayWait_zero _ _
  refine step_wait m K 3 c 15 ?_ ?_ ?_ ?_ ?_
  · exact dev_ne c 15
  · exact sem_3 15 rfl
  · exact fun _ => credit_os
  · exact mayWait_zero _ _
  refine step_wait m K 3 c 16 ?_ ?_ ?_ ?_ ?_
  · exact dev_ne c 16
  · exact sem_3 16 rfl
  · exact fun _ => credit_os
  · exact mayWait_zero _ _
  refine step_wait m K 3 c 17 ?_ ?_ ?_ ?_ ?_
  · exact dev_ne c 17
  · exact sem_3 17 rfl
  · exact fun _ => credit_os
  · exact mayWait_zero _ _
  refine step_wait m K 3 c 18 ?_ ?_ ?_ ?_ ?_
  · exact dev_ne c 18
  · exact sem_3 18 rfl
  · exact fun _ => credit_os
  · exact mayWait_zero _ _
  refine step_wait m K 3 c 19 ?_ ?_ ?_ ?_ ?_
  · exact dev_ne c 19
  · exact sem_3 19 rfl
  · exact fun _ => credit_os
  · exact mayWait_zero _ _
  refine step_wait m K 3 c 20 ?_ ?_ ?_ ?_ ?_
  · exact dev_ne c 20
  · exact sem_3 20 rfl
  · exact fun _ => credit_os
  · exact mayWait_zero _ _
  refine step_wait m K 3 c 21 ?_ ?_ ?_ ?_ ?_
  · exact dev_ne c 21
  · exact sem_3 21 rfl
  · exact fun _ => credit_os
  · exact mayWait_zero _ _
  refine step_wait m K 3 c 22 ?_ ?_ ?_ ?_ ?_
  · exact dev_ne c 22
  · exact sem_3 22 rfl
  · exact fun _ => credit_os
  · exact mayWait_zero _ _
  refine step_wait m K 3 c 23 ?_ ?_ ?_ ?_ ?_
  · exact dev_ne c 23
  · exact sem_3 23 rfl
  · exact fun _ => credit_os
  · exact mayWait_zero _ _
  exact wp_done

/-- Move the third member to the fifth place. -/
theorem end_turn {A B W V U X : sProp 𝕄} : iprop(A ∗ B ∗ W ∗ V ∗ U ∗ X) ⊢ iprop(A ∗ B ∗ V ∗ U ∗ W ∗ X) := by
  iintro ⟨HA, HB, HW, HV, HU, HX⟩
  isplitl [HA]; · iexact HA
  isplitl [HB]; · iexact HB
  isplitl [HV]; · iexact HV
  isplitl [HU]; · iexact HU
  isplitl [HW]; · iexact HW
  iexact HX

set_option maxRecDepth 65536 in
set_option maxHeartbeats 4000000 in
/-- The last waits of the second round, the first for the transfers sent. -/
theorem part35_run (c : Dev nD) {X : sProp 𝕄} :
    iprop(Ctx m K ∗ OW c 0 ∗ Wt m 3 c 24 ∗ Wt m 0 c 0 ∗ Wt m 2 c 0 ∗ X)
      ⊢ WP c ((onBufs k0_part35) c (v2w c) (Scalar.extui (Scalar.cmpi .ne (v2w c) 24#32)) 0#32) (fun r => iprop(⌜r = ⟨(Scalar.extui (Scalar.cmpi .ne (v2w c) 2#32)), 0#32⟩⌝ ∗ Ctx m K ∗ OW c 0 ∗ Wt m 0 c 2 ∗ Wt m 2 c 2 ∗ Wt m 3 c 32 ∗ X)) := by
  unfold onBufs
  rw [k0_part35_eq_skeleton]
  unfold k0_part35_skel
  refine step_wait m K 3 c 24 ?_ ?_ ?_ ?_ ?_
  · exact dev_ne c 24
  · exact sem_3 24 rfl
  · exact fun _ => credit_os
  · exact mayWait_zero _ _
  refine step_wait m K 3 c 25 ?_ ?_ ?_ ?_ ?_
  · exact dev_ne c 25
  · exact sem_3 25 rfl
  · exact fun _ => credit_os
  · exact mayWait_zero _ _
  refine step_wait m K 3 c 26 ?_ ?_ ?_ ?_ ?_
  · exact dev_ne c 26
  · exact sem_3 26 rfl
  · exact fun _ => credit_os
  · exact mayWait_zero _ _
  refine step_wait m K 3 c 27 ?_ ?_ ?_ ?_ ?_
  · exact dev_ne c 27
  · exact sem_3 27 rfl
  · exact fun _ => credit_os
  · exact mayWait_zero _ _
  refine step_wait m K 3 c 28 ?_ ?_ ?_ ?_ ?_
  · exact dev_ne c 28
  · exact sem_3 28 rfl
  · exact fun _ => credit_os
  · exact mayWait_zero _ _
  refine step_wait m K 3 c 29 ?_ ?_ ?_ ?_ ?_
  · exact dev_ne c 29
  · exact sem_3 29 rfl
  · exact fun _ => credit_os
  · exact mayWait_zero _ _
  refine step_wait m K 3 c 30 ?_ ?_ ?_ ?_ ?_
  · exact dev_ne c 30
  · exact sem_3 30 rfl
  · exact fun _ => credit_os
  · exact mayWait_zero _ _
  refine step_wait m K 3 c 31 ?_ ?_ ?_ ?_ ?_
  · exact dev_ne c 31
  · exact sem_3 31 rfl
  · exact fun _ => credit_os
  · exact mayWait_zero _ _
  refine BIBase.Entails.trans end_turn ?_
  refine step_end m K c 0 ?_ ?_ ?_ ?_ ?_ ?_
  · exact cond_129 c
  · exact fun _ => sem_0 0 rfl
  · exact fun _ => sem_2 0 rfl
  · exact fun _ => credit_os
  · exact fun _ => credit_os
  refine step_end m K c 1 ?_ ?_ ?_ ?_ ?_ ?_
  · exact cond_130 c
  · exact fun _ => sem_0 1 rfl
  · exact fun _ => sem_2 1 rfl
  · exact fun _ => credit_os
  · exact fun _ => credit_os
  exact wp_done

end Cert.KProof

end
-- ==== Proof.Parts11.lean ====
/-
The waits for the transfers sent.
-/
module

public import proofs.«01_k».proof.Proof.Names

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- Ten pairs of waits. -/
theorem part36_run (c : Dev nD) {X : sProp 𝕄} :
    iprop(Ctx m K ∗ OW c 0 ∗ Wt m 0 c 2 ∗ Wt m 2 c 2 ∗ X)
      ⊢ WP c ((onBufs k0_part36) c (v2w c) (Scalar.extui (Scalar.cmpi .ne (v2w c) 2#32)) 0#32) (fun r => iprop(⌜r = ⟨(Scalar.extui (Scalar.cmpi .ne (v2w c) 12#32)), 0#32⟩⌝ ∗ Ctx m K ∗ OW c 0 ∗ Wt m 0 c 12 ∗ Wt m 2 c 12 ∗ X)) := by
  unfold onBufs
  rw [k0_part36_eq_skeleton]
  unfold k0_part36_skel
  refine step_end m K c 2 ?_ ?_ ?_ ?_ ?_ ?_
  · exact cond_131 c
  · exact fun _ => sem_0 2 rfl
  · exact fun _ => sem_2 2 rfl
  · exact fun _ => credit_os
  · exact fun _ => credit_os
  refine step_end m K c 3 ?_ ?_ ?_ ?_ ?_ ?_
  · exact cond_132 c
  · exact fun _ => sem_0 3 rfl
  · exact fun _ => sem_2 3 rfl
  · exact fun _ => credit_os
  · exact fun _ => credit_os
  refine step_end m K c 4 ?_ ?_ ?_ ?_ ?_ ?_
  · exact cond_133 c
  · exact fun _ => sem_0 4 rfl
  · exact fun _ => sem_2 4 rfl
  · exact fun _ => credit_os
  · exact fun _ => credit_os
  refine step_end m K c 5 ?_ ?_ ?_ ?_ ?_ ?_
  · exact cond_134 c
  · exact fun _ => sem_0 5 rfl
  · exact fun _ => sem_2 5 rfl
  · exact fun _ => credit_os
  · exact fun _ => credit_os
  refine step_end m K c 6 ?_ ?_ ?_ ?_ ?_ ?_
  · exact cond_135 c
  · exact fun _ => sem_0 6 rfl
  · exact fun _ => sem_2 6 rfl
  · exact fun _ => credit_os
  · exact fun _ => credit_os
  refine step_end m K c 7 ?_ ?_ ?_ ?_ ?_ ?_
  · exact cond_136 c
  · exact fun _ => sem_0 7 rfl
  · exact fun _ => sem_2 7 rfl
  · exact fun _ => credit_os
  · exact fun _ => credit_os
  refine step_end m K c 8 ?_ ?_ ?_ ?_ ?_ ?_
  · exact cond_137 c
  · exact fun _ => sem_0 8 rfl
  · exact fun _ => sem_2 8 rfl
  · exact fun _ => credit_os
  · exact fun _ => credit_os
  refine step_end m K c 9 ?_ ?_ ?_ ?_ ?_ ?_
  · exact cond_138 c
  · exact fun _ => sem_0 9 rfl
  · exact fun _ => sem_2 9 rfl
  · exact fun _ => credit_os
  · exact fun _ => credit_os
  refine step_end m K c 10 ?_ ?_ ?_ ?_ ?_ ?_
  · exact cond_139 c
  · exact fun _ => sem_0 10 rfl
  · exact fun _ => sem_2 10 rfl
  · exact fun _ => credit_os
  · exact fun _ => credit_os
  refine step_end m K c 11 ?_ ?_ ?_ ?_ ?_ ?_
  · exact cond_140 c
  · exact fun _ => sem_0 11 rfl
  · exact fun _ => sem_2 11 rfl
  · exact fun _ => credit_os
  · exact fun _ => credit_os
  exact wp_done

set_option maxRecDepth 65536 in
set_option maxHeartbeats 4000000 in
/-- Ten pairs of waits. -/
theorem part37_run (c : Dev nD) {X : sProp 𝕄} :
    iprop(Ctx m K ∗ OW c 0 ∗ Wt m 0 c 12 ∗ Wt m 2 c 12 ∗ X)
      ⊢ WP c ((onBufs k0_part37) c (v2w c) (Scalar.extui (Scalar.cmpi .ne (v2w c) 12#32)) 0#32) (fun r => iprop(⌜r = ⟨(Scalar.extui (Scalar.cmpi .ne (v2w c) 22#32)), 0#32⟩⌝ ∗ Ctx m K ∗ OW c 0 ∗ Wt m 0 c 22 ∗ Wt m 2 c 22 ∗ X)) := by
  unfold onBufs
  rw [k0_part37_eq_skeleton]
  unfold k0_part37_skel
  refine step_end m K c 12 ?_ ?_ ?_ ?_ ?_ ?_
  · exact cond_141 c
  · exact fun _ => sem_0 12 rfl
  · exact fun _ => sem_2 12 rfl
  · exact fun _ => credit_os
  · exact fun _ => credit_os
  refine step_end m K c 13 ?_ ?_ ?_ ?_ ?_ ?_
  · exact cond_142 c
  · exact fun _ => sem_0 13 rfl
  · exact fun _ => sem_2 13 rfl
  · exact fun _ => credit_os
  · exact fun _ => credit_os
  refine step_end m K c 14 ?_ ?_ ?_ ?_ ?_ ?_
  · exact cond_143 c
  · exact fun _ => sem_0 14 rfl
  · exact fun _ => sem_2 14 rfl
  · exact fun _ => credit_os
  · exact fun _ => credit_os
  refine step_end m K c 15 ?_ ?_ ?_ ?_ ?_ ?_
  · exact cond_144 c
  · exact fun _ => sem_0 15 rfl
  · exact fun _ => sem_2 15 rfl
  · exact fun _ => credit_os
  · exact fun _ => credit_os
  refine step_end m K c 16 ?_ ?_ ?_ ?_ ?_ ?_
  · exact cond_145 c
  · exact fun _ => sem_0 16 rfl
  · exact fun _ => sem_2 16 rfl
  · exact fun _ => credit_os
  · exact fun _ => credit_os
  refine step_end m K c 17 ?_ ?_ ?_ ?_ ?_ ?_
  · exact cond_146 c
  · exact fun _ => sem_0 17 rfl
  · exact fun _ => sem_2 17 rfl
  · exact fun _ => credit_os
  · exact fun _ => credit_os
  refine step_end m K c 18 ?_ ?_ ?_ ?_ ?_ ?_
  · exact cond_147 c
  · exact fun _ => sem_0 18 rfl
  · exact fun _ => sem_2 18 rfl
  · exact fun _ => credit_os
  · exact fun _ => credit_os
  refine step_end m K c 19 ?_ ?_ ?_ ?_ ?_ ?_
  · exact cond_148 c
  · exact fun _ => sem_0 19 rfl
  · exact fun _ => sem_2 19 rfl
  · exact fun _ => credit_os
  · exact fun _ => credit_os
  refine step_end m K c 20 ?_ ?_ ?_ ?_ ?_ ?_
  · exact cond_149 c
  · exact fun _ => sem_0 20 rfl
  · exact fun _ => sem_2 20 rfl
  · exact fun _ => credit_os
  · exact fun _ => credit_os
  refine step_end m K c 21 ?_ ?_ ?_ ?_ ?_ ?_
  · exact cond_150 c
  · exact fun _ => sem_0 21 rfl
  · exact fun _ => sem_2 21 rfl
  · exact fun _ => credit_os
  · exact fun _ => credit_os
  exact wp_done

end Cert.KProof

end
-- ==== Proof.Body.lean ====
/-
The code on one device, from its first statement to its last.
-/
module

public import proofs.«01_k».proof.Proof.Turns
public import proofs.«01_k».proof.Proof.Parts1
public import proofs.«01_k».proof.Proof.Parts3
public import proofs.«01_k».proof.Proof.Parts4
public import proofs.«01_k».proof.Proof.Parts6
public import proofs.«01_k».proof.Proof.Parts7
public import proofs.«01_k».proof.Proof.Parts8
public import proofs.«01_k».proof.Proof.Parts9
public import proofs.«01_k».proof.Proof.Parts10
public import proofs.«01_k».proof.Proof.Parts11

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 130) → ℕ)

set_option maxRecDepth 65536 in
set_option maxHeartbeats 4000000 in
/-- All but the last six pairs of waits. -/
theorem part38_run (c : Dev nD) {X : sProp 𝕄} {fo : Buf (Elt F) (oM.view.loc (c : Thread nD τ))} {fc : Buf (Elt F) (cM.view.loc (c : Thread nD τ))} :
    iprop(Ctx m K ∗ OW c (OB c 1 + (OX 1 c 0 + OX 3 c 0)) ∗ Wq0 m c ∗ Wo0 m c ∗ Bs c 1 ∗ Bar0 c ∗ (atPos ER (wCell c 0) 0 ∅ 0 ∗ atPos ER (wCell c 1) 0 ∅ 0) ∗ Bufs m c
      ∗ oPts c lo fo ∗ oPts c hi fo ∗ cSeg c c fc ∗ Trs c ∗ Tag c ∗ Wt m 1 c 0 ∗ Wt m 3 c 0 ∗ (Ats 0 c ∗ Ats 2 c) ∗ X)
      ⊢ WP c (onBufs k0_part38) (fun r => iprop(⌜r = ⟨c, v2w c, Scalar.extui (Scalar.cmpi .ne (v2w c) 26#32)⟩⌝ ∗ Ctx m K ∗ OW c 0 ∗ Wt m 0 c 26 ∗ Wt m 2 c 26 ∗ Wt m 3 c 32 ∗ cAll m c ∗ Past 1 c ∗ Bufs m c ∗ Wd m c ∗ atPos ER (barCell c) 1 ∅ 0 ∗ X)) := by
  unfold onBufs
  rw [k0_part38_eq_skeleton]
  unfold k0_part38_skel
  refine wp_then (part1_run m K c) ?_
  refine wp_then' (part2_run m K c _ _) ?_
  rintro ⟨_, _⟩
  refine wp_then' (part3_run m K c _ _) ?_
  rintro ⟨_, _⟩
  refine wp_then' (part4_run m K c _ _) ?_
  rintro ⟨_, _⟩
  refine wp_then' (part5_run m K c _ _) ?_
  rintro ⟨_, _⟩
  refine wp_then' (part6_run m K c _ _) ?_
  rintro ⟨_, _⟩
  refine wp_then' (part7_run m K c _ _) ?_
  rintro ⟨_, _⟩
  refine wp_then' (part8_run m K c _ _) ?_
  rintro ⟨_, _⟩
  refine wp_then' (part9_run m K c _ _) ?_
  rintro ⟨_, _⟩
  refine wp_then' (part10_run m K c _ _) ?_
  rintro ⟨_, _⟩
  refine wp_then' (part11_run m K c _ _) ?_
  rintro ⟨_, _⟩
  refine wp_then' (part12_run m K c _ _) ?_
  rintro ⟨_, _⟩
  refine BIBase.Entails.trans turn13 ?_
  refine wp_then' (part13_run m K c _ _) ?_
  intro _
  refine BIBase.Entails.trans turn14 ?_
  refine wp_then (part14_run m K c) ?_
  refine wp_then (part15_run m c) ?_
  refine wp_then (part16_run m c) ?_
  refine BIBase.Entails.trans turn17 ?_
  refine wp_then' (part17_run m K c) ?_
  intro _
  refine BIBase.Entails.trans turn18 ?_
  refine wp_then (part18_run m K c) ?_
  refine wp_then (part19_run m c) ?_
  refine wp_then (part20_run m c) ?_
  refine wp_then (part21_run m K c) ?_
  refine wp_then (part22_run m K c) ?_
  refine BIBase.Entails.trans turn23 ?_
  refine wp_then (part23_run m K c) ?_
  refine wp_then (part24_run m K c) ?_
  refine wp_then (part25_run m K c) ?_
  refine BIBase.Entails.trans turn26 ?_
  refine wp_then (part26_run m K c) ?_
  refine wp_then (part27_run m c) ?_
  refine wp_then (part28_run m c) ?_
  refine BIBase.Entails.trans turn29 ?_
  refine wp_then (part29_run m K c) ?_
  refine wp_then (part30_run m K c) ?_
  refine wp_then (part31_run m K c) ?_
  refine BIBase.Entails.trans turn32 ?_
  refine wp_then (part32_run m K c) ?_
  refine wp_then (part33_run m K c) ?_
  refine wp_then (part34_run m K c) ?_
  refine BIBase.Entails.trans (turn35 m) ?_
  refine wp_then (part35_run m K c) ?_
  refine wp_then (part36_run m K c) ?_
  refine wp_then (part37_run m K c) ?_
  refine step_end m K c 22 ?_ ?_ ?_ ?_ ?_ ?_
  · exact cond_151 c
  · exact fun _ => sem_0 22 rfl
  · exact fun _ => sem_2 22 rfl
  · exact fun _ => credit_os
  · exact fun _ => credit_os
  refine step_end m K c 23 ?_ ?_ ?_ ?_ ?_ ?_
  · exact cond_152 c
  · exact fun _ => sem_0 23 rfl
  · exact fun _ => sem_2 23 rfl
  · exact fun _ => credit_os
  · exact fun _ => credit_os
  refine step_end m K c 24 ?_ ?_ ?_ ?_ ?_ ?_
  · exact cond_153 c
  · exact fun _ => sem_0 24 rfl
  · exact fun _ => sem_2 24 rfl
  · exact fun _ => credit_os
  · exact fun _ => credit_os
  refine step_end m K c 25 ?_ ?_ ?_ ?_ ?_ ?_
  · exact cond_154 c
  · exact fun _ => sem_0 25 rfl
  · exact fun _ => sem_2 25 rfl
  · exact fun _ => credit_os
  · exact fun _ => credit_os
  exact wp_done

set_option maxRecDepth 65536 in
set_option maxHeartbeats 4000000 in
/-- The whole body. -/
theorem body_run (c : Dev nD) {X : sProp 𝕄} {fo : Buf (Elt F) (oM.view.loc (c : Thread nD τ))} {fc : Buf (Elt F) (cM.view.loc (c : Thread nD τ))} :
    iprop(Ctx m K ∗ OW c (OB c 1 + (OX 1 c 0 + OX 3 c 0)) ∗ Wq0 m c ∗ Wo0 m c ∗ Bs c 1 ∗ Bar0 c ∗ (atPos ER (wCell c 0) 0 ∅ 0 ∗ atPos ER (wCell c 1) 0 ∅ 0) ∗ Bufs m c
      ∗ oPts c lo fo ∗ oPts c hi fo ∗ cSeg c c fc ∗ Trs c ∗ Tag c ∗ Wt m 1 c 0 ∗ Wt m 3 c 0 ∗ (Ats 0 c ∗ Ats 2 c) ∗ X)
      ⊢ WP c (onBufs cc0__body) (fun _ => iprop(Ctx m K ∗ OW c 0 ∗ oAll m c ∗ Past 0 c ∗ Past 2 c ∗ Past 3 c ∗ cAll m c ∗ Past 1 c ∗ Bufs m c ∗ Wd m c ∗ atPos ER (barCell c) 1 ∅ 0 ∗ X)) := by
  unfold onBufs
  rw [cc0__body_eq_skeleton]
  unfold cc0__body_skel
  refine wp_then (part38_run m K c) ?_
  refine step_end m K c 26 ?_ ?_ ?_ ?_ ?_ ?_
  · exact cond_155 c
  · exact fun _ => sem_0 26 rfl
  · exact fun _ => sem_2 26 rfl
  · exact fun _ => credit_os
  · exact fun _ => credit_os
  refine step_end m K c 27 ?_ ?_ ?_ ?_ ?_ ?_
  · exact cond_156 c
  · exact fun _ => sem_0 27 rfl
  · exact fun _ => sem_2 27 rfl
  · exact fun _ => credit_os
  · exact fun _ => credit_os
  refine step_end m K c 28 ?_ ?_ ?_ ?_ ?_ ?_
  · exact cond_157 c
  · exact fun _ => sem_0 28 rfl
  · exact fun _ => sem_2 28 rfl
  · exact fun _ => credit_os
  · exact fun _ => credit_os
  refine step_end m K c 29 ?_ ?_ ?_ ?_ ?_ ?_
  · exact cond_158 c
  · exact fun _ => sem_0 29 rfl
  · exact fun _ => sem_2 29 rfl
  · exact fun _ => credit_os
  · exact fun _ => credit_os
  refine step_end m K c 30 ?_ ?_ ?_ ?_ ?_ ?_
  · exact cond_159 c
  · exact fun _ => sem_0 30 rfl
  · exact fun _ => sem_2 30 rfl
  · exact fun _ => credit_os
  · exact fun _ => credit_os
  refine step_end m K c 31 ?_ ?_ ?_ ?_ ?_ ?_
  · exact cond_160 c
  · exact fun _ => sem_0 31 rfl
  · exact fun _ => sem_2 31 rfl
  · exact fun _ => credit_os
  · exact fun _ => credit_os
  refine BIBase.Entails.trans (turn39 m) ?_
  exact wp_done'

end Cert.KProof

end
-- ==== Proof.Region.lean ====
/-
The region: what each device starts from and ends with, and its body as the pipeline asks for it.
-/
module

public import proofs.«01_k».proof.Proof.Cells
public import proofs.«01_k».proof.Proof.Body
public import proofs.«01_k».proof.Proof.Gen.KernelIdeal.Launch

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- The region has one step. -/
theorem cfg0_N : cfg0.N = 1 := by decide
def t₀ : Fin cfg0.N := ⟨0, by rw [cfg0_N]; decide⟩
/-- Every step of the region is that one. -/
theorem fin_N (t : Fin cfg0.N) : t = t₀ := by
  obtain ⟨t, ht⟩ := t; have := cfg0_N; exact Fin.ext (by simp only [t₀]; omega)

/-! ## What a device starts from -/

/-- The two weight arrays, which stay outside the staged windows. -/
def Hbm (c : Dev nD) : sProp 𝕄 :=
  iprop((((c : Thread nD τ).loc main_arg1) ↦{fullShare} m ((c : Thread nD τ).loc main_arg1)) ∗ (((c : Thread nD τ).loc main_arg4) ↦{fullShare} m ((c : Thread nD τ).loc main_arg4)))
/-- The positions of device `c`, all at their cells' first round. -/
def Pos (c : Dev nD) : sProp 𝕄 :=
  iprop(atPos ER (barCell c) 0 ∅ 0 ∗ (atPos ER (wCell c 0) 0 ∅ 0 ∗ atPos ER (wCell c 1) 0 ∅ 0)
    ∗ (Self 0 c ∗ Ats 0 c) ∗ (Self 1 c ∗ Ats 1 c) ∗ (Self 2 c ∗ Ats 2 c) ∗ (Self 3 c ∗ Ats 3 c))
/-- The tokens device `c` pays with. -/
def Tks (c : Dev nD) : sProp 𝕄 :=
  iprop(bigSep (peers c) (fun d => dutyTok ER (barCell d) 0 c) ∗ (dutyTok ER (wCell c 0) 0 c ∗ dutyTok ER (wCell c 1) 0 c) ∗ Trs c ∗ Tag c)
/-- The credits the other devices owe device `c`. -/
def Cds (c : Dev nD) : sProp 𝕄 := iprop(cred (tallyAt (barCell c) () 31) ∗ Crs 1 c 32 ∗ Crs 3 c 32)

def start (c : Dev nD) : sProp 𝕄 :=
  iprop((∃ K, records m K ∗ Pos (F := F) c ∗ Tks c) ∗ Cds c ∗ levAts L lv ∗ Hbm m c)

/-- The scratch buffers, at whatever contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ Scr (F := F) c)
def Φ₁ (c : Dev nD) : sProp 𝕄 := iprop(Zeros (F := F) c ∗ Hbm m c ∗ Scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => kC m c
    | ⟨2, _⟩ => vC m c
    | ⟨3, _⟩ => rC m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Whole buffers and the pieces the body works with -/

/-- Owning the buffer of the query weights, in the two ways of writing it. -/
theorem wq_whole (c : Dev nD) (f : Buf (Elt F) ((c : Thread nD τ).loc cc0_scratch1)) :
    (((c : Thread nD τ).loc cc0_scratch1) ↦{fullShare} f : sProp 𝕄) = wqPts c f := by
  unfold wqPts; rw [show wqM.view.set = Finset.univ from View.set_whole _]
/-- Owning the buffer of the output weights, in the two ways of writing it. -/
theorem wo_whole (c : Dev nD) (f : Buf (Elt F) ((c : Thread nD τ).loc cc0_scratch2)) :
    (((c : Thread nD τ).loc cc0_scratch2) ↦{fullShare} f : sProp 𝕄) = woPts c f := by
  unfold woPts; rw [show woM.view.set = Finset.univ from View.set_whole _]

omit [FloatOps F] in
/-- Owning a buffer is owning a part of it and the rest. -/
theorem split_eq (ℓ : Loc nD τ sig) (S : Finset (Idx ℓ)) (f : Buf (Elt F) ℓ) :
    (ℓ ↦{fullShare} f : sProp 𝕄) = iprop((ℓ ↦[S]{fullShare} f) ∗ (ℓ ↦[Finset.univ \ S]{fullShare} f)) := by
  have h : (ℓ ↦{fullShare} f : sProp 𝕄) ⊣⊢ iprop((ℓ ↦[S]{fullShare} f) ∗ (ℓ ↦[Finset.univ \ S]{fullShare} f)) := pointsTo_split_subset (Finset.subset_univ S)
  exact BI.equiv_iff.mp ⟨h.1, h.2⟩

omit [FloatOps F] in
/-- Exchange the second and the third of four members. -/
theorem sep_swap (A B C E : sProp 𝕄) : iprop((A ∗ B) ∗ C ∗ E) = iprop((A ∗ C) ∗ B ∗ E) := by
  have h : ∀ A B C E : sProp 𝕄, iprop((A ∗ B) ∗ C ∗ E) ⊢ iprop((A ∗ C) ∗ B ∗ E) := fun A B C E => by
    iintro ⟨⟨H1, H2⟩, H3, H4⟩
    isplitl [H1 H3]
    · isplitl [H1]
      · iexact H1
      · iexact H3
    · isplitl [H2]
      · iexact H2
      · iexact H4
  exact BI.equiv_iff.mp ⟨h A B C E, h A C B E⟩

/-- The columns of the query weights device `c` does not use, and the rows of the output weights. -/
def Rest (c : Dev nD) : sProp 𝕄 :=
  iprop((((c : Thread nD τ).loc main_arg1) ↦[Finset.univ \ (wqSrc c).view.set]{fullShare} m ((c : Thread nD τ).loc main_arg1))
    ∗ (((c : Thread nD τ).loc main_arg4) ↦[Finset.univ \ (woSrc c).view.set]{fullShare} m ((c : Thread nD τ).loc main_arg4)))
/-- The arrays outside the region: the sources of the weight copies, and the others. -/
theorem hbm_split (c : Dev nD) : Hbm m c = iprop((wqSrcPts m c ∗ woSrcPts m c) ∗ Rest m c) := by
  have h1 : (((c : Thread nD τ).loc main_arg1) ↦{fullShare} m ((c : Thread nD τ).loc main_arg1) : sProp 𝕄)
      = iprop(wqSrcPts m c ∗ (((c : Thread nD τ).loc main_arg1) ↦[Finset.univ \ (wqSrc c).view.set]{fullShare} m ((c : Thread nD τ).loc main_arg1))) :=
    split_eq _ _ _
  have h2 : (((c : Thread nD τ).loc main_arg4) ↦{fullShare} m ((c : Thread nD τ).loc main_arg4) : sProp 𝕄)
      = iprop(woSrcPts m c ∗ (((c : Thread nD τ).loc main_arg4) ↦[Finset.univ \ (woSrc c).view.set]{fullShare} m ((c : Thread nD τ).loc main_arg4))) :=
    split_eq _ _ _
  unfold Hbm Rest
  rw [h1, h2]
  exact sep_swap _ _ _ _

omit [FloatOps F] in
/-- The credits of all the transfers of one kind are those for every other device. -/
theorem crs_all (k : Fin 4) (c : Dev nD) : (Crs k c 32 : sProp 𝕄) = bigSep (peers c) (fun d => cred (tallyAt (xCell c k d) () NB)) := by
  unfold Crs; rw [rng_all]

/-- The barrier's payments: a token and a piece of the receive buffer for every other device. -/
theorem bs_start (c : Dev nD) (f : Buf (Elt F) (cM.view.loc (c : Thread nD τ))) :
    iprop(bigSep (peers c) (fun d => dutyTok ER (barCell d) 0 c) ∗ bigSep (peers c) (fun d => cSeg (F := F) c d f)) ⊢ Bs c 1 := by
  unfold Bs
  rw [brng_one, show bigSep (peers c) (fun d => iprop(dutyTok ER (barCell d) 0 c ∗ barPay (F := F) d c))
    = iprop(bigSep (peers c) (fun d => dutyTok ER (barCell d) 0 c) ∗ bigSep (peers c) (fun d => barPay (F := F) d c)) from BI.bigSep_sep _ _ _]
  have h : ∀ d, cSeg (F := F) c d f ⊢ barPay (F := F) d c := fun d => by
    unfold barPay; iintro H; iexists f; iexact H
  exact sep_mono_right (bigSep_mono fun d _ => h d)

/-! ## The body -/

/-- What is not touched until the end. -/
def Idle (c : Dev nD) : sProp 𝕄 := iprop(Rest m c ∗ Self 0 c ∗ Self 1 c ∗ Self 2 c ∗ Self 3 c)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device holds when its code starts, sorted for its parts. -/
theorem body_start (c : Dev nD) (K : Dev nD × Option (Fin 130) → ℕ) (fo : Buf (Elt F) (oM.view.loc (c : Thread nD τ)))
    (fc : Buf (Elt F) (cM.view.loc (c : Thread nD τ))) :
    iprop((records m K ∗ Pos (F := F) c ∗ Tks c) ∗ (Cds c ∗ levAts L lv ∗ Hbm m c) ∗ OW c (O₀ c)
        ∗ (xPts m c ∗ kPts m c ∗ vPts m c) ∗ (oM.view.loc (c : Thread nD τ) ↦{fullShare} fo)
        ∗ (cM.view.loc (c : Thread nD τ) ↦{fullShare} fc) ∗ (∃ f, wqPts c f) ∗ (∃ f, woPts c f))
      ⊢ iprop(Ctx m K ∗ OW c (OB c 1 + (OX 1 c 0 + OX 3 c 0)) ∗ Wq0 m c ∗ Wo0 m c ∗ Bs c 1 ∗ Bar0 c ∗ (atPos ER (wCell c 0) 0 ∅ 0 ∗ atPos ER (wCell c 1) 0 ∅ 0) ∗ Bufs m c
      ∗ oPts c lo fo ∗ oPts c hi fo ∗ cSeg c c fc ∗ Trs c ∗ Tag c ∗ Wt m 1 c 0 ∗ Wt m 3 c 0 ∗ (Ats 0 c ∗ Ats 2 c) ∗ Idle m c) := by
  rw [hbm_split, o_halves, c_join]
  unfold Pos Tks Cds
  iintro ⟨⟨#Hr, ⟨Pb, ⟨Pw0, Pw1⟩, ⟨S0, A0⟩, ⟨S1, A1⟩, ⟨S2, A2⟩, S3, A3⟩, Tb, ⟨Tw0, Tw1⟩, Ts, Tg⟩,
    ⟨⟨Cb, C1, C3⟩, #Hl, ⟨Hq, Hw⟩, HR⟩, HO, ⟨Hx, Hk, Hv⟩, ⟨Ol, Oh⟩, ⟨Cc, Cp⟩, Hwq, Hwo⟩
  unfold Ctx
  isplitr
  · isplitr
    · iexact Hr
    · iexact Hl
  isplitl [HO]; · iexact HO
  isplitl [Hq Hwq Tw0]
  · unfold Wq0
    isplitl [Hq]; · iexact Hq
    isplitl [Hwq]; · iexact Hwq
    iexact Tw0
  isplitl [Hw Hwo Tw1]
  · unfold Wo0
    isplitl [Hw]; · iexact Hw
    isplitl [Hwo]; · iexact Hwo
    iexact Tw1
  isplitl [Tb Cp]
  · iapply (bs_start c fc)
    isplitl [Tb]
    · iexact Tb
    · iexact Cp
  isplitl [Pb Cb]
  · unfold Bar0
    isplitl [Pb]
    · iexact Pb
    · iexact Cb
  isplitl [Pw0 Pw1]
  · isplitl [Pw0]
    · iexact Pw0
    · iexact Pw1
  isplitl [Hx Hk Hv]
  · unfold Bufs
    isplitl [Hx]; · iexact Hx
    isplitl [Hk]; · iexact Hk
    iexact Hv
  isplitl [Ol]; · iexact Ol
  isplitl [Oh]; · iexact Oh
  isplitl [Cc]; · iexact Cc
  isplitl [Ts]; · iexact Ts
  isplitl [Tg]; · iexact Tg
  isplitl [C1 A1]
  · iapply (wt_start m 1 c)
    isplitl [C1]
    · iexact C1
    · iexact A1
  isplitl [C3 A3]
  · iapply (wt_start m 3 c)
    isplitl [C3]
    · iexact C3
    · iexact A3
  isplitl [A0 A2]
  · isplitl [A0]
    · iexact A0
    · iexact A2
  unfold Idle
  isplitl [HR]; · iexact HR
  isplitl [S0]; · iexact S0
  isplitl [S1]; · iexact S1
  isplitl [S2]; · iexact S2
  iexact S3

/-- What a device holds when its code is done, its cells closed. -/
theorem body_end (c : Dev nD) (K : Dev nD × Option (Fin 130) → ℕ) :
    iprop(Ctx m K ∗ OW c 0 ∗ oAll m c ∗ Past 0 c ∗ Past 2 c ∗ Past 3 c ∗ cAll m c ∗ Past 1 c ∗ Bufs m c ∗ Wd m c ∗ atPos ER (barCell c) 1 ∅ 0 ∗ Idle m c)
      ⊢ |={Set.univ}=> iprop(Φ₁ m c ∗ OW c 0 ∗ (xPts m c ∗ kPts m c ∗ vPts m c) ∗ oAll m c) := by
  unfold Ctx Bufs Wd Idle
  rw [show wPay m 0 c = iprop(wqPts c (wqC m c) ∗ wqSrcPts m c) from if_pos rfl, show wPay m 1 c = iprop(woPts c (woC m c) ∗ woSrcPts m c) from if_neg (by decide)]
  iintro ⟨⟨#Hr, -⟩, HO, Ho, P0, P2, P3, Hc, P1, HB, ⟨⟨A0, Hwq, Hq⟩, A1, Hwo, Hw⟩, Ab, HR, S0, S1, S2, S3⟩
  imod (close_all m K c) $$ [Ab A0 A1 P0 P1 P2 P3 S0 S1 S2 S3] with Hz
  · isplitr
    · iexact Hr
    unfold Ends
    isplitl [Ab]; · iexact Ab
    isplitl [A0 A1]
    · isplitl [A0]
      · iexact A0
      · iexact A1
    isplitl [S0 P0]
    · isplitl [S0]
      · iexact S0
      · iexact P0
    isplitl [S1 P1]
    · isplitl [S1]
      · iexact S1
      · iexact P1
    isplitl [S2 P2]
    · isplitl [S2]
      · iexact S2
      · iexact P2
    isplitl [S3]
    · iexact S3
    · iexact P3
  imodintro
  isplitl [Hz Hq Hw HR Hc Hwq Hwo]
  · unfold Φ₁ Scr
    rw [hbm_split]
    isplitl [Hz]; · iexact Hz
    isplitl [Hq Hw HR]
    · isplitl [Hq Hw]
      · isplitl [Hq]
        · iexact Hq
        · iexact Hw
      · iexact HR
    isplitl [Hc]
    · iexists (cC m c); unfold cAll; iexact Hc
    isplitl [Hwq]
    · iexists (wqC m c); rw [wq_whole]; iexact Hwq
    · iexists (woC m c); rw [wo_whole]; iexact Hwo
  isplitl [HO]; · iexact HO
  isplitl [HB]; · iexact HB
  iexact Ho

omit [FloatOps F] in
/-- A separating product over the four staged arrays, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ
omit [FloatOps F] in
/-- Owning a whole buffer with a value is holding its cells at that value. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

/-- The input is fetched. -/
theorem fetch_0 (t : Fin cfg0.N) : (cfg0.win (0 : Fin 4)).fetch t = true := by rw [fin_N t]; rfl
/-- The keys are fetched. -/
theorem fetch_1 (t : Fin cfg0.N) : (cfg0.win (1 : Fin 4)).fetch t = true := by rw [fin_N t]; rfl
/-- The values are fetched. -/
theorem fetch_2 (t : Fin cfg0.N) : (cfg0.win (2 : Fin 4)).fetch t = true := by rw [fin_N t]; rfl
/-- Before the body the first staged buffer holds the input. -/
theorem before_0 (c : Dev nD) (d) : (dats m ρ 0 c).before (0 : Fin 4) t₀ d = xC m c := by
  unfold Dat.before; rw [if_pos (fetch_0 t₀)]; rfl
/-- Before the body the second staged buffer holds the keys. -/
theorem before_1 (c : Dev nD) (d) : (dats m ρ 0 c).before (1 : Fin 4) t₀ d = kC m c := by
  unfold Dat.before; rw [if_pos (fetch_1 t₀)]; rfl
/-- Before the body the third staged buffer holds the values. -/
theorem before_2 (c : Dev nD) (d) : (dats m ρ 0 c).before (2 : Fin 4) t₀ d = vC m c := by
  unfold Dat.before; rw [if_pos (fetch_2 t₀)]; rfl

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m c ∗ (dats m ρ 0 c).owesAt () t₀.succ ∗ stg c cc0_stg0_0 (xC m c) ∗ stg c cc0_stg1_0 (kC m c) ∗ stg c cc0_stg2_0 (vC m c) ∗ stg c cc0_stg3_0 (rC m))

/-- What is owed before the body is what the launch leaves owed. -/
theorem owes_start (c : Dev nD) : (dats m ρ 0 c).owesAt () t₀.castSucc ⊢ OW c (O₀ c) := by
  unfold Dat.owesAt Pipeline.owesWithin OW
  rw [show (dats m ρ 0 c).owed t₀.castSucc = O₀ c from rfl]
  iintro ⟨%W, %hW, HO⟩
  iexists W; iexact HO
/-- After the body nothing is owed. -/
theorem owes_end (c : Dev nD) : OW c 0 ⊢ (dats m ρ 0 c).owesAt () t₀.succ := by
  unfold Dat.owesAt Pipeline.owesWithin OW
  rw [show (dats m ρ 0 c).owed t₀.succ = 0 from rfl]
  iintro ⟨%W, HO⟩
  iexists W
  isplitr
  · ipureintro; exact fun _ _ => Or.inl trivial
  · iexact HO

/-- The staged buffers as the body names them. -/
theorem pre_sort (c : Dev nD) :
    bodyPre m ρ c ⊢ iprop(∃ K fo fc, (records m K ∗ Pos (F := F) c ∗ Tks c) ∗ (Cds c ∗ levAts L lv ∗ Hbm m c) ∗ OW c (O₀ c)
        ∗ (xPts m c ∗ kPts m c ∗ vPts m c) ∗ (oM.view.loc (c : Thread nD τ) ↦{fullShare} fo)
        ∗ (cM.view.loc (c : Thread nD τ) ↦{fullShare} fc) ∗ (∃ f, wqPts c f) ∗ (∃ f, woPts c f)) := by
  unfold bodyPre Φ₀ start Scr
  iintro ⟨⟨⟨⟨%K, HG⟩, HC⟩, ⟨%fc, Hc⟩, ⟨%fq, Hq⟩, ⟨%fw, Hw⟩⟩, Ho, ⟨%d0, %g0, %h0, H0⟩, ⟨%d1, %g1, %h1, H1⟩, ⟨%d2, %g2, %h2, H2⟩, ⟨%d3, %g3, %h3, H3⟩⟩
  rw [before_0] at h0
  rw [before_1] at h1
  rw [before_2] at h2
  subst h0 h1 h2
  iexists K; iexists g3; iexists fc
  isplitl [HG]; · iexact HG
  isplitl [HC]; · iexact HC
  isplitl [Ho]
  · iapply (owes_start m ρ c); iexact Ho
  isplitl [H0 H1 H2]
  · unfold xPts kPts vPts
    isplitl [H0]; · iexact H0
    isplitl [H1]; · iexact H1
    iexact H2
  isplitl [H3]; · iexact H3
  isplitl [Hc]; · iexact Hc
  isplitl [Hq]
  · iexists fq; rw [← wq_whole]; iexact Hq
  · iexists fw; rw [← wo_whole]; iexact Hw
/-- What the body ends with, sorted as the region wants it. -/
theorem post_sort (c : Dev nD) : iprop(Φ₁ m c ∗ OW c 0 ∗ (xPts m c ∗ kPts m c ∗ vPts m c) ∗ oAll m c) ⊢ bodyPost m ρ c := by
  unfold bodyPost xPts kPts vPts oAll
  iintro ⟨HΦ, HO, ⟨Hx, Hk, Hv⟩, Ho⟩
  isplitl [HΦ]; · iexact HΦ
  isplitl [HO]
  · iapply (owes_end m ρ c); iexact HO
  isplitl [Hx]
  · iexists _
    isplitr
    · ipureintro; rfl
    · iexact Hx
  isplitl [Hk]
  · iexists _
    isplitr
    · ipureintro; rfl
    · iexact Hk
  isplitl [Hv]
  · iexists _
    isplitr
    · ipureintro; rfl
    · iexact Hv
  iexists _
  isplitr
  · ipureintro; rfl
  · iexact Ho

/-- The body of the kernel meets what the region asks of it. -/
theorem sound_body (c : Dev nD) :
    bodyPre m ρ c ⊢ WP c (onBufs cc0__body) (fun _ => bodyPost m ρ c) := by
  refine (pre_sort m ρ c).trans ?_
  iintro ⟨%K, %fo, %fc, H⟩
  iapply ((body_start m c K fo fc).trans ((body_run m K c (X := Idle m c)).trans
    ((wp_mono _ _ _ (fun _ => (body_end m c K).trans (BI.fupd_mono (post_sort m ρ c)))).trans (wp_fupd _ _ _ _ _))))
  iexact H

set_option maxRecDepth 4000 in
/-- The pipeline's obligation for the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.KProof

end
-- ==== Proof.Launch.lean ====
/-
The launch: how the initial ghost state is made and dealt to the devices, and the run of the whole program.
-/
module

public import proofs.«01_k».proof.Proof.Region
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- Each device holds its staged arrays whole. -/
theorem share_eq (c : Dev nD) (w : Fin cfg0.W) : (dats m ρ 0 c).share w = fullShare := by unfold Dat.share; split <;> rfl

/-! ## Semaphores -/

/-- The scoped semaphores are pairwise different. -/
theorem osem_injective : Function.Injective osem := fun i j h => by
  replace h := congrArg (fun s : SemLoc sig => match s with
    | .dma n => (n : Fin 134).val
    | .reg _ => 0) h
  change 4 + i.val = 4 + j.val at h
  exact Fin.ext (by omega)
/-- The semaphores of the staged copies are the first four. -/
theorem stage_sem_lt (w : Fin 4) (s : Fin (spec0 w).nbuf) : ((spec0 w).sem s : Fin 134).val < 4 := by
  fin_cases w <;> fin_cases s <;> decide
/-- The cells the kernel keeps for itself are scoped, and apart from those of the staged copies. -/
theorem ownSemFacts : Pipeline.OwnSemFacts cfg0.spec osem where
  isScoped k := by revert k; decide
  inj := osem_injective
  disj k w s h := by
    replace h := congrArg (fun s : SemLoc sig => match s with
      | .dma n => (n : Fin 134).val
      | .reg _ => 0) h
    have h' : 4 + k.val = ((spec0 w).sem s : Fin 134).val := h
    have := stage_sem_lt w s
    omega

/-- The semaphores of a device's cells are pairwise different. -/
theorem csem_injective : Function.Injective csem := by
  rintro (_ | i) (_ | j) h
  · rfl
  · exact absurd h (by intro h; cases h)
  · exact absurd h (by intro h; cases h)
  · exact congrArg some (osem_injective h)
/-- Cells with different device or index are different. -/
theorem kcell_injective : Function.Injective (kcell : Dev nD × Option (Fin 130) → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def allCells : Finset (GSem nD τ sig) := Finset.univ.map ⟨kcell, kcell_injective⟩

/-- The tokens of device `c`'s cells: at its barrier one for every device, at each other cell its own. -/
def tokOf : Dev nD × (Dev nD ⊕ Fin 130) → GSem nD τ sig × ℕ × Dev nD
  | (c, .inl d) => (barCell c, 0, d)
  | (c, .inr i) => (kcell (c, some i), 0, c)
/-- Different duties have different tokens. -/
theorem tokOf_injective : Function.Injective tokOf := by
  rintro ⟨c, j⟩ ⟨c', j'⟩ h
  have h1 : c = c' := by
    have := congrArg (fun x : GSem nD τ sig × ℕ × Dev nD => x.1.1.1) h
    rcases j with d | i <;> rcases j' with d' | i' <;> exact this
  subst h1
  rcases j with d | i <;> rcases j' with d' | i'
  · have h2 : d = d' := congrArg (fun x : GSem nD τ sig × ℕ × Dev nD => x.2.2) h
    rw [h2]
  · exact absurd (congrArg (fun x : GSem nD τ sig × ℕ × Dev nD => x.1.2) h) (by intro h; cases h)
  · exact absurd (congrArg (fun x : GSem nD τ sig × ℕ × Dev nD => x.1.2) h) (by intro h; cases h)
  · have h2 : osem i = osem i' := congrArg (fun x : GSem nD τ sig × ℕ × Dev nD => x.1.2) h
    rw [osem_injective h2]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of device `c`'s cells, as they are made. -/
def Minted (c : Dev nD) : sProp 𝕄 :=
  iprop(bigSep Finset.univ (fun d => dutyTok ER (barCell c) 0 d) ∗ bigSep Finset.univ (fun i : Fin 130 => dutyTok ER (kcell (c, some i)) 0 c))

/-- What a device has of the ghost state before the cells are opened. -/
def G (c : Dev nD) : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ Minted (F := F) c)
/-- ... and after. -/
def G' (c : Dev nD) : sProp 𝕄 := iprop(∃ K, records m K ∗ Pos (F := F) c ∗ Tks c)

/-- The initial ghost state gives every device its share of round states, positions and tokens. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => Minted c := by
    unfold allToks; rw [bigSep_map, bigSep_univ_prod]
    exact bigSep_congr fun c _ => by unfold Minted; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The one semaphore outside the region is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All counters of a device at zero: those outside the kernel's own and its own. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, bigSep_opt]
  unfold Pipeline.ownSems0
  iintro ⟨HO, HB⟩
  isplitl [HB]; · iexact HB
  iexact HO

/-- A device's semaphores at zero and its ghost state open the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ Minted (F := F) c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

omit [FloatOps F] in
/-- The tokens device `c` holds as made, kind by kind. -/
theorem minted_eq (c : Dev nD) : (Minted c : sProp 𝕄) = iprop(bigSep Finset.univ (fun d => dutyTok ER (barCell c) 0 d)
    ∗ (dutyTok ER (wCell c 0) 0 c ∗ dutyTok ER (wCell c 1) 0 c) ∗ bigSep Finset.univ (fun d => dutyTok ER (xCell c 0 d) 0 c)
    ∗ bigSep Finset.univ (fun d => dutyTok ER (xCell c 1 d) 0 c) ∗ bigSep Finset.univ (fun d => dutyTok ER (xCell c 2 d) 0 c)
    ∗ bigSep Finset.univ (fun d => dutyTok ER (xCell c 3 d) 0 c)) := by
  unfold Minted; rw [bigSep_kernel c (fun g => dutyTok ER g 0 c)]

/-- The tokens dealt out, still with those a device would use towards itself. -/
def Dealt (c : Dev nD) : sProp 𝕄 :=
  iprop(bigSep Finset.univ (fun d => dutyTok ER (barCell d) 0 c)
    ∗ (dutyTok ER (wCell c 0) 0 c ∗ dutyTok ER (wCell c 1) 0 c) ∗ bigSep Finset.univ (fun d => dutyTok ER (xCell c 0 d) 0 c)
    ∗ bigSep Finset.univ (fun d => dutyTok ER (xCell d 1 c) 0 d) ∗ bigSep Finset.univ (fun d => dutyTok ER (xCell c 2 d) 0 c)
    ∗ bigSep Finset.univ (fun d => dutyTok ER (xCell d 3 c) 0 d))

omit [FloatOps F] in
/-- The tokens minted per cell are regrouped by the device that pays with them. -/
theorem deal_all : (bigSep Finset.univ fun c : Dev nD => (Minted c : sProp 𝕄)) ⊢ bigSep Finset.univ fun c : Dev nD => Dealt c := by
  rw [show (fun c : Dev nD => (Minted c : sProp 𝕄)) = _ from funext fun c => minted_eq c]
  unfold Dealt
  simp only [bigSep_sep']
  rw [BI.bigSep_univ_comm (fun c d : Dev nD => (dutyTok ER (barCell c) 0 d : sProp 𝕄)),
    BI.bigSep_univ_comm (fun c d : Dev nD => (dutyTok ER (xCell c 1 d) 0 c : sProp 𝕄)),
    BI.bigSep_univ_comm (fun c d : Dev nD => (dutyTok ER (xCell c 3 d) 0 c : sProp 𝕄))]

omit [FloatOps F] in
/-- A product over all devices gives the product over the others. -/
theorem to_peers (c : Dev nD) (Φ : Dev nD → sProp 𝕄) : bigSep Finset.univ Φ ⊢ bigSep (peers c) Φ := BI.bigSep_subset (Finset.subset_univ _)

omit [FloatOps F] in
/-- The tokens dealt to a device are those it pays with. -/
theorem dealt_tks (c : Dev nD) : (Dealt c : sProp 𝕄) ⊢ Tks c := by
  unfold Dealt Tks Trs Tag
  rw [show bigSep (peers c) (fun d => iprop(dutyTok ER (xCell c 0 d) 0 c ∗ dutyTok ER (xCell d 1 c) 0 d))
      = iprop(bigSep (peers c) (fun d => dutyTok ER (xCell c 0 d) 0 c) ∗ bigSep (peers c) (fun d => (dutyTok ER (xCell d 1 c) 0 d : sProp 𝕄))) from BI.bigSep_sep _ _ _,
    show bigSep (peers c) (fun d => iprop(dutyTok ER (xCell c 2 d) 0 c ∗ dutyTok ER (xCell d 3 c) 0 d))
      = iprop(bigSep (peers c) (fun d => dutyTok ER (xCell c 2 d) 0 c) ∗ bigSep (peers c) (fun d => (dutyTok ER (xCell d 3 c) 0 d : sProp 𝕄))) from BI.bigSep_sep _ _ _]
  iintro ⟨HB, HW, H0, H1, H2, H3⟩
  isplitl [HB]; · iapply (to_peers c fun d => dutyTok ER (barCell d) 0 c); iexact HB
  isplitl [HW]; · iexact HW
  isplitl [H0 H1]
  · isplitl [H0]
    · iapply (to_peers c fun d => dutyTok ER (xCell c 0 d) 0 c); iexact H0
    · iapply (to_peers c fun d => dutyTok ER (xCell d 1 c) 0 d); iexact H1
  · isplitl [H2]
    · iapply (to_peers c fun d => dutyTok ER (xCell c 2 d) 0 c); iexact H2
    · iapply (to_peers c fun d => dutyTok ER (xCell d 3 c) 0 d); iexact H3

omit [FloatOps F] in
/-- The positions at a device's transfer cells of one kind: its unused one, and those for the others. -/
theorem own_peers (k : Fin 4) (c : Dev nD) :
    bigSep Finset.univ (fun d => (atPos ER (xCell c k d) 0 ∅ 0 : sProp 𝕄)) = iprop(Self k c ∗ Ats k c) := by
  unfold Self Ats
  rw [bigSep_univ_at _ c]

omit [FloatOps F] in
/-- The positions at the cells of a device, sorted by kind of cell. -/
theorem pos_of (c : Dev nD) : (bigSep Finset.univ fun k => (atPos ER (kcell (c, k)) 0 ∅ 0 : sProp 𝕄)) ⊢ Pos (F := F) c := by
  unfold Pos
  rw [bigSep_own c (fun g => atPos ER g 0 ∅ 0), own_peers, own_peers, own_peers, own_peers]

/-- The cell records, the positions and the dealt tokens make up a device's ghost state. -/
theorem ghost_intro (K : Dev nD × Option (Fin 130) → ℕ) (c : Dev nD) :
    iprop(records m K ∗ (bigSep Finset.univ fun k => atPos ER (kcell (c, k)) 0 ∅ 0) ∗ Dealt (F := F) c) ⊢ G' m c := by
  unfold G'
  iintro ⟨HR, HP, HT⟩
  iexists K
  isplitl [HR]; · iexact HR
  isplitl [HP]
  · iapply (pos_of c); iexact HP
  · iapply (dealt_tks c); iexact HT

/-- The invariants of all the cells become known to every device, and the tokens reach those who pay. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ Minted (F := F) c) : sProp 𝕄)
      ⊢ bigSep Finset.univ (G' m) := by
  rw [bigSep_sep', bigSep_sep', ← bigSep_univ_prod (fun ck : Dev nD × Option (Fin 130) => iprop(∃ κ : ℕ, cellInv ER (Rd m) κ (kcell ck))),
    bigSep_congr (s := Finset.univ) (fun (c : Dev nD) _ => bigSep_sep' Finset.univ (fun k : Option (Fin 130) => (atPos ER (kcell (c, k)) 0 ∅ 0 : sProp 𝕄)) (fun k => reached ER (kcell (c, k)) 0)),
    bigSep_sep', ← bigSep_univ_prod (fun ck : Dev nD × Option (Fin 130) => (reached ER (kcell ck) 0 : sProp 𝕄))]
  iintro ⟨HI, ⟨Hat, #HR⟩, Htok⟩
  ihave HK := (BI.bigSep_exists_pi Finset.univ (fun (ck : Dev nD × Option (Fin 130)) (κ : ℕ) => (cellInv ER (Rd m) κ (kcell ck) : sProp 𝕄))) $$ HI
  icases HK with ⟨%K, #HI⟩
  ihave Htk := (deal_all (F := F)) $$ Htok
  iapply (with_persistent (R := records m K) fun c _ => ghost_intro m K c)
  isplitr
  · unfold records; isplitl; · iexact HI
    iexact HR
  · rw [bigSep_sep']
    isplitl [Hat]; · iexact Hat
    iexact Htk

/-- From all the devices' semaphores and initial ghost state to all the devices' ghost state at the start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- A barrier cell tells its device. -/
theorem bar_inj {a b : Dev nD} (h : barCell a = barCell b) : a = b := congrArg (fun g : GSem nD τ sig => g.1.1) h
/-- A transfer cell of a given kind and peer tells its device and the peer. -/
theorem x_inj {a b : Dev nD} {k : Fin 4} {d e : Dev nD} (h : xCell a k d = xCell b k e) : a = b ∧ d = e := by
  refine ⟨congrArg (fun g : GSem nD τ sig => g.1.1) h, ?_⟩
  replace h := congrArg (fun g : GSem nD τ sig => match g.2 with
    | .dma n => (n : Fin 134).val
    | .reg _ => 0) h
  change 6 + 32 * k.val + d.val = 6 + 32 * k.val + e.val at h
  exact Fin.ext (by omega)

/-- A device owes one unit at the barrier of every other device. -/
theorem owed_bar (d c : Dev nD) : OB d 1 (barCell c) () = if d = c then 0 else 1 := by
  unfold OB
  rw [brng_one, Finset.sum_apply, Finsupp.finset_sum_apply]
  by_cases h : d = c
  · rw [if_pos h]
    exact Finset.sum_eq_zero fun e he => by
      rw [tallyAt_apply, if_neg fun h' => (Finset.mem_erase.mp he).1 ((bar_inj h'.1).symm.trans h.symm)]
  · rw [if_neg h, Finset.sum_eq_single c]
    · rw [tallyAt_apply, if_pos ⟨rfl, rfl⟩]
    · exact fun e _ he => by rw [tallyAt_apply, if_neg fun h' => he (bar_inj h'.1).symm]
    · exact fun h' => absurd (Finset.mem_erase.mpr ⟨fun e => h e.symm, Finset.mem_univ _⟩) h'

/-- A device owes one transfer at its cell of the given kind on every other device. -/
theorem owed_x (k : Fin 4) (e c d : Dev nD) (h : d ≠ c) : OX k e 0 (xCell c k d) () = if e = d then NB else 0 := by
  unfold OX
  rw [rng_all, Finset.sum_apply, Finsupp.finset_sum_apply]
  by_cases he : e = d
  · subst he
    rw [if_pos rfl, Finset.sum_eq_single c]
    · rw [tallyAt_apply, if_pos ⟨rfl, rfl⟩]
    · exact fun a _ ha => by rw [tallyAt_apply, if_neg fun h' => ha (x_inj h'.1).1.symm]
    · exact fun h' => absurd (Finset.mem_erase.mpr ⟨h.symm, Finset.mem_univ _⟩) h'
  · rw [if_neg he]
    exact Finset.sum_eq_zero fun a _ => by rw [tallyAt_apply, if_neg fun h' => he (x_inj h'.1).2.symm]

/-- There are 31 other devices. -/
theorem sum_others (c : Dev nD) : (∑ d : Dev nD, if d = c then 0 else 1) = 31 := by
  revert c; decide

/-- In all, the barrier of a device is owed 31 units. -/
theorem launch_bar (c : Dev nD) :
    tallyOn (barCell c) (launchCredit (Pipeline.owing fun d => OB d 1) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_others]
/-- In all, a transfer cell is owed one transfer. -/
theorem launch_x (k : Fin 4) (c d : Dev nD) (h : d ≠ c) :
    tallyOn (xCell c k d) (launchCredit (Pipeline.owing fun e => OX k e 0) 0 (xCell c k d)) = (tallyAt (xCell c k d) () NB : CellTallies nD τ sig Unit) := by
  unfold tallyAt; refine congrArg _ (Finsupp.ext fun u => ?_); cases u
  rw [Pipeline.launchCredit_owing, Finsupp.single_eq_same, Finset.sum_congr rfl fun e _ => owed_x k e c d h, Finset.sum_ite_eq' Finset.univ d fun _ => NB,
    if_pos (Finset.mem_univ _)]

omit [FloatOps F] in
/-- The launch gives a device the credit for its barrier. -/
theorem creds_bar (c : Dev nD) : (Pipeline.launchCred (fun d => OB d 1) c : sProp 𝕄) ⊢ cred (tallyAt (barCell c) () 31) := by
  unfold Pipeline.launchCred
  rw [← launch_bar]
  exact bigSep_elim (Φ := fun sm : SemLoc sig => (cred (tallyOn ((c : Thread nD τ), sm) (launchCredit (Pipeline.owing fun d => OB d 1) 0 ((c : Thread nD τ), sm))) : sProp 𝕄)) (Finset.mem_univ (SemLoc.reg barS))
omit [FloatOps F] in
/-- The launch gives a device the credits for its transfer cells of one kind. -/
theorem creds_x (k : Fin 4) (c : Dev nD) : (Pipeline.launchCred (fun d => OX k d 0) c : sProp 𝕄) ⊢ Crs k c 32 := by
  have hi : Function.Injective (fun d : Dev nD => (SemLoc.dma (sx k d) : SemLoc sig)) := fun d e h =>
    (x_inj (a := c) (b := c) (congrArg (Prod.mk (c : Thread nD τ)) h)).2
  unfold Pipeline.launchCred
  rw [crs_all]
  refine (BI.bigSep_subset (Finset.subset_univ ((peers c).map ⟨_, hi⟩))).trans ?_
  rw [bigSep_map]
  exact bigSep_mono fun d hd => Entails.of_eq (congrArg cred (launch_x k c d (Finset.mem_erase.mp hd).1))

omit [FloatOps F] in
/-- The launch gives a device all the credits it waits on. -/
theorem creds (c : Dev nD) : (Pipeline.launchCred O₀ c : sProp 𝕄) ⊢ Cds c := by
  rw [show (O₀ : Dev nD → CellTallies nD τ sig Unit) = fun d => OB d 1 + (OX 1 d 0 + OX 3 d 0) from rfl,
    Pipeline.launchCred_add (fun d => OB d 1) (fun d => OX 1 d 0 + OX 3 d 0), Pipeline.launchCred_add (fun d => OX 1 d 0) (fun d => OX 3 d 0)]
  unfold Cds
  iintro ⟨HB, H1, H3⟩
  isplitl [HB]; · iapply (creds_bar c); iexact HB
  isplitl [H1]
  · iapply (creds_x 1 c); iexact H1
  · iapply (creds_x 3 c); iexact H3

/-! ## The sides of the launch -/

/-- What the launch gives a device is what the kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HH, Hlev, Hcr, -, HG⟩
  ihave Hc := (creds (F := F) c) $$ Hcr
  imodintro
  unfold start G' Hbm
  isplitl
  · isplitl [HG]; · iexact HG
    isplitl [Hc]; · iexact Hc
    isplitl [Hlev]; · iexact Hlev
    iexact HH
  · iempintro

/-- What the kernel starts from and the scratch memory make up the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, HR⟩
  isplitl [Hs]; · iexact Hs
  iexact HR

/-- What a device holds at the end beside its own semaphores and scratch buffers. -/
def Fin' (c : Dev nD) : sProp 𝕄 := iprop(unscopedSems0 c ∗ Hbm m c)

/-- The state after the body gives back the semaphores, the scratch memory and the arrays. -/
theorem phi1_exit (c : Dev nD) :
    (dats m ρ 0 c).Φ (Fin.last cfg0.N) ⊢ iprop(Fin' m c ∗ Pipeline.ownSems0 osem c ∗ Pipeline.scopedRest cfg0.spec c) := by
  rw [show (dats m ρ 0 c).Φ (Fin.last cfg0.N) = Φ₁ m c from rfl, scopedRest0_eq]
  unfold Φ₁ Scr Fin' Zeros
  rw [unscopedSems0_eq]
  unfold Pipeline.ownSems0
  iintro ⟨⟨HB, HO⟩, HH, HR⟩
  isplitl [HB HH]
  · isplitl [HB]
    · iexact HB
    · iexact HH
  isplitl [HO]; · iexact HO
  iexact HR

/-- The waits of the staged copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a final state says of device `c`'s weights and of the semaphores outside the kernel's own. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg4) = m ((c : Thread nD τ).loc main_arg4)

/-- At the end the semaphores are zero and the two weight arrays are unchanged. -/
theorem read_end (c : Dev nD) (s' : Phys nD τ sig (Elt F)) :
    iprop(Fin' m c ∗ emp ∗ SI s') ⊢ |={Set.univ}=> iprop(⌜QY m c s'.mem⌝ ∗ SI (Ix := Unit) (Name := ℕ) (U := UU) (Lvl := ℕ) s') := by
  unfold Fin' Hbm
  iintro ⟨⟨Hu, H1, H4⟩, -, HSI⟩
  icombine HSI H1 gives %h1
  icombine HSI H4 gives %h4
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h1, Buf.eq_of_forall_mem_univ h4⟩
  · iexact HSI

def finalA (c : Dev nD) (w : Fin cfg0.W) : Buf (Elt F) ((cfg0.win w).arr.view.loc (c : Thread nD τ)) := (dats m ρ 0 c).arrAt w cfg0.N

set_option maxRecDepth 8000 in
/-- Every weakly fair execution of the program ends; then every device's arrays are at their computed contents, its
    weights unchanged, and every semaphore counter is at zero. -/
theorem run_arrays : θ_run defs (onTc (τ := τ) (main (F := F))) (s₀ m ρ) (fun r =>
    (∀ c : Dev nD, (∀ w : Fin cfg0.W, r.2.mem ((cfg0.win w).arr.view.loc (c : Thread nD τ)) = finalA m ρ c w) ∧ QY m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := Fin' m) (Z := fun _ => iprop(emp))
    (hX := start_intro m ρ) (hin := phi0_intro m ρ) (hout := phi1_exit m ρ)
    (QY := QY m)
    (hY := read_end m)
    (hQ := fun _ h hs => ⟨fun c => ⟨(h c).1, (h c).2.2⟩, sem_eq_zero hs fun c => (h c).2.2.1⟩)

end Cert.KProof

end
-- ==== Proof.Run.lean ====
/-
The run of the whole program, array by array, and the two frame claims about it.
-/
module

public import proofs.«01_k».proof.Proof.Launch
public import proofs.«01_k».proof.Defs
public import proofs.«01_k».proof.Proof.Gen.Kernel

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- The one block of window 0 is its whole array. -/
theorem blk_emb0 (i : (win0_0.xblock (grid0.coords (0 : Fin 1))).Idx) : (win0_0.blk (0 : Fin 1)).view.emb i = i := by
  funext a
  match a with
  | ⟨0, _⟩ => exact Fin.ext (show 0 * 2 + 1 * (i 0).val = (i 0).val by omega)
  | ⟨1, _⟩ => exact Fin.ext (show 0 * 128 + 1 * (i 1).val = (i 1).val by omega)
  | ⟨2, _⟩ => exact Fin.ext (show 0 * 512 + 1 * (i 2).val = (i 2).val by omega)
omit [FloatOps F] in
/-- The one block of the input is the whole input. -/
theorem blk_read0 (f : (main_arg0 : Ref sig .tc).ty.Contents (Elt F)) : (win0_0.blk (0 : Fin 1)).view.read (Elt F) f = f :=
  funext fun i => congrArg f (blk_emb0 i)
/-- The one block of window 1 is its whole array. -/
theorem blk_emb1 (i : (win0_1.xblock (grid0.coords (0 : Fin 1))).Idx) : (win0_1.blk (0 : Fin 1)).view.emb i = i := by
  funext a
  match a with
  | ⟨0, _⟩ => exact Fin.ext (show 0 * 2 + 1 * (i 0).val = (i 0).val by omega)
  | ⟨1, _⟩ => exact Fin.ext (show 0 * 128 + 1 * (i 1).val = (i 1).val by omega)
  | ⟨2, _⟩ => exact Fin.ext (show 0 * 4 + 1 * (i 2).val = (i 2).val by omega)
  | ⟨3, _⟩ => exact Fin.ext (show 0 * 64 + 1 * (i 3).val = (i 3).val by omega)
omit [FloatOps F] in
/-- The one block of the keys is the whole array. -/
theorem blk_read1 (f : (main_arg2 : Ref sig .tc).ty.Contents (Elt F)) : (win0_1.blk (0 : Fin 1)).view.read (Elt F) f = f :=
  funext fun i => congrArg f (blk_emb1 i)
/-- The one block of window 2 is its whole array. -/
theorem blk_emb2 (i : (win0_2.xblock (grid0.coords (0 : Fin 1))).Idx) : (win0_2.blk (0 : Fin 1)).view.emb i = i := by
  funext a
  match a with
  | ⟨0, _⟩ => exact Fin.ext (show 0 * 2 + 1 * (i 0).val = (i 0).val by omega)
  | ⟨1, _⟩ => exact Fin.ext (show 0 * 128 + 1 * (i 1).val = (i 1).val by omega)
  | ⟨2, _⟩ => exact Fin.ext (show 0 * 4 + 1 * (i 2).val = (i 2).val by omega)
  | ⟨3, _⟩ => exact Fin.ext (show 0 * 64 + 1 * (i 3).val = (i 3).val by omega)
omit [FloatOps F] in
/-- The one block of the values is the whole array. -/
theorem blk_read2 (f : (main_arg3 : Ref sig .tc).ty.Contents (Elt F)) : (win0_2.blk (0 : Fin 1)).view.read (Elt F) f = f :=
  funext fun i => congrArg f (blk_emb2 i)
/-- The one block of window 3 is its whole array. -/
theorem blk_emb3 (i : (win0_3.xblock (grid0.coords (0 : Fin 1))).Idx) : (win0_3.blk (0 : Fin 1)).view.emb i = i := by
  funext a
  match a with
  | ⟨0, _⟩ => exact Fin.ext (show 0 * 256 + 1 * (i 0).val = (i 0).val by omega)
  | ⟨1, _⟩ => exact Fin.ext (show 0 * 512 + 1 * (i 1).val = (i 1).val by omega)
omit [FloatOps F] in
/-- The one block of the result is the whole result. -/
theorem blk_read3 (f : (main_v1 : Ref sig .tc).ty.Contents (Elt F)) : (win0_3.blk (0 : Fin 1)).view.read (Elt F) f = f :=
  funext fun i => congrArg f (blk_emb3 i)

/-- What is written back is the result. -/
theorem flushed_eq (c : Dev nD) (t : Fin cfg0.N) :
    (dats m ρ 0 c).flushed (3 : Fin 4) t = ((cfg0.win (3 : Fin 4)).blk t).view.read (Elt F) (rC m) := by
  rw [fin_N t]
  exact (show (dats m ρ 0 c).flushed (3 : Fin 4) t₀ = rC m from rfl).trans (blk_read3 (rC m)).symm
/-- Every index of the result is written back. -/
theorem blk_cover (i : S256x512.Idx) : ∃ t : Fin cfg0.N, (cfg0.win (3 : Fin 4)).flush t = true ∧ i ∈ ((cfg0.win (3 : Fin 4)).blk t).view.set := by
  refine ⟨t₀, by decide, ?_⟩
  show i ∈ ((View.whole main_v1).slice (win0_3.rect t₀)).set
  rw [View.set_slice_whole, Rect.mem_set_unit]
  intro a
  have h0 : (i 0 : Nat) < 256 := (i 0).isLt
  have h1 : (i 1 : Nat) < 512 := (i 1).isLt
  match a with
  | ⟨0, _⟩ => show 0 * 256 ≤ (i 0 : Nat) ∧ (i 0 : Nat) < 0 * 256 + 256; omega
  | ⟨1, _⟩ => show 0 * 512 ≤ (i 1 : Nat) ∧ (i 1 : Nat) < 0 * 512 + 512; omega
/-- At the end the result array holds the result. -/
theorem final_v1 (c : Dev nD) : finalA m ρ c (3 : Fin 4) = rC m :=
  (dats m ρ 0 c).arrAt_eq_of_cover (3 : Fin 4) (rC m) (fun t _ => flushed_eq m ρ c t) blk_cover

/-- The program ends on every device with the reduced rows in its result array, its arguments unchanged, and every
    semaphore counter at zero. -/
theorem run_main : θ_run defs (onTc (τ := τ) (main (F := F))) (s₀ m ρ) (fun r =>
    (∀ c : Dev nD, r.2.mem ((c : Thread nD τ).loc main_v1) = rC m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => by
    have hA := (h.1 c).1
    exact ⟨(hA (3 : Fin 4)).trans (final_v1 m ρ c),
      (hA (0 : Fin 4)).trans ((dats (F := F) m ρ 0 c).arrAt_in (0 : Fin 4) rfl _),
      (h.1 c).2.2.1,
      (hA (1 : Fin 4)).trans ((dats (F := F) m ρ 0 c).arrAt_in (1 : Fin 4) rfl _),
      (hA (2 : Fin 4)).trans ((dats (F := F) m ρ 0 c).arrAt_in (2 : Fin 4) rfl _),
      (h.1 c).2.2.2⟩, h.2⟩) (run_arrays m ρ)

/-- The same, of the arguments and the semaphores alone. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => (h.1 c).2, h.2⟩) (run_main m ρ)

end Cert.KProof

end
-- ==== Proof.Frames.lean ====
/-
The two frame claims about the kernel: the program and its idealization have the same text, so one run serves both.
-/
module

public import proofs.«01_k».proof.Proof.Run

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

local notation "𝕄" => MT nD τ sig Unit (Elt F) ℕ UU ℕ

variable (m : (ℓ : Loc nD τ sig) → Buf (Elt F) ℓ) (ρ : Dev nD → PrngReg)

/-- The two programs have the same body table, ... -/
theorem body_table : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl
/-- ... so the same table of all labels. -/
theorem table : Cert.Kernel.defs (F := F) = Cert.KernelIdeal.defs (F := F) :=
  congrArg (Pipeline.defs pcfgs) body_table

/-- The run at any table that is the idealized program's. -/
theorem run_at (D) (h : D = defs (F := F)) : θ_run D (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  subst h; exact run_frame m ρ

/-- The idealized program ends, its arguments unchanged and every semaphore counter at zero. -/
theorem frame_ideal : Cert.quiescent_KernelIdeal := fun m ρ _ => run_frame (F := Ideal) m ρ
/-- So does the program itself, by the same run at float words. -/
theorem frame_kernel : Cert.quiescent_Kernel := fun m ρ _ => run_at (F := Bits) m ρ Cert.Kernel.defs table

end Cert.KProof

end
-- ==== Proof.Head.lean ====
/-
One head of the attention, read element by element: the kernel's vector operations are the plain formula.
-/
module

public import proofs.«01_k».proof.Proof.Vals
public import Idealize.ShloMosaic.Lib.Pointwise

@[expose] public section

noncomputable section

namespace Cert.KProof

open Cert.KernelIdeal Cert.KernelIdeal.Gen
open Idealize.ShloMosaic
open Idealize.ShloMosaic.TcCoe

/-! ## The plain formula -/

/-- The scaled scores of queries against keys. -/
def score (q k : Fin 128 → Fin 64 → EReal) (i j : Fin 128) : EReal :=
  (∑ d : Fin 64, q i d * k j d) * Ideal.ofBits .f32 0x3E000000#32

/-- The largest of a row. -/
def rowTop (s : Fin 128 → EReal) : EReal := Finset.univ.fold max (Ideal.ofBits .f32 0xFF800000#32) s

/-- The softmax of a row. -/
def soft (s : Fin 128 → EReal) (j : Fin 128) : EReal :=
  Ideal.div (Ideal.exp (s j - rowTop s)) (∑ l : Fin 128, Ideal.exp (s l - rowTop s))

/-- One head of the attention: the values weighted by the softmax of the scores. -/
def attn (q k v : Fin 128 → Fin 64 → EReal) (i : Fin 128) (d : Fin 64) : EReal :=
  ∑ j : Fin 128, soft (score q k i) j * v j d

/-! ## The kernel's operations -/

section
variable {F : FTy → Type} [FloatOps F]

/-- The scaled scores, as the kernel's operations. -/
def scoreV (q : FVec F S128x64 .bf16) (k : Vec F S1x128x1x64 .f32) : FVec F S128x128 .f32 :=
  mulf (matmul dot_S128x64_S128x64_S128x128_1_1_0_0_n_n none q
    (truncf .bf16 (shapeCast S128x64 k shapeCasts_S1x128x1x64_S128x64 : FVec F S128x64 .f32) bitsLt_bf16_f32)
    (constant S128x128 .f32 0x00000000#32)) (broadcast S128x128 (Scalar.ofBits .f32 0x3E000000#32 : F .f32))

/-- The row maxima, as the kernel's operations. -/
def topV (s : FVec F S128x128 .f32) : FVec F S128x1 .f32 :=
  shapeCast S128x1 (multiReduction .maximumf [1] S128 s 0xFF800000#32 reduces_S128x128_S128 (.inl rfl) rfl) shapeCasts_S128_S128x1

/-- The softmax of the rows, as the kernel's operations. -/
def softV (s : FVec F S128x128 .f32) (t : FVec F S128x1 .f32) : FVec F S128x128 .bf16 :=
  have e : FVec F S128x128 .f32 := exp (subf s (broadcastTo S128x128 t broadcasts_S128x1_S128x128))
  truncf .bf16 (divf e (broadcastTo S128x128
    (shapeCast S128x1 (multiReduction .add [1] S128 e 0x00000000#32 reduces_S128x128_S128 (.inl rfl) rfl) shapeCasts_S128_S128x1)
    broadcasts_S128x1_S128x128)) bitsLt_bf16_f32

/-- The weighted values, as the kernel's operations. -/
def ctxV (w : FVec F S128x128 .bf16) (v : Vec F S1x128x1x64 .f32) : FVec F S128x64 .bf16 :=
  truncf .bf16 (matmul dot_S128x128_S128x64_S128x64_1_0_0_1_n_n none w
    (truncf .bf16 (shapeCast S128x64 v shapeCasts_S1x128x1x64_S128x64 : FVec F S128x64 .f32) bitsLt_bf16_f32)
    (constant S128x64 .f32 0x00000000#32)) bitsLt_bf16_f32

/-- One head, as the kernel's operations. -/
def headV (q : FVec F S128x64 .bf16) (k v : Vec F S1x128x1x64 .f32) : FVec F S128x64 .bf16 :=
  ctxV (softV (scoreV q k) (topV (scoreV q k))) v

/-- A head's share of the output product. -/
def outV (h : FVec F S128x64 .bf16) (w : FVec F S64x512 .bf16) : FVec F S128x512 .f32 :=
  matmul dot_S128x64_S64x512_S128x512_1_0_0_1_n_n none h w (constant S128x512 .f32 0x00000000#32)

/-- The queries of one batch, as the kernel's operations. -/
def qV (w : FVec F S512x256 .bf16) (x : Vec F S1x128x512 .f32) : FVec F S128x256 .bf16 :=
  truncf .bf16 (matmul dot_S128x512_S512x256_S128x256_1_0_0_1_n_n none
    (truncf .bf16 (shapeCast S128x512 x shapeCasts_S1x128x512_S128x512 : FVec F S128x512 .f32) bitsLt_bf16_f32) w
    (constant S128x256 .f32 0x00000000#32)) bitsLt_bf16_f32

/-- One batch's rows of a device's partial result, as the kernel's operations. -/
def partV (wq : FVec F S512x256 .bf16) (wo : FVec F S256x512 .bf16) (x : Vec F S1x128x512 .f32)
    (k v : Fin 4 → Vec F S1x128x1x64 .f32) : FVec F S128x512 .bf16 :=
  have q : FVec F S128x256 .bf16 := qV wq x
  truncf .bf16
    (addf (addf (addf (addf (broadcast S128x512 (Scalar.ofBits .f32 0x00000000#32 : F .f32) : FVec F S128x512 .f32)
      (outV (headV (extractStridedSlice S128x64 ![0, 0] q slices_S128x256_o0_0_S128x64) (k 0) (v 0))
        (extractStridedSlice S64x512 ![0, 0] wo slices_S256x512_o0_0_S64x512)))
      (outV (headV (extractStridedSlice S128x64 ![0, 64] q slices_S128x256_o0_64_S128x64) (k 1) (v 1))
        (extractStridedSlice S64x512 ![64, 0] wo slices_S256x512_o64_0_S64x512)))
      (outV (headV (extractStridedSlice S128x64 ![0, 128] q slices_S128x256_o0_128_S128x64) (k 2) (v 2))
        (extractStridedSlice S64x512 ![128, 0] wo slices_S256x512_o128_0_S64x512)))
      (outV (headV (extractStridedSlice S128x64 ![0, 192] q slices_S128x256_o0_192_S128x64) (k 3) (v 3))
        (extractStridedSlice S64x512 ![192, 0] wo slices_S256x512_o192_0_S64x512))) bitsLt_bf16_f32

variable (m : (ℓ : Loc nD τ sig) → Buf (Elt F) ℓ)

/-- The first 128 rows of a device's partial result are the operations above on batch 0. -/
theorem part0_eq (c : Dev nD) : part0 m c = partV (w426 m c) (w428 m c) (xl m c 0) (kl m c 0) (vl m c 0) := rfl
/-- The last 128 rows are the operations above on batch 1. -/
theorem part1_eq (c : Dev nD) : part1 m c = partV (w426 m c) (w428 m c) (xl m c 1) (kl m c 1) (vl m c 1) := rfl
end

/-! ## Read at an index -/

/-- An entry of the kernel's score block is the scaled inner product of a query row and a key row. -/
theorem scoreV_apply (q : FVec Ideal S128x64 .bf16) (k : Vec Ideal S1x128x1x64 .f32) (i j : Fin 128) :
    scoreV q k (ix2 i j) = score (fun i d => q (ix2 i d)) (fun j d => k (ix4 0 j 0 d)) i j := by
  pointwise [scoreV, score]

/-- The kernel's row maximum is the maximum of that row of scores. -/
theorem topV_apply (s : FVec Ideal S128x128 .f32) (i : Fin 128) :
    topV s (ix2 i 0) = rowTop (fun j => s (ix2 i j)) := by
  pointwise [topV, rowTop]

/-- An entry of the kernel's weight block is the softmax of its row of scores. -/
theorem softV_apply (s : FVec Ideal S128x128 .f32) (t : FVec Ideal S128x1 .f32) (i j : Fin 128)
    (ht : t (ix2 i 0) = rowTop (fun j => s (ix2 i j))) :
    softV s t (ix2 i j) = soft (fun j => s (ix2 i j)) j := by
  pointwise [softV, soft]
  simp only [ht]

/-- An entry of the kernel's context block is the weighted sum of the value rows. -/
theorem ctxV_apply (w : FVec Ideal S128x128 .bf16) (v : Vec Ideal S1x128x1x64 .f32) (i : Fin 128) (d : Fin 64) :
    ctxV w v (ix2 i d) = ∑ j : Fin 128, w (ix2 i j) * v (ix4 0 j 0 d) := by
  pointwise [ctxV]

/-- One head as the kernel computes it is one head of attention. -/
theorem headV_apply (q : FVec Ideal S128x64 .bf16) (k v : Vec Ideal S1x128x1x64 .f32) (i : Fin 128) (d : Fin 64) :
    headV q k v (ix2 i d) = attn (fun i d => q (ix2 i d)) (fun j d => k (ix4 0 j 0 d)) (fun j d => v (ix4 0 j 0 d)) i d := by
  unfold headV attn
  rw [ctxV_apply]
  refine Finset.sum_congr rfl fun j _ => ?_
  rw [softV_apply _ _ _ _ (topV_apply _ _)]
  simp only [scoreV_apply]

/-- An entry of a head's projected output is the sum over the head's 64 columns. -/
theorem outV_apply (h : FVec Ideal S128x64 .bf16) (w : FVec Ideal S64x512 .bf16) (i : Fin 128) (n : Fin 512) :
    outV h w (ix2 i n) = ∑ d : Fin 64, h (ix2 i d) * w (ix2 d n) := by
  pointwise [outV]

/-- An entry of the kernel's query block is the sum over the 512 input columns. -/
theorem qV_apply (w : FVec Ideal S512x256 .bf16) (x : Vec Ideal S1x128x512 .f32) (i : Fin 128) (e : Fin 256) :
    qV w x (ix2 i e) = ∑ a : Fin 512, x (ix3 0 i a) * w (ix2 a e) := by
  pointwise [qV]

/-- Column `d` of head `h` among a device's 256 columns. -/
abbrev hcol (h : Fin 4) (d : Fin 64) : Fin 256 := ⟨64 * h.val + d.val, by omega⟩

/-- One batch's rows of a device's partial result: the sum over the four heads. -/
theorem partV_apply (wq : FVec Ideal S512x256 .bf16) (wo : FVec Ideal S256x512 .bf16) (x : Vec Ideal S1x128x512 .f32)
    (k v : Fin 4 → Vec Ideal S1x128x1x64 .f32) (i : Fin 128) (n : Fin 512) :
    partV wq wo x k v (ix2 i n) = ∑ h : Fin 4, ∑ d : Fin 64,
      attn (fun i d => ∑ a : Fin 512, x (ix3 0 i a) * wq (ix2 a (hcol h d)))
        (fun j d => k h (ix4 0 j 0 d)) (fun j d => v h (ix4 0 j 0 d)) i d * wo (ix2 (hcol h d) n) := by
  rw [Fin.sum_univ_four]
  pointwise [partV]
  simp only [outV_apply, headV_apply]
  pointwise
  simp only [qV_apply]
  have e0 : ∀ (d : Fin 64) (hd : d.val < 256), (⟨d.val, hd⟩ : Fin 256) = hcol 0 d := fun d _ => Fin.ext (by simp [hcol])
  simp only [e0]
  rfl

end Cert.KProof

end
-- ==== Proof.Total.lean ====
/-
The whole result, element by element: what each device computes of its own heads, summed over the devices, is the sum over
all the heads of the whole arrays.
-/
module

public import proofs.«01_k».proof.Proof.Head
public import proofs.«01_k».proof.Proof.Run
public import Idealize.ShloMosaic.Lib.Layout

@[expose] public section

noncomputable section

namespace Cert.KProof

open Cert.KernelIdeal Cert.KernelIdeal.Gen
open Idealize.ShloMosaic
open Idealize.ShloMosaic.TcCoe

/-! ## The formula over the whole arrays -/

abbrev SKV : Shape := ⟨4, ![2, 128, 128, 64]⟩

/-- Column `d` of head `h` among all 8192 columns. -/
abbrev col (h : Fin 128) (d : Fin 64) : Fin 8192 := ⟨h.val * 64 + d.val, by omega⟩
/-- Head `h` of device `c` among all 128 heads. -/
abbrev headOf (c : Fin 32) (h : Fin 4) : Fin 128 := ⟨c.val * 4 + h.val, by omega⟩
/-- Row `i` of batch `b` among the 256 rows. -/
abbrev rowB (b : Fin 2) (i : Fin 128) : Fin 256 := ⟨b.val * 128 + i.val, by omega⟩

/-- What one head adds to the result. -/
def headTerm (X : S2x128x512.Idx → EReal) (WQ : S512x8192.Idx → EReal) (K V : SKV.Idx → EReal) (WO : S8192x512.Idx → EReal)
    (b : Fin 2) (i : Fin 128) (n : Fin 512) (h : Fin 128) : EReal :=
  ∑ d : Fin 64, attn (fun i d => ∑ a : Fin 512, X (ix3 b i a) * WQ (ix2 a (col h d)))
    (fun j d => K (ix4 b j h d)) (fun j d => V (ix4 b j h d)) i d * WO (ix2 (col h d) n)

/-! ## What a device reads -/

section
variable {F : FTy → Type} [FloatOps F]
variable (m : (ℓ : Loc nD τ sig) → Buf (Elt F) ℓ)

/-- An entry of the input rows of batch b that a device loads. -/
theorem xl_apply (c : Dev nD) (b : Fin 2) (i : Fin 128) (a : Fin 512) :
    xl m c b (ix3 0 i a) = m ((c : Thread nD τ).loc main_arg0) (ix3 b i a) := by
  refine (congrFun (blk_read0 (F := F) (m ((c : Thread nD τ).loc main_arg0))) _).trans ?_
  refine congrArg _ (funext fun e => ?_)
  match e with
  | ⟨0, _⟩ => exact Fin.ext (show b.val + 1 * 0 = b.val by omega)
  | ⟨1, _⟩ => exact Fin.ext (show 0 + 1 * i.val = i.val by omega)
  | ⟨2, _⟩ => exact Fin.ext (show 0 + 1 * a.val = a.val by omega)

/-- An entry of the keys of one head that a device loads. -/
theorem kl_apply (c : Dev nD) (b : Fin 2) (h : Fin 4) (j : Fin 128) (d : Fin 64) :
    kl m c b h (ix4 0 j 0 d) = m ((c : Thread nD τ).loc main_arg2) (ix4 b j h d) := by
  refine (congrFun (blk_read1 (F := F) (m ((c : Thread nD τ).loc main_arg2))) _).trans ?_
  refine congrArg _ (funext fun e => ?_)
  match e with
  | ⟨0, _⟩ => exact Fin.ext (show b.val + 1 * 0 = b.val by omega)
  | ⟨1, _⟩ => exact Fin.ext (show 0 + 1 * j.val = j.val by omega)
  | ⟨2, _⟩ => exact Fin.ext (show h.val + 1 * 0 = h.val by omega)
  | ⟨3, _⟩ => exact Fin.ext (show 0 + 1 * d.val = d.val by omega)

/-- An entry of the values of one head that a device loads. -/
theorem vl_apply (c : Dev nD) (b : Fin 2) (h : Fin 4) (j : Fin 128) (d : Fin 64) :
    vl m c b h (ix4 0 j 0 d) = m ((c : Thread nD τ).loc main_arg3) (ix4 b j h d) := by
  refine (congrFun (blk_read2 (F := F) (m ((c : Thread nD τ).loc main_arg3))) _).trans ?_
  refine congrArg _ (funext fun e => ?_)
  match e with
  | ⟨0, _⟩ => exact Fin.ext (show b.val + 1 * 0 = b.val by omega)
  | ⟨1, _⟩ => exact Fin.ext (show 0 + 1 * j.val = j.val by omega)
  | ⟨2, _⟩ => exact Fin.ext (show h.val + 1 * 0 = h.val by omega)
  | ⟨3, _⟩ => exact Fin.ext (show 0 + 1 * d.val = d.val by omega)

/-- The copied query weights start at row 0. -/
theorem off1_0 : ∀ c : Dev nD, k0_off1 c 0 = 0 := by decide
/-- The query weights of device c start at column 256c. -/
theorem off1_1 : ∀ c : Dev nD, k0_off1 c 1 = 256 * c.val := by decide
/-- The output weights of device c start at row 256c. -/
theorem off2_0 : ∀ c : Dev nD, k0_off2 c 0 = 256 * c.val := by decide
/-- The copied output weights start at column 0. -/
theorem off2_1 : ∀ c : Dev nD, k0_off2 c 1 = 0 := by decide

/-- The query weights a device copies are the columns of its four heads. -/
theorem wqC_apply (c : Dev nD) (a : Fin 512) (h : Fin 4) (d : Fin 64) :
    wqC m c (ix2 a (hcol h d)) = m ((c : Thread nD τ).loc main_arg1) (ix2 a (col (headOf c h) d)) := by
  refine congrArg (m ((c : Thread nD τ).loc main_arg1)) (funext fun e => ?_)
  match e with
  | ⟨0, _⟩ => exact Fin.ext (show k0_off1 c 0 + 1 * a.val = a.val by rw [off1_0]; omega)
  | ⟨1, _⟩ => exact Fin.ext (show k0_off1 c 1 + 1 * (64 * h.val + d.val) = (c.val * 4 + h.val) * 64 + d.val by rw [off1_1]; omega)

/-- The output weights a device copies are the rows of its four heads. -/
theorem woC_apply (c : Dev nD) (n : Fin 512) (h : Fin 4) (d : Fin 64) :
    woC m c (ix2 (hcol h d) n) = m ((c : Thread nD τ).loc main_arg4) (ix2 (col (headOf c h) d) n) := by
  refine congrArg (m ((c : Thread nD τ).loc main_arg4)) (funext fun e => ?_)
  match e with
  | ⟨0, _⟩ => exact Fin.ext (show k0_off2 c 0 + 1 * (64 * h.val + d.val) = (c.val * 4 + h.val) * 64 + d.val by rw [off2_0]; omega)
  | ⟨1, _⟩ => exact Fin.ext (show k0_off2 c 1 + 1 * n.val = n.val by rw [off2_1]; omega)

/-- A segment in the receive buffer is its sender's rows of the partial result. -/
theorem seg_apply (d s : Dev nD) (x : S8x512.Idx) : seg m d s x = pC m s ((segR d).emb x) := cC_emb m d s x
end

/-! ## The sum over the devices -/

section
variable (m : (ℓ : Loc nD τ sig) → Buf (Elt Ideal) ℓ)

/-- A sum of 32 terms, written out. -/
theorem sum32 (f : Fin 32 → EReal) : ∑ s : Fin 32, f s =
    f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 + f 27 + f 28 + f 29 + f 30 + f 31 := by
  simp only [Fin.sum_univ_castSucc, Finset.univ_eq_empty, Finset.sum_empty, zero_add]
  rfl

/-- The rows a device reduces are the sum of the partial results of all devices. -/
theorem redV_apply (c : Dev nD) (x : S8x512.Idx) : redV m c x = ∑ s : Fin 32, pC m s ((segR c).emb x) := by
  rw [sum32]
  pointwise [redV, w931, w895, w859, k0_pay26, k0_pay25, k0_pay24, k0_pay23]
  simp only [seg_apply]

/-- An element of the whole result is the sum of the devices' partial results. -/
theorem rC_apply (i : S256x512.Idx) : rC m i = ∑ s : Fin 32, pC m s i := by
  unfold rC
  rw [redV_apply]
  refine Finset.sum_congr rfl fun s _ => congrArg (pC m s) (funext fun a => ?_)
  match a with
  | ⟨0, _⟩ => exact Fin.ext ((emb_seg0 _ _).trans (Nat.div_add_mod (i 0).val 8))
  | ⟨1, _⟩ => exact emb_seg1 _ _

/-- Row `i` of batch `b` of a device's partial result. -/
theorem pC_apply (c : Dev nD) (b : Fin 2) (i : Fin 128) (n : Fin 512) :
    pC m c (ix2 (rowB b i) n) = partV (w426 m c) (w428 m c) (xl m c b) (kl m c b) (vl m c b) (ix2 i n) := by
  match b with
  | ⟨0, _⟩ =>
    have h : (0 * 128 + i.val) < 128 := by omega
    refine (dif_pos (show (rowB 0 i).val < 128 from h)).trans ?_
    rw [part0_eq]
    refine congrArg (partV (w426 m c) (w428 m c) (xl m c 0) (kl m c 0) (vl m c 0)) (funext fun a => ?_)
    match a with
    | ⟨0, _⟩ => exact Fin.ext (show 0 * 128 + i.val = i.val by omega)
    | ⟨1, _⟩ => rfl
  | ⟨1, _⟩ =>
    have h : ¬ (1 * 128 + i.val) < 128 := by omega
    refine (dif_neg (show ¬ (rowB 1 i).val < 128 from h)).trans ?_
    rw [part1_eq]
    refine congrArg (partV (w426 m c) (w428 m c) (xl m c 1) (kl m c 1) (vl m c 1)) (funext fun a => ?_)
    match a with
    | ⟨0, _⟩ => exact Fin.ext (show 1 * 128 + i.val - 128 = i.val by omega)
    | ⟨1, _⟩ => rfl

/-- The query weights as loaded are the copied ones. -/
theorem w426_eq (c : Dev nD) : w426 m c = wqC m c := rfl
/-- The output weights as loaded are the copied ones. -/
theorem w428_eq (c : Dev nD) : w428 m c = woC m c := rfl

/-- The keys or values of device c are those of its four heads. -/
theorem block_kv (c : Fin 32) (K : SKV.Idx → EReal) (b : Fin 2) (j : Fin 128) (h : Fin 4) (d : Fin 64) :
    Layout.block ⟨4, ![2, 128, 4, 64]⟩ ⟨4, ![2, 128, 128, 64]⟩ 2 32 c K (by decide) (ix4 b j h d) = K (ix4 b j (headOf c h) d) := by
  refine congrArg K (funext fun e => ?_)
  match e with
  | ⟨0, _⟩ => rfl
  | ⟨1, _⟩ => rfl
  | ⟨2, _⟩ => rfl
  | ⟨3, _⟩ => rfl

variable (X : S2x128x512.Idx → EReal) (WQ : S512x8192.Idx → EReal) (K V : SKV.Idx → EReal) (WO : S8192x512.Idx → EReal)

/-- An element of the whole result is the sum over all 128 heads of the whole arrays. -/
theorem rC_total
    (h0 : ∀ c : Dev nD, m ((c : Thread nD τ).loc main_arg0) = X) (h1 : ∀ c : Dev nD, m ((c : Thread nD τ).loc main_arg1) = WQ)
    (h2 : ∀ c : Dev nD, m ((c : Thread nD τ).loc main_arg2) = Layout.block ⟨4, ![2, 128, 4, 64]⟩ ⟨4, ![2, 128, 128, 64]⟩ 2 32 c K)
    (h3 : ∀ c : Dev nD, m ((c : Thread nD τ).loc main_arg3) = Layout.block ⟨4, ![2, 128, 4, 64]⟩ ⟨4, ![2, 128, 128, 64]⟩ 2 32 c V)
    (h4 : ∀ c : Dev nD, m ((c : Thread nD τ).loc main_arg4) = WO)
    (b : Fin 2) (i : Fin 128) (n : Fin 512) :
    rC m (ix2 (rowB b i) n) = ∑ h : Fin 128, headTerm X WQ K V WO b i n h := by
  rw [rC_apply, Fin.sum_univ_tiles (N := 128) 32 4 (by decide)]
  refine Finset.sum_congr rfl fun c _ => ?_
  rw [pC_apply, partV_apply]
  refine Finset.sum_congr rfl fun h _ => ?_
  show _ = headTerm X WQ K V WO b i n (headOf c h)
  unfold headTerm
  simp only [w426_eq, w428_eq, xl_apply, kl_apply, vl_apply, wqC_apply, woC_apply, h0, h1, h2, h3, h4, block_kv]
end

end Cert.KProof

end
-- ==== Proof.Plain.lean ====
/-
The reference's result, element by element: the sum over all the heads of the whole arrays.
-/
module

public import proofs.«01_k».proof.Proof.Gen.ReferenceIdeal.Run
public import proofs.«01_k».proof.Proof.Total

@[expose] public section

noncomputable section

namespace Cert.KProof.Plain

open Cert.ReferenceIdeal Cert.ReferenceIdeal.Gen
open Idealize.ShloMosaic
open Idealize.ShloMosaic.TcCoe
open Cert.KProof (score rowTop soft attn headTerm col rowB)

/-! ## The reference, step by step -/

/-- Which keys a query sees. -/
def maskR : IVec S128x128 1 :=
  ori (cmpi .sle (absi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
      (broadcastInDim S128x128 ![] bcast_S_S128x128 (constantI S_ 32 128#32)))
    (ori (broadcastInDim S128x128 ![0, 1] bcast_S1x128_S128x128_0_1 (cmpi .slt (broadcastInDim S1x128 ![1] bcast_S128_S1x128_1 (iotaInDim S128 32 0))
        (broadcastInDim S1x128 ![] bcast_S_S1x128 (constantI S_ 32 32#32))))
      (broadcastInDim S128x128 ![0, 1] bcast_S128x1_S128x128_0_1 (cmpi .slt (broadcastInDim S128x1 ![0] bcast_S128_S128x1_0 (iotaInDim S128 32 0))
        (broadcastInDim S128x1 ![] bcast_S_S128x1 (constantI S_ 32 32#32)))))

/-- Which queries see any key. -/
def keepR : IVec S128 1 := Host.reduce IntOp.ori maskR (constantI S_ 1 0#1) reducesTo_S128x128_S128_d1 h_S_

/-- The queries. -/
def qR (X : FVec Ideal S2x128x512 .f32) (WQ : FVec Ideal S512x8192 .f32) : FVec Ideal S2x128x128x64 .f32 :=
  shapeCast _ (Host.dotGeneral dot_S2x128x512_S512x8192_S2x128x8192_2_0_01_1_n_n none X WQ : FVec Ideal S2x128x8192 .f32)
    shapeCasts_S2x128x8192_S2x128x128x64

/-- The masked scores. -/
def scoreR (q k : FVec Ideal S2x128x128x64 .f32) : FVec Ideal S2x128x128x128 .f32 :=
  select (broadcastInDim S2x128x128x128 ![0, 1, 2, 3] bcast_S1x1x128x128_S2x128x128x128_0_1_2_3
      (broadcastInDim S1x1x128x128 ![2, 3] bcast_S128x128_S1x1x128x128_2_3 maskR))
    (mulf (Host.dotGeneral dot_S2x128x128x64_S2x128x128x64_S2x128x128x128_3_3_1_1_02_02 none q k)
      (broadcastInDim S2x128x128x128 ![] bcast_S_S2x128x128x128 (constant S_ .f32 0x3E000000#32)))
    (broadcastInDim S2x128x128x128 ![] bcast_S_S2x128x128x128 (id (constant S_ .f32 0xCE6E6B28#32)))

/-- The exponentials, each row shifted by its maximum. -/
def expR (s : FVec Ideal S2x128x128x128 .f32) : FVec Ideal S2x128x128x128 .f32 :=
  Host.exp (subf s (broadcastInDim S2x128x128x128 ![0, 1, 2, 3] bcast_S2x128x128x1_S2x128x128x128_0_1_2_3
    (broadcastInDim S2x128x128x1 ![0, 1, 2] bcast_S2x128x128_S2x128x128x1_0_1_2
      (Host.reduce FloatOps.maximumf s (constant S_ .f32 0xFF800000#32) reducesTo_S2x128x128x128_S2x128x128_d3 h_S_))))

/-- The weights. -/
def weightR (e : FVec Ideal S2x128x128x128 .f32) : FVec Ideal S2x128x128x128 .f32 :=
  select (broadcastInDim S2x128x128x128 ![0, 1, 2, 3] bcast_S1x1x128x1_S2x128x128x128_0_1_2_3
      (broadcastInDim S1x1x128x1 ![2] bcast_S128_S1x1x128x1_2 keepR))
    (Host.divf e (broadcastInDim S2x128x128x128 ![0, 1, 2, 3] bcast_S2x128x128x1_S2x128x128x128_0_1_2_3
      (select (broadcastInDim S2x128x128x1 ![0, 1, 2, 3] bcast_S1x1x128x1_S2x128x128x1_0_1_2_3
          (broadcastInDim S1x1x128x1 ![2] bcast_S128_S1x1x128x1_2 keepR))
        (broadcastInDim S2x128x128x1 ![0, 1, 2] bcast_S2x128x128_S2x128x128x1_0_1_2
          (Host.reduceAdd e (constant S_ .f32 0x00000000#32) reducesTo_S2x128x128x128_S2x128x128_d3 h_S_))
        (broadcastInDim S2x128x128x1 ![] bcast_S_S2x128x128x1 (id (constant S_ .f32 0x3F800000#32))))))
    (broadcastInDim S2x128x128x128 ![] bcast_S_S2x128x128x128 (id (constant S_ .f32 0x00000000#32)))

/-- The weighted values, a row of all the heads for each query. -/
def ctxR (w : FVec Ideal S2x128x128x128 .f32) (v : FVec Ideal S2x128x128x64 .f32) : FVec Ideal S2x128x8192 .f32 :=
  shapeCast _ (transpose S2x128x128x64 [0, 3, 1, 2]
    (Host.dotGeneral dot_S2x128x128x64_S2x128x128x128_S2x128x64x128_1_3_3_2_02_01 none v w : FVec Ideal S2x128x64x128 .f32)
    transposes_S2x128x64x128_S2x128x128x64_0_3_1_2) shapeCasts_S2x128x128x64_S2x128x8192

/-- The output product. -/
def outR (x : FVec Ideal S2x128x8192 .f32) (WO : FVec Ideal S8192x512 .f32) : FVec Ideal S256x512 .bf16 :=
  truncf .bf16 (shapeCast _ (Host.dotGeneral dot_S2x128x8192_S8192x512_S2x128x512_2_0_01_1_n_n none x WO : FVec Ideal S2x128x512 .f32)
    shapeCasts_S2x128x512_S256x512) bitsLt_bf16_f32

/-- The reference's result is these steps, one after the other. -/
theorem res_eq (m : (ℓ : Loc nD τ sig) → Buf (Elt Ideal) ℓ) (c : Dev nD) :
    Value.res_main_v44 m c = outR (ctxR (weightR (expR (scoreR
        (qR (m ((c.tc : Thread nD τ).loc main_arg0)) (m ((c.tc : Thread nD τ).loc main_arg1)))
        (m ((c.tc : Thread nD τ).loc main_arg2))))) (m ((c.tc : Thread nD τ).loc main_arg3)))
      (m ((c.tc : Thread nD τ).loc main_arg4)) := rfl

/-! ## The mask is true everywhere -/

/-- Two positions below 128 are less than 128 apart. -/
theorem mask_word : ∀ i j : Fin 128,
    IntOp.ori (IntOp.cmpi CmpIPredicate.sle (IntOp.absi (IntOp.subi (BitVec.ofNat 32 i.val) (BitVec.ofNat 32 j.val))) 128#32)
      (IntOp.ori (IntOp.cmpi CmpIPredicate.slt (BitVec.ofNat 32 j.val) 32#32)
        (IntOp.cmpi CmpIPredicate.slt (BitVec.ofNat 32 i.val) 32#32)) = 1#1 := by
  decide +kernel

/-- Every entry of the reference's mask is true. -/
theorem maskR_apply (i j : Fin 128) : maskR (ix2 i j) = 1#1 := by
  pointwise [maskR]
  exact mask_word i j

/-- Every row of the reference's mask keeps some entry. -/
theorem keepR_apply (i : Fin 128) : keepR (ix1 i) = 1#1 := by
  pointwise [keepR]
  simp only [maskR_apply]
  have h1 : ∀ x : BitVec 1, IntOp.ori 1#1 x = 1#1 := by decide
  rw [← Finset.insert_erase (Finset.mem_univ (0 : Fin 128)), Finset.fold_insert (Finset.notMem_erase _ _)]
  exact h1 _

/-! ## Read at an index -/

/-- An entry of the reference's queries is the sum over the 512 input columns. -/
theorem qR_apply (X : FVec Ideal S2x128x512 .f32) (WQ : FVec Ideal S512x8192 .f32) (b : Fin 2) (i h : Fin 128) (d : Fin 64) :
    qR X WQ (ix4 b i h d) = ∑ a : Fin 512, X (ix3 b i a) * WQ (ix2 a (col h d)) := by
  pointwise [qR]

/-- An entry of the reference's scores is the scaled inner product of a query row and a key row. -/
theorem scoreR_apply (q k : FVec Ideal S2x128x128x64 .f32) (b : Fin 2) (h i j : Fin 128) :
    scoreR q k (ix4 b h i j) = score (fun i d => q (ix4 b i h d)) (fun j d => k (ix4 b j h d)) i j := by
  pointwise [scoreR, score]
  simp only [maskR_apply]
  rfl

/-- An entry of the reference's weights is the softmax of its row of scores. -/
theorem weightR_apply (s : FVec Ideal S2x128x128x128 .f32) (b : Fin 2) (h i j : Fin 128) :
    weightR (expR s) (ix4 b h i j) = soft (fun j => s (ix4 b h i j)) j := by
  pointwise [weightR, expR, soft, rowTop]
  simp only [keepR_apply]
  rfl

/-- An entry of the reference's context is the weighted sum of the value rows of its head. -/
theorem ctxR_apply (w : FVec Ideal S2x128x128x128 .f32) (v : FVec Ideal S2x128x128x64 .f32) (b : Fin 2) (i h : Fin 128) (d : Fin 64) :
    ctxR w v (ix3 b i (col h d)) = ∑ j : Fin 128, w (ix4 b h i j) * v (ix4 b j h d) := by
  pointwise [ctxR]
  have e0 : ∀ hh, (⟨(h.val * 64 + d.val) / 64, hh⟩ : Fin 128) = h := fun _ => Fin.ext (by show (h.val * 64 + d.val) / 64 = h.val; omega)
  have e1 : ∀ hh, (⟨(h.val * 64 + d.val) % 64, hh⟩ : Fin 64) = d := fun _ => Fin.ext (by show (h.val * 64 + d.val) % 64 = d.val; omega)
  simp only [e0, e1]
  exact Finset.sum_congr rfl fun _ _ => mul_comm _ _

/-- An entry of the reference's result is the sum over all the context columns. -/
theorem outR_apply (x : FVec Ideal S2x128x8192 .f32) (WO : FVec Ideal S8192x512 .f32) (b : Fin 2) (i : Fin 128) (n : Fin 512) :
    outR x WO (ix2 (rowB b i) n) = ∑ e : Fin 8192, x (ix3 b i e) * WO (ix2 e n) := by
  pointwise [outR]
  have e0 : ∀ hh, (⟨(b.val * 128 + i.val) / 128, hh⟩ : Fin 2) = b := fun _ => Fin.ext (by show (b.val * 128 + i.val) / 128 = b.val; omega)
  have e1 : ∀ hh, (⟨(b.val * 128 + i.val) % 128, hh⟩ : Fin 128) = i := fun _ => Fin.ext (by show (b.val * 128 + i.val) % 128 = i.val; omega)
  simp only [e0, e1]

/-! ## The whole result -/

/-- An element of the reference's result is the sum over all 128 heads. -/
theorem res_total (X : FVec Ideal S2x128x512 .f32) (WQ : FVec Ideal S512x8192 .f32) (K V : FVec Ideal S2x128x128x64 .f32)
    (WO : FVec Ideal S8192x512 .f32) (b : Fin 2) (i : Fin 128) (n : Fin 512) :
    outR (ctxR (weightR (expR (scoreR (qR X WQ) K))) V) WO (ix2 (rowB b i) n)
      = ∑ h : Fin 128, headTerm X WQ K V WO b i n h := by
  rw [outR_apply, Fin.sum_univ_tiles (N := 8192) 128 64 (by decide)]
  refine Finset.sum_congr rfl fun h _ => Finset.sum_congr rfl fun d _ => ?_
  refine congrArg (· * WO (ix2 (col h d) n)) ((ctxR_apply _ _ _ _ _ _).trans ?_)
  refine Finset.sum_congr rfl fun j _ => ?_
  rw [weightR_apply]
  simp only [scoreR_apply, qR_apply]

end Cert.KProof.Plain

end
-- ==== Proof.Equal.lean ====
/-
Kernel and reference end with the same result on every device.
-/
module

public import proofs.«01_k».proof.Proof.Plain
public import proofs.«01_k».proof.Defs

@[expose] public section

noncomputable section

namespace Cert.KProof

open Idealize.ShloMosaic Idealize.SL.Sem
open Idealize.ShloMosaic.TcCoe

/-- Every row of the result is a row of one of the two batches. -/
theorem row_split (i : (⟨2, ![256, 512]⟩ : Shape).Idx) :
    i = ix2 (rowB ⟨(i 0).val / 128, by have : (i 0).val < 256 := (i 0).isLt; omega⟩ ⟨(i 0).val % 128, Nat.mod_lt _ (by decide)⟩) (i 1) := by
  funext a
  match a with
  | ⟨0, _⟩ => exact Fin.ext (Nat.div_add_mod' (i 0).val 128).symm
  | ⟨1, _⟩ => rfl

/-- The kernel's result is the reference's, where the devices hold their parts of the reference's arrays. -/
theorem rC_res (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (X : FVec Ideal Cert.ReferenceIdeal.S2x128x512 .f32) (WQ : FVec Ideal Cert.ReferenceIdeal.S512x8192 .f32)
    (K V : FVec Ideal Cert.ReferenceIdeal.S2x128x128x64 .f32) (WO : FVec Ideal Cert.ReferenceIdeal.S8192x512 .f32)
    (h0 : ∀ c : Dev Cert.KernelIdeal.nD, m ((c.tc : Thread Cert.KernelIdeal.nD Cert.KernelIdeal.τ).loc Cert.KernelIdeal.main_arg0) = X)
    (h1 : ∀ c : Dev Cert.KernelIdeal.nD, m ((c.tc : Thread Cert.KernelIdeal.nD Cert.KernelIdeal.τ).loc Cert.KernelIdeal.main_arg1) = WQ)
    (h2 : ∀ c : Dev Cert.KernelIdeal.nD, m ((c.tc : Thread Cert.KernelIdeal.nD Cert.KernelIdeal.τ).loc Cert.KernelIdeal.main_arg2)
      = Layout.block ⟨4, ![2, 128, 4, 64]⟩ ⟨4, ![2, 128, 128, 64]⟩ 2 32 c K)
    (h3 : ∀ c : Dev Cert.KernelIdeal.nD, m ((c.tc : Thread Cert.KernelIdeal.nD Cert.KernelIdeal.τ).loc Cert.KernelIdeal.main_arg3)
      = Layout.block ⟨4, ![2, 128, 4, 64]⟩ ⟨4, ![2, 128, 128, 64]⟩ 2 32 c V)
    (h4 : ∀ c : Dev Cert.KernelIdeal.nD, m ((c.tc : Thread Cert.KernelIdeal.nD Cert.KernelIdeal.τ).loc Cert.KernelIdeal.main_arg4) = WO) :
    rC m = Plain.outR (Plain.ctxR (Plain.weightR (Plain.expR (Plain.scoreR (Plain.qR X WQ) K))) V) WO := by
  funext i
  rw [row_split i]
  exact (rC_total m X WQ K V WO h0 h1 h2 h3 h4 _ _ _).trans (Plain.res_total X WQ K V WO _ _ _).symm

/-- Over the extended reals the kernel and the reference compute the same function. -/
theorem algebraic : Cert.algebraic_KernelIdeal_ReferenceIdeal := fun m g m' g' _ hm =>
  ⟨Cert.ReferenceIdeal.Value.res_main_v44 m' 0,
    (θ_run Cert.KernelIdeal.defs _ _).mono
      (fun r h c => ⟨(h.1 c).1.trans ((rC_res m m' _ _ _ _ _ (fun c => (hm c).1) (fun c => (hm c).2.1) (fun c => (hm c).2.2.1)
        (fun c => (hm c).2.2.2.1) (fun c => (hm c).2.2.2.2)).trans (Plain.res_eq m' 0).symm), (h.1 c).2⟩)
      (run_main (F := Ideal) m g),
    (θ_run Cert.ReferenceIdeal.defs _ _).mono (fun r h => h 0) (Cert.ReferenceIdeal.Value.run (F := Ideal) m' g')⟩

end Cert.KProof

end
-- ==== Proof.lean ====
/-
The proof of `Cert.Claim`: the frames of the kernel, of its idealized text and of the reference, and what they compute.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and leaves its arguments and every semaphore counter as they were. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- All the claims. -/
theorem claim : Cert.Claim :=
  ⟨Cert.Kernel.Gen.facts, Cert.KernelIdeal.Gen.facts, Cert.ReferenceIdeal.Gen.facts,
    Cert.KProof.frame_kernel, Cert.KProof.frame_ideal, frame_reference, trivial, Cert.KProof.algebraic⟩

end Cert.Proof

end
